-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3)
      ∧ r.2.mem ((c.tc : Thread Cert.Memkv.nD Cert.Memkv.τ).loc Cert.Memkv.main_arg4) = m ((c.tc : Thread Cert.Memkv.nD Cert.Memkv.τ).loc Cert.Memkv.main_arg4)
      ∧ r.2.mem ((c.tc : Thread Cert.Memkv.nD Cert.Memkv.τ).loc Cert.Memkv.main_arg5) = m ((c.tc : Thread Cert.Memkv.nD Cert.Memkv.τ).loc Cert.Memkv.main_arg5)
      ∧ r.2.mem ((c.tc : Thread Cert.Memkv.nD Cert.Memkv.τ).loc Cert.Memkv.main_arg6) = m ((c.tc : Thread Cert.Memkv.nD Cert.Memkv.τ).loc Cert.Memkv.main_arg6)
      ∧ r.2.mem ((c.tc : Thread Cert.Memkv.nD Cert.Memkv.τ).loc Cert.Memkv.main_arg7) = m ((c.tc : Thread Cert.Memkv.nD Cert.Memkv.τ).loc Cert.Memkv.main_arg7))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3)
      ∧ r.2.mem ((c.tc : Thread Cert.MemkvIdeal.nD Cert.MemkvIdeal.τ).loc Cert.MemkvIdeal.main_arg4) = m ((c.tc : Thread Cert.MemkvIdeal.nD Cert.MemkvIdeal.τ).loc Cert.MemkvIdeal.main_arg4)
      ∧ r.2.mem ((c.tc : Thread Cert.MemkvIdeal.nD Cert.MemkvIdeal.τ).loc Cert.MemkvIdeal.main_arg5) = m ((c.tc : Thread Cert.MemkvIdeal.nD Cert.MemkvIdeal.τ).loc Cert.MemkvIdeal.main_arg5)
      ∧ r.2.mem ((c.tc : Thread Cert.MemkvIdeal.nD Cert.MemkvIdeal.τ).loc Cert.MemkvIdeal.main_arg6) = m ((c.tc : Thread Cert.MemkvIdeal.nD Cert.MemkvIdeal.τ).loc Cert.MemkvIdeal.main_arg6)
      ∧ r.2.mem ((c.tc : Thread Cert.MemkvIdeal.nD Cert.MemkvIdeal.τ).loc Cert.MemkvIdeal.main_arg7) = m ((c.tc : Thread Cert.MemkvIdeal.nD Cert.MemkvIdeal.τ).loc Cert.MemkvIdeal.main_arg7))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2)
      ∧ r.2.mem ((c.tc : Thread Cert.MemkvReferenceIdeal.nD Cert.MemkvReferenceIdeal.τ).loc Cert.MemkvReferenceIdeal.main_arg3) = m ((c.tc : Thread Cert.MemkvReferenceIdeal.nD Cert.MemkvReferenceIdeal.τ).loc Cert.MemkvReferenceIdeal.main_arg3)
      ∧ r.2.mem ((c.tc : Thread Cert.MemkvReferenceIdeal.nD Cert.MemkvReferenceIdeal.τ).loc Cert.MemkvReferenceIdeal.main_arg4) = m ((c.tc : Thread Cert.MemkvReferenceIdeal.nD Cert.MemkvReferenceIdeal.τ).loc Cert.MemkvReferenceIdeal.main_arg4)
      ∧ r.2.mem ((c.tc : Thread Cert.MemkvReferenceIdeal.nD Cert.MemkvReferenceIdeal.τ).loc Cert.MemkvReferenceIdeal.main_arg5) = m ((c.tc : Thread Cert.MemkvReferenceIdeal.nD Cert.MemkvReferenceIdeal.τ).loc Cert.MemkvReferenceIdeal.main_arg5)
      ∧ r.2.mem ((c.tc : Thread Cert.MemkvReferenceIdeal.nD Cert.MemkvReferenceIdeal.τ).loc Cert.MemkvReferenceIdeal.main_arg6) = m ((c.tc : Thread Cert.MemkvReferenceIdeal.nD Cert.MemkvReferenceIdeal.τ).loc Cert.MemkvReferenceIdeal.main_arg6)
      ∧ r.2.mem ((c.tc : Thread Cert.MemkvReferenceIdeal.nD Cert.MemkvReferenceIdeal.τ).loc Cert.MemkvReferenceIdeal.main_arg7) = m ((c.tc : Thread Cert.MemkvReferenceIdeal.nD Cert.MemkvReferenceIdeal.τ).loc Cert.MemkvReferenceIdeal.main_arg7))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v58_1)) (v1 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_1) = v0 c
          ∧ r.2.mem ((c.tc : Thread Cert.KernelIdeal.nD Cert.KernelIdeal.τ).loc Cert.KernelIdeal.main_v58_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v62) = v0 c
          ∧ r.2.mem ((c.tc : Thread Cert.FfnReferenceIdeal.nD Cert.FfnReferenceIdeal.τ).loc Cert.FfnReferenceIdeal.main_v63) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)
      ∧ m' ((c.tc : Thread Cert.MemkvReferenceIdeal.nD Cert.MemkvReferenceIdeal.τ).loc Cert.MemkvReferenceIdeal.main_arg3) = m ((c.tc : Thread Cert.MemkvIdeal.nD Cert.MemkvIdeal.τ).loc Cert.MemkvIdeal.main_arg3)
      ∧ m' ((c.tc : Thread Cert.MemkvReferenceIdeal.nD Cert.MemkvReferenceIdeal.τ).loc Cert.MemkvReferenceIdeal.main_arg4) = m ((c.tc : Thread Cert.MemkvIdeal.nD Cert.MemkvIdeal.τ).loc Cert.MemkvIdeal.main_arg4)
      ∧ m' ((c.tc : Thread Cert.MemkvReferenceIdeal.nD Cert.MemkvReferenceIdeal.τ).loc Cert.MemkvReferenceIdeal.main_arg5) = m ((c.tc : Thread Cert.MemkvIdeal.nD Cert.MemkvIdeal.τ).loc Cert.MemkvIdeal.main_arg5)
      ∧ m' ((c.tc : Thread Cert.MemkvReferenceIdeal.nD Cert.MemkvReferenceIdeal.τ).loc Cert.MemkvReferenceIdeal.main_arg6) = m ((c.tc : Thread Cert.MemkvIdeal.nD Cert.MemkvIdeal.τ).loc Cert.MemkvIdeal.main_arg6)
      ∧ m' ((c.tc : Thread Cert.MemkvReferenceIdeal.nD Cert.MemkvReferenceIdeal.τ).loc Cert.MemkvReferenceIdeal.main_arg7) = m ((c.tc : Thread Cert.MemkvIdeal.nD Cert.MemkvIdeal.τ).loc Cert.MemkvIdeal.main_arg7)) →
    ∃ (v0 : (c : Dev Cert.MemkvIdeal.nD) → Buf (Elt Ideal) ((c.tc : Thread Cert.MemkvIdeal.nD Cert.MemkvIdeal.τ).loc Cert.MemkvIdeal.main_v30_0)) (v1 : (c : Dev Cert.MemkvIdeal.nD) → Buf (Elt Ideal) ((c.tc : Thread Cert.MemkvIdeal.nD Cert.MemkvIdeal.τ).loc Cert.MemkvIdeal.main_v30_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v30_0) = v0 c
          ∧ r.2.mem ((c.tc : Thread Cert.MemkvIdeal.nD Cert.MemkvIdeal.τ).loc Cert.MemkvIdeal.main_v30_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3)
          ∧ r.2.mem ((c.tc : Thread Cert.MemkvIdeal.nD Cert.MemkvIdeal.τ).loc Cert.MemkvIdeal.main_arg4) = m ((c.tc : Thread Cert.MemkvIdeal.nD Cert.MemkvIdeal.τ).loc Cert.MemkvIdeal.main_arg4)
          ∧ r.2.mem ((c.tc : Thread Cert.MemkvIdeal.nD Cert.MemkvIdeal.τ).loc Cert.MemkvIdeal.main_arg5) = m ((c.tc : Thread Cert.MemkvIdeal.nD Cert.MemkvIdeal.τ).loc Cert.MemkvIdeal.main_arg5)
          ∧ r.2.mem ((c.tc : Thread Cert.MemkvIdeal.nD Cert.MemkvIdeal.τ).loc Cert.MemkvIdeal.main_arg6) = m ((c.tc : Thread Cert.MemkvIdeal.nD Cert.MemkvIdeal.τ).loc Cert.MemkvIdeal.main_arg6)
          ∧ r.2.mem ((c.tc : Thread Cert.MemkvIdeal.nD Cert.MemkvIdeal.τ).loc Cert.MemkvIdeal.main_arg7) = m ((c.tc : Thread Cert.MemkvIdeal.nD Cert.MemkvIdeal.τ).loc Cert.MemkvIdeal.main_arg7))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v1) = v0 c
          ∧ r.2.mem ((c.tc : Thread Cert.MemkvReferenceIdeal.nD Cert.MemkvReferenceIdeal.τ).loc Cert.MemkvReferenceIdeal.main_v3) = v1 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2)
          ∧ r.2.mem ((c.tc : Thread Cert.MemkvReferenceIdeal.nD Cert.MemkvReferenceIdeal.τ).loc Cert.MemkvReferenceIdeal.main_arg3) = m' ((c.tc : Thread Cert.MemkvReferenceIdeal.nD Cert.MemkvReferenceIdeal.τ).loc Cert.MemkvReferenceIdeal.main_arg3)
          ∧ r.2.mem ((c.tc : Thread Cert.MemkvReferenceIdeal.nD Cert.MemkvReferenceIdeal.τ).loc Cert.MemkvReferenceIdeal.main_arg4) = m' ((c.tc : Thread Cert.MemkvReferenceIdeal.nD Cert.MemkvReferenceIdeal.τ).loc Cert.MemkvReferenceIdeal.main_arg4)
          ∧ r.2.mem ((c.tc : Thread Cert.MemkvReferenceIdeal.nD Cert.MemkvReferenceIdeal.τ).loc Cert.MemkvReferenceIdeal.main_arg5) = m' ((c.tc : Thread Cert.MemkvReferenceIdeal.nD Cert.MemkvReferenceIdeal.τ).loc Cert.MemkvReferenceIdeal.main_arg5)
          ∧ r.2.mem ((c.tc : Thread Cert.MemkvReferenceIdeal.nD Cert.MemkvReferenceIdeal.τ).loc Cert.MemkvReferenceIdeal.main_arg6) = m' ((c.tc : Thread Cert.MemkvReferenceIdeal.nD Cert.MemkvReferenceIdeal.τ).loc Cert.MemkvReferenceIdeal.main_arg6)
          ∧ r.2.mem ((c.tc : Thread Cert.MemkvReferenceIdeal.nD Cert.MemkvReferenceIdeal.τ).loc Cert.MemkvReferenceIdeal.main_arg7) = m' ((c.tc : Thread Cert.MemkvReferenceIdeal.nD Cert.MemkvReferenceIdeal.τ).loc Cert.MemkvReferenceIdeal.main_arg7))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)) →
    ∃ (v0 : (c : Dev Cert.FfnSampleIdeal.nD) → Buf (Elt Ideal) ((c.tc : Thread Cert.FfnSampleIdeal.nD Cert.FfnSampleIdeal.τ).loc Cert.FfnSampleIdeal.main_v7_0)) (v1 : (c : Dev Cert.FfnSampleIdeal.nD) → Buf (Elt Ideal) ((c.tc : Thread Cert.FfnSampleIdeal.nD Cert.FfnSampleIdeal.τ).loc Cert.FfnSampleIdeal.main_v7_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v7_0) = v0 c
          ∧ r.2.mem ((c.tc : Thread Cert.FfnSampleIdeal.nD Cert.FfnSampleIdeal.τ).loc Cert.FfnSampleIdeal.main_v7_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v62) = v0 c
          ∧ r.2.mem ((c.tc : Thread Cert.FfnSampleReferenceIdeal.nD Cert.FfnSampleReferenceIdeal.τ).loc Cert.FfnSampleReferenceIdeal.main_v63) = v1 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMemkv : Cert.Memkv.Facts) (hMemkvIdeal : Cert.MemkvIdeal.Facts) (hMemkvReferenceIdeal : Cert.MemkvReferenceIdeal.Facts) (hFfnSample : Cert.FfnSample.Facts) (hFfnSampleIdeal : Cert.FfnSampleIdeal.Facts) (hFfnSampleReferenceIdeal : Cert.FfnSampleReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnReferenceIdeal (hFfnIdeal := hFfnIdeal) (hFfnReferenceIdeal := hFfnReferenceIdeal)
    ∧ preserves_Memkv_MemkvIdeal
    ∧ algebraic_MemkvIdeal_MemkvReferenceIdeal (hMemkvIdeal := hMemkvIdeal) (hMemkvReferenceIdeal := hMemkvReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
-- ==== Pre_finite_inputs.lean ====
abbrev S8x2048x1024 : Shape := ⟨3, ![8, 2048, 1024]⟩
abbrev S8x256x4x64 : Shape := ⟨4, ![8, 256, 4, 64]⟩
abbrev S2x512 : Shape := ⟨2, ![2, 512]⟩
abbrev S1024x5632 : Shape := ⟨2, ![1024, 5632]⟩
abbrev S4x64x64 : Shape := ⟨3, ![4, 64, 64]⟩
abbrev S256 : Shape := ⟨1, ![256]⟩
abbrev S512 : Shape := ⟨1, ![512]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S8x2048x1024 .f32) (main_arg1 : FVec F S8x256x4x64 .f32) (main_arg2 : FVec F S8x256x4x64 .f32) (main_arg3 : FVec F S2x512 .f32) (main_arg4 : FVec F S1024x5632 .f32) (main_arg5 : FVec F S4x64x64 .f32) (main_arg6 : FVec F S256 .f32) (main_arg7 : FVec F S512 .f32) (main_arg8 : FVec F S256x1024 .f32) (main_arg9 : FVec F S512x1024 .f32) (main_arg10 : FVec F S256x1024 .f32) (main_arg11 : FVec F S1024x1024 .f32) (main_arg12 : FVec F S1024 .f32) (main_arg13 : FVec F S1024 .f32) (main_arg14 : FVec F S1024x2816 .f32) (main_arg15 : FVec F S1024x2816 .f32) (main_arg16 : FVec F S2816x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S2x512 .f32 := Host.absf main_arg3
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S1024x5632 .f32 := Host.absf main_arg4
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  main_v13
-- ==== Kernel.lean ====
abbrev S8x2048x1024 : Shape := ⟨3, ![8, 2048, 1024]⟩
abbrev S8x256x4x64 : Shape := ⟨4, ![8, 256, 4, 64]⟩
abbrev S2x512 : Shape := ⟨2, ![2, 512]⟩
abbrev S1024x5632 : Shape := ⟨2, ![1024, 5632]⟩
abbrev S4x64x64 : Shape := ⟨3, ![4, 64, 64]⟩
abbrev S256 : Shape := ⟨1, ![256]⟩
abbrev S512 : Shape := ⟨1, ![512]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S5632 : Shape := ⟨1, ![5632]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S1x512 : Shape := ⟨2, ![1, 512]⟩
abbrev S1x1024 : Shape := ⟨2, ![1, 1024]⟩
abbrev S1x5632 : Shape := ⟨2, ![1, 5632]⟩
abbrev S8x4x64x256 : Shape := ⟨4, ![8, 4, 64, 256]⟩
abbrev S8x256x256 : Shape := ⟨3, ![8, 256, 256]⟩
abbrev S8x16x256 : Shape := ⟨3, ![8, 16, 256]⟩
abbrev S8x4x128x128 : Shape := ⟨4, ![8, 4, 128, 128]⟩
abbrev S1x512x1024 : Shape := ⟨3, ![1, 512, 1024]⟩
abbrev S1x256x256 : Shape := ⟨3, ![1, 256, 256]⟩
abbrev S32x2816 : Shape := ⟨2, ![32, 2816]⟩
abbrev S128x1024 : Shape := ⟨2, ![128, 1024]⟩
abbrev S1x16x256 : Shape := ⟨3, ![1, 16, 256]⟩
abbrev S1x4x128x128 : Shape := ⟨4, ![1, 4, 128, 128]⟩
abbrev S4x128x128 : Shape := ⟨3, ![4, 128, 128]⟩
abbrev S16x256 : Shape := ⟨2, ![16, 256]⟩
abbrev S1024x512 : Shape := ⟨2, ![1024, 512]⟩
abbrev S512x512 : Shape := ⟨2, ![512, 512]⟩
abbrev S256x512 : Shape := ⟨2, ![256, 512]⟩
abbrev S1024x256 : Shape := ⟨2, ![1024, 256]⟩
abbrev S512x256 : Shape := ⟨2, ![512, 256]⟩
abbrev S528x256 : Shape := ⟨2, ![528, 256]⟩
abbrev S64x512 : Shape := ⟨2, ![64, 512]⟩
abbrev S256x128 : Shape := ⟨2, ![256, 128]⟩
abbrev S64x128 : Shape := ⟨2, ![64, 128]⟩
abbrev S128x128 : Shape := ⟨2, ![128, 128]⟩
abbrev S512x1 : Shape := ⟨2, ![512, 1]⟩
abbrev S512x128 : Shape := ⟨2, ![512, 128]⟩
abbrev S1x128x128 : Shape := ⟨3, ![1, 128, 128]⟩
abbrev S1x128 : Shape := ⟨2, ![1, 128]⟩
abbrev S256x1 : Shape := ⟨2, ![256, 1]⟩
abbrev S1x1x128x128 : Shape := ⟨4, ![1, 1, 128, 128]⟩

abbrev nBuf : Space → Nat
  | .hbm => 103
  | .vmem => 37
  | .smem => 0
  | _ => 0

abbrev bufTy : (tb : Table) → Fin (tcTables nBuf tb) → BufTy
  | .hbm, ⟨0, _⟩ => ⟨S8x2048x1024, .f32⟩
  | .hbm, ⟨1, _⟩ => ⟨S8x256x4x64, .f32⟩
  | .hbm, ⟨2, _⟩ => ⟨S8x256x4x64, .f32⟩
  | .hbm, ⟨3, _⟩ => ⟨S2x512, .f32⟩
  | .hbm, ⟨4, _⟩ => ⟨S1024x5632, .f32⟩
  | .hbm, ⟨5, _⟩ => ⟨S4x64x64, .f32⟩
  | .hbm, ⟨6, _⟩ => ⟨S256, .f32⟩
  | .hbm, ⟨7, _⟩ => ⟨S512, .f32⟩
  | .hbm, ⟨8, _⟩ => ⟨S256x1024, .f32⟩
  | .hbm, ⟨9, _⟩ => ⟨S512x1024, .f32⟩
  | .hbm, ⟨10, _⟩ => ⟨S256x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x2816, .f32⟩
  | .hbm, ⟨15, _⟩ => ⟨S1024x2816, .f32⟩
  | .hbm, ⟨16, _⟩ => ⟨S2816x1024, .f32⟩
  | .hbm, ⟨17, _⟩ => ⟨S5632, .i32⟩
  | .hbm, ⟨18, _⟩ => ⟨S_, .i32⟩
  | .hbm, ⟨19, _⟩ => ⟨S5632, .i32⟩
  | .hbm, ⟨20, _⟩ => ⟨S5632, .i1⟩
  | .hbm, ⟨21, _⟩ => ⟨S_, .i32⟩
  | .hbm, ⟨22, _⟩ => ⟨S5632, .i32⟩
  | .hbm, ⟨23, _⟩ => ⟨S5632, .i1⟩
  | .hbm, ⟨24, _⟩ => ⟨S5632, .i1⟩
  | .hbm, ⟨25, _⟩ => ⟨S_, .i32⟩
  | .hbm, ⟨26, _⟩ => ⟨S5632, .i32⟩
  | .hbm, ⟨27, _⟩ => ⟨S5632, .i1⟩
  | .hbm, ⟨28, _⟩ => ⟨S_, .i32⟩
  | .hbm, ⟨29, _⟩ => ⟨S5632, .i32⟩
  | .hbm, ⟨30, _⟩ => ⟨S5632, .i1⟩
  | .hbm, ⟨31, _⟩ => ⟨S5632, .i1⟩
  | .hbm, ⟨32, _⟩ => ⟨S5632, .i1⟩
  | .hbm, ⟨33, _⟩ => ⟨S_, .i32⟩
  | .hbm, ⟨34, _⟩ => ⟨S5632, .i32⟩
  | .hbm, ⟨35, _⟩ => ⟨S5632, .i1⟩
  | .hbm, ⟨36, _⟩ => ⟨S_, .i32⟩
  | .hbm, ⟨37, _⟩ => ⟨S5632, .i32⟩
  | .hbm, ⟨38, _⟩ => ⟨S5632, .i1⟩
  | .hbm, ⟨39, _⟩ => ⟨S5632, .i1⟩
  | .hbm, ⟨40, _⟩ => ⟨S5632, .i1⟩
  | .hbm, ⟨41, _⟩ => ⟨S_, .i32⟩
  | .hbm, ⟨42, _⟩ => ⟨S5632, .i32⟩
  | .hbm, ⟨43, _⟩ => ⟨S5632, .i1⟩
  | .hbm, ⟨44, _⟩ => ⟨S_, .i32⟩
  | .hbm, ⟨45, _⟩ => ⟨S5632, .i32⟩
  | .hbm, ⟨46, _⟩ => ⟨S5632, .i1⟩
  | .hbm, ⟨47, _⟩ => ⟨S5632, .i1⟩
  | .hbm, ⟨48, _⟩ => ⟨S5632, .i1⟩
  | .hbm, ⟨49, _⟩ => ⟨S_, .f32⟩
  | .hbm, ⟨50, _⟩ => ⟨S_, .f32⟩
  | .hbm, ⟨51, _⟩ => ⟨S5632, .f32⟩
  | .hbm, ⟨52, _⟩ => ⟨S5632, .f32⟩
  | .hbm, ⟨53, _⟩ => ⟨S5632, .f32⟩
  | .hbm, ⟨54, _⟩ => ⟨S5632, .f32⟩
  | .hbm, ⟨55, _⟩ => ⟨S_, .f32⟩
  | .hbm, ⟨56, _⟩ => ⟨S256x256, .f32⟩
  | .hbm, ⟨57, _⟩ => ⟨S1x64x64, .f32⟩
  | .hbm, ⟨58, _⟩ => ⟨S64x64, .f32⟩
  | .hbm, ⟨59, _⟩ => ⟨S_, .i32⟩
  | .hbm, ⟨60, _⟩ => ⟨S_, .i32⟩
  | .hbm, ⟨61, _⟩ => ⟨S256x256, .f32⟩
  | .hbm, ⟨62, _⟩ => ⟨S1x64x64, .f32⟩
  | .hbm, ⟨63, _⟩ => ⟨S64x64, .f32⟩
  | .hbm, ⟨64, _⟩ => ⟨S_, .i32⟩
  | .hbm, ⟨65, _⟩ => ⟨S_, .i32⟩
  | .hbm, ⟨66, _⟩ => ⟨S256x256, .f32⟩
  | .hbm, ⟨67, _⟩ => ⟨S1x64x64, .f32⟩
  | .hbm, ⟨68, _⟩ => ⟨S64x64, .f32⟩
  | .hbm, ⟨69, _⟩ => ⟨S_, .i32⟩
  | .hbm, ⟨70, _⟩ => ⟨S_, .i32⟩
  | .hbm, ⟨71, _⟩ => ⟨S256x256, .f32⟩
  | .hbm, ⟨72, _⟩ => ⟨S1x64x64, .f32⟩
  | .hbm, ⟨73, _⟩ => ⟨S64x64, .f32⟩
  | .hbm, ⟨74, _⟩ => ⟨S_, .i32⟩
  | .hbm, ⟨75, _⟩ => ⟨S_, .i32⟩
  | .hbm, ⟨76, _⟩ => ⟨S256x256, .f32⟩
  | .hbm, ⟨77, _⟩ => ⟨S256x256, .bf16⟩
  | .hbm, ⟨78, _⟩ => ⟨S1x256, .f32⟩
  | .hbm, ⟨79, _⟩ => ⟨S1x512, .f32⟩
  | .hbm, ⟨80, _⟩ => ⟨S1x1024, .f32⟩
  | .hbm, ⟨81, _⟩ => ⟨S1x1024, .f32⟩
  | .hbm, ⟨82, _⟩ => ⟨S1x5632, .f32⟩
  | .hbm, ⟨83, _⟩ => ⟨S1024x5632, .f32⟩
  | .hbm, ⟨84, _⟩ => ⟨S1024x5632, .f32⟩
  | .hbm, ⟨85, _⟩ => ⟨S1024x5632, .bf16⟩
  | .hbm, ⟨86, _⟩ => ⟨S_, .f32⟩
  | .hbm, ⟨87, _⟩ => ⟨S1024x1024, .f32⟩
  | .hbm, ⟨88, _⟩ => ⟨S1024x1024, .f32⟩
  | .hbm, ⟨89, _⟩ => ⟨S1024x1024, .bf16⟩
  | .hbm, ⟨90, _⟩ => ⟨S256x1024, .bf16⟩
  | .hbm, ⟨91, _⟩ => ⟨S512x1024, .bf16⟩
  | .hbm, ⟨92, _⟩ => ⟨S256x1024, .bf16⟩
  | .hbm, ⟨93, _⟩ => ⟨S8x4x64x256, .f32⟩
  | .hbm, ⟨94, _⟩ => ⟨S8x256x256, .f32⟩
  | .hbm, ⟨95, _⟩ => ⟨S8x4x64x256, .f32⟩
  | .hbm, ⟨96, _⟩ => ⟨S8x256x256, .f32⟩
  | .hbm, ⟨97, _⟩ => ⟨S8x2048x1024, .f32⟩
  | .hbm, ⟨98, _⟩ => ⟨S8x16x256, .f32⟩
  | .hbm, ⟨99, _⟩ => ⟨S8x4x128x128, .f32⟩
  | .hbm, ⟨100, _⟩ => ⟨S1024x2816, .bf16⟩
  | .hbm, ⟨101, _⟩ => ⟨S1024x2816, .bf16⟩
  | .hbm, ⟨102, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S2x512, .f32⟩
  | .local _ .vmem, ⟨7, _⟩ => ⟨S1024x5632, .bf16⟩
  | .local _ .vmem, ⟨8, _⟩ => ⟨S256x256, .bf16⟩
  | .local _ .vmem, ⟨9, _⟩ => ⟨S1x256, .f32⟩
  | .local _ .vmem, ⟨10, _⟩ => ⟨S1x512, .f32⟩
  | .local _ .vmem, ⟨11, _⟩ => ⟨S256x1024, .bf16⟩
  | .local _ .vmem, ⟨12, _⟩ => ⟨S512x1024, .bf16⟩
  | .local _ .vmem, ⟨13, _⟩ => ⟨S256x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S32x2816, .f32⟩
  | .local _ .vmem, ⟨18, _⟩ => ⟨S32x2816, .f32⟩
  | .local _ .vmem, ⟨19, _⟩ => ⟨S32x2816, .f32⟩
  | .local _ .vmem, ⟨20, _⟩ => ⟨S32x2816, .f32⟩
  | .local _ .vmem, ⟨21, _⟩ => ⟨S128x1024, .f32⟩
  | .local _ .vmem, ⟨22, _⟩ => ⟨S128x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x16x256, .f32⟩
  | .local _ .vmem, ⟨26, _⟩ => ⟨S1x16x256, .f32⟩
  | .local _ .vmem, ⟨27, _⟩ => ⟨S1x4x128x128, .f32⟩
  | .local _ .vmem, ⟨28, _⟩ => ⟨S1x4x128x128, .f32⟩
  | .local _ .vmem, ⟨29, _⟩ => ⟨S32x2816, .bf16⟩
  | .local _ .vmem, ⟨30, _⟩ => ⟨S32x2816, .bf16⟩
  | .local _ .vmem, ⟨31, _⟩ => ⟨S32x2816, .bf16⟩
  | .local _ .vmem, ⟨32, _⟩ => ⟨S32x2816, .bf16⟩
  | .local _ .vmem, ⟨33, _⟩ => ⟨S128x1024, .bf16⟩
  | .local _ .vmem, ⟨34, _⟩ => ⟨S128x1024, .bf16⟩
  | .local _ .vmem, ⟨35, _⟩ => ⟨S4x128x128, .f32⟩
  | .local _ .vmem, ⟨36, _⟩ => ⟨S16x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_1 : Ref sig .tc := ⟨.hbm, 25, rfl⟩
abbrev main_v6 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_c_6 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst : Ref sig .tc := ⟨.hbm, 49, rfl⟩
abbrev main_cst_7 : Ref sig .tc := ⟨.hbm, 50, rfl⟩
abbrev main_call0_v0 : Ref sig .tc := ⟨.hbm, 51, rfl⟩
abbrev main_call0_v1 : Ref sig .tc := ⟨.hbm, 52, rfl⟩
abbrev main_v24 : Ref sig .tc := ⟨.hbm, 53, rfl⟩
abbrev main_v25 : Ref sig .tc := ⟨.hbm, 54, rfl⟩
abbrev main_cst_8 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_9 : Ref sig .tc := ⟨.hbm, 59, rfl⟩
abbrev main_c_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_11 : Ref sig .tc := ⟨.hbm, 64, rfl⟩
abbrev main_c_12 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_13 : Ref sig .tc := ⟨.hbm, 69, rfl⟩
abbrev main_c_14 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_15 : Ref sig .tc := ⟨.hbm, 74, rfl⟩
abbrev main_c_16 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58_0 : Ref sig .tc := ⟨.hbm, 97, rfl⟩
abbrev main_v58_1 : Ref sig .tc := ⟨.hbm, 98, rfl⟩
abbrev main_v58_2 : Ref sig .tc := ⟨.hbm, 99, rfl⟩
abbrev main_v58_3 : Ref sig .tc := ⟨.hbm, 100, rfl⟩
abbrev main_v58_4 : Ref sig .tc := ⟨.hbm, 101, rfl⟩
abbrev main_v58_5 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨2, ![8, 4], ![false, false]⟩

def k0_cond5 (i : grid0.Coords) : BitVec 1 :=
  let arg1 : BitVec 32 := BitVec.ofNat 32 (i 1).val
  let c3_i32_317 : BitVec 32 := 3#32
  let v1236 : BitVec 1 := Scalar.cmpi .eq arg1 c3_i32_317
  let v1237 : BitVec 32 := Scalar.extui v1236
  let c0_i32_318 : BitVec 32 := 0#32
  let v1238 : BitVec 1 := Scalar.cmpi .ne v1237 c0_i32_318
  v1238

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c32_i32 : BitVec 32 := 32#32
  let v2 : BitVec 1 := Scalar.cmpi .slt v1 c32_i32
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c32_i32_0 : BitVec 32 := 32#32
  let v5 : BitVec 1 := Scalar.cmpi .slt v1 c32_i32_0
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c22_i32 : BitVec 32 := 22#32
  let v8 : BitVec 1 := Scalar.cmpi .slt v1 c22_i32
  let v9 : BitVec 32 := Scalar.extui v8
  let c0_i32_2 : BitVec 32 := 0#32
  let v10 : BitVec 1 := Scalar.cmpi .ne v9 c0_i32_2
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_21 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_22 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S32x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x4x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S32x2816 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S32x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ReferenceIdeal.lean ====
abbrev S8x2048x1024 : Shape := ⟨3, ![8, 2048, 1024]⟩
abbrev S8x256x4x64 : Shape := ⟨4, ![8, 256, 4, 64]⟩
abbrev S2x512 : Shape := ⟨2, ![2, 512]⟩
abbrev S1024x5632 : Shape := ⟨2, ![1024, 5632]⟩
abbrev S4x64x64 : Shape := ⟨3, ![4, 64, 64]⟩
abbrev S256 : Shape := ⟨1, ![256]⟩
abbrev S512 : Shape := ⟨1, ![512]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x512 : Shape := ⟨2, ![1, 512]⟩
abbrev S8x2048x5632 : Shape := ⟨3, ![8, 2048, 5632]⟩
abbrev S8x2048x256 : Shape := ⟨3, ![8, 2048, 256]⟩
abbrev S8x2048x512 : Shape := ⟨3, ![8, 2048, 512]⟩
abbrev S8x2048x3072 : Shape := ⟨3, ![8, 2048, 3072]⟩
abbrev S8x16x256 : Shape := ⟨3, ![8, 16, 256]⟩
abbrev S8x2064x256 : Shape := ⟨3, ![8, 2064, 256]⟩
abbrev S1x1x512 : Shape := ⟨3, ![1, 1, 512]⟩
abbrev S8x2048x4x128 : Shape := ⟨4, ![8, 2048, 4, 128]⟩
abbrev S2048x2048 : Shape := ⟨2, ![2048, 2048]⟩
abbrev S8x4x128x2048 : Shape := ⟨4, ![8, 4, 128, 2048]⟩
abbrev S8x1x4x128 : Shape := ⟨4, ![8, 1, 4, 128]⟩
abbrev S8x4x128x128 : Shape := ⟨4, ![8, 4, 128, 128]⟩

abbrev nBuf : Space → Nat
  | .hbm => 101
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x4x64, .f32⟩
  | .hbm, ⟨2, _⟩ => ⟨S8x256x4x64, .f32⟩
  | .hbm, ⟨3, _⟩ => ⟨S2x512, .f32⟩
  | .hbm, ⟨4, _⟩ => ⟨S1024x5632, .f32⟩
  | .hbm, ⟨5, _⟩ => ⟨S4x64x64, .f32⟩
  | .hbm, ⟨6, _⟩ => ⟨S256, .f32⟩
  | .hbm, ⟨7, _⟩ => ⟨S512, .f32⟩
  | .hbm, ⟨8, _⟩ => ⟨S256x1024, .f32⟩
  | .hbm, ⟨9, _⟩ => ⟨S512x1024, .f32⟩
  | .hbm, ⟨10, _⟩ => ⟨S256x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x2816, .f32⟩
  | .hbm, ⟨15, _⟩ => ⟨S1024x2816, .f32⟩
  | .hbm, ⟨16, _⟩ => ⟨S2816x1024, .f32⟩
  | .hbm, ⟨17, _⟩ => ⟨S_, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S1x512, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S512, .f32⟩
  | .hbm, ⟨28, _⟩ => ⟨S1x512, .f32⟩
  | .hbm, ⟨29, _⟩ => ⟨S2x512, .f32⟩
  | .hbm, ⟨30, _⟩ => ⟨S2x512, .f32⟩
  | .hbm, ⟨31, _⟩ => ⟨S1x512, .f32⟩
  | .hbm, ⟨32, _⟩ => ⟨S512, .f32⟩
  | .hbm, ⟨33, _⟩ => ⟨S8x2048x5632, .f32⟩
  | .hbm, ⟨34, _⟩ => ⟨S8x2048x256, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S8x2048x256, .f32⟩
  | .hbm, ⟨40, _⟩ => ⟨S8x2048x3072, .f32⟩
  | .hbm, ⟨41, _⟩ => ⟨S_, .f32⟩
  | .hbm, ⟨42, _⟩ => ⟨S8x16x256, .f32⟩
  | .hbm, ⟨43, _⟩ => ⟨S8x2064x256, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S8x2048x512, .f32⟩
  | .hbm, ⟨48, _⟩ => ⟨S8x2048x512, .f32⟩
  | .hbm, ⟨49, _⟩ => ⟨S_, .f32⟩
  | .hbm, ⟨50, _⟩ => ⟨S8x2048x512, .f32⟩
  | .hbm, ⟨51, _⟩ => ⟨S8x2048x512, .f32⟩
  | .hbm, ⟨52, _⟩ => ⟨S_, .f32⟩
  | .hbm, ⟨53, _⟩ => ⟨S8x2048x512, .f32⟩
  | .hbm, ⟨54, _⟩ => ⟨S8x2048x512, .f32⟩
  | .hbm, ⟨55, _⟩ => ⟨S1x1x512, .f32⟩
  | .hbm, ⟨56, _⟩ => ⟨S8x2048x512, .f32⟩
  | .hbm, ⟨57, _⟩ => ⟨S8x2048x512, .f32⟩
  | .hbm, ⟨58, _⟩ => ⟨S1x1x512, .f32⟩
  | .hbm, ⟨59, _⟩ => ⟨S8x2048x512, .f32⟩
  | .hbm, ⟨60, _⟩ => ⟨S8x2048x512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S8x2048x512, .f32⟩
  | .hbm, ⟨65, _⟩ => ⟨S8x2048x512, .f32⟩
  | .hbm, ⟨66, _⟩ => ⟨S8x2048x512, .f32⟩
  | .hbm, ⟨67, _⟩ => ⟨S_, .f32⟩
  | .hbm, ⟨68, _⟩ => ⟨S8x2048x512, .f32⟩
  | .hbm, ⟨69, _⟩ => ⟨S8x2048x512, .f32⟩
  | .hbm, ⟨70, _⟩ => ⟨S_, .f32⟩
  | .hbm, ⟨71, _⟩ => ⟨S8x2048x512, .f32⟩
  | .hbm, ⟨72, _⟩ => ⟨S8x2048x512, .f32⟩
  | .hbm, ⟨73, _⟩ => ⟨S1x1x512, .f32⟩
  | .hbm, ⟨74, _⟩ => ⟨S8x2048x512, .f32⟩
  | .hbm, ⟨75, _⟩ => ⟨S8x2048x512, .f32⟩
  | .hbm, ⟨76, _⟩ => ⟨S8x2048x512, .f32⟩
  | .hbm, ⟨77, _⟩ => ⟨S8x2048x4x128, .f32⟩
  | .hbm, ⟨78, _⟩ => ⟨S8x2048x4x128, .f32⟩
  | .hbm, ⟨79, _⟩ => ⟨S8x2048x4x128, .f32⟩
  | .hbm, ⟨80, _⟩ => ⟨S_, .i1⟩
  | .hbm, ⟨81, _⟩ => ⟨S2048x2048, .i1⟩
  | .hbm, ⟨82, _⟩ => ⟨S2048x2048, .i32⟩
  | .hbm, ⟨83, _⟩ => ⟨S_, .i32⟩
  | .hbm, ⟨84, _⟩ => ⟨S2048x2048, .i32⟩
  | .hbm, ⟨85, _⟩ => ⟨S2048x2048, .i32⟩
  | .hbm, ⟨86, _⟩ => ⟨S2048x2048, .i32⟩
  | .hbm, ⟨87, _⟩ => ⟨S2048x2048, .i1⟩
  | .hbm, ⟨88, _⟩ => ⟨S_, .i1⟩
  | .hbm, ⟨89, _⟩ => ⟨S2048x2048, .i1⟩
  | .hbm, ⟨90, _⟩ => ⟨S2048x2048, .i1⟩
  | .hbm, ⟨91, _⟩ => ⟨S2048x2048, .f32⟩
  | .hbm, ⟨92, _⟩ => ⟨S8x4x128x2048, .f32⟩
  | .hbm, ⟨93, _⟩ => ⟨S8x2048x4x128, .f32⟩
  | .hbm, ⟨94, _⟩ => ⟨S8x1x4x128, .f32⟩
  | .hbm, ⟨95, _⟩ => ⟨S8x2048x4x128, .f32⟩
  | .hbm, ⟨96, _⟩ => ⟨S8x2048x4x128, .f32⟩
  | .hbm, ⟨97, _⟩ => ⟨S8x2048x4x128, .f32⟩
  | .hbm, ⟨98, _⟩ => ⟨S8x2048x4x128, .f32⟩
  | .hbm, ⟨99, _⟩ => ⟨S8x4x128x128, .f32⟩
  | .hbm, ⟨100, _⟩ => ⟨S8x16x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c : Ref sig .tc := ⟨.hbm, 80, rfl⟩
abbrev main_v53 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]
-- ==== Ffn.lean ====
abbrev S8x2048x1024 : Shape := ⟨3, ![8, 2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S8x8x2816 : Shape := ⟨3, ![8, 8, 2816]⟩
abbrev S1x1024x1024 : Shape := ⟨3, ![1, 1024, 1024]⟩
abbrev S1x8x2816 : Shape := ⟨3, ![1, 8, 2816]⟩
abbrev S8x2816 : Shape := ⟨2, ![8, 2816]⟩
abbrev S1024x1024 : Shape := ⟨2, ![1024, 1024]⟩
abbrev S1032x2816 : Shape := ⟨2, ![1032, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x2816, .f32⟩
  | .hbm, ⟨12, _⟩ => ⟨S1x1024, .f32⟩
  | .hbm, ⟨13, _⟩ => ⟨S1x1024, .f32⟩
  | .hbm, ⟨14, _⟩ => ⟨S8x2048x1024, .f32⟩
  | .hbm, ⟨15, _⟩ => ⟨S8x8x2816, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x8x2816, .f32⟩
  | .local _ .vmem, ⟨12, _⟩ => ⟨S1x8x2816, .f32⟩
  | .local _ .vmem, ⟨13, _⟩ => ⟨S8x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32_70 : BitVec 32 := 1#32
  let v172 : BitVec 1 := Scalar.cmpi .eq arg1 c1_i32_70
  let v173 : BitVec 32 := Scalar.extui v172
  let c0_i32_71 : BitVec 32 := 0#32
  let v174 : BitVec 1 := Scalar.cmpi .ne v173 c0_i32_71
  v174

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnReferenceIdeal.lean ====
abbrev S8x2048x1024 : Shape := ⟨3, ![8, 2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S8x2048x2816 : Shape := ⟨3, ![8, 2048, 2816]⟩
abbrev S_ : Shape := ⟨0, ![]⟩
abbrev S8x2x2816 : Shape := ⟨3, ![8, 2, 2816]⟩
abbrev S8x2050x2816 : Shape := ⟨3, ![8, 2050, 2816]⟩
abbrev S1x2816 : Shape := ⟨2, ![1, 2816]⟩
abbrev S1x1x2816 : Shape := ⟨3, ![1, 1, 2816]⟩
abbrev S8x2048 : Shape := ⟨2, ![8, 2048]⟩
abbrev S8x2048x1 : Shape := ⟨3, ![8, 2048, 1]⟩
abbrev S1x1x1024 : Shape := ⟨3, ![1, 1, 1024]⟩
abbrev S8x8x2816 : Shape := ⟨3, ![8, 8, 2816]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S8x2048x2816, .f32⟩
  | .hbm, ⟨9, _⟩ => ⟨S8x2048x2816, .f32⟩
  | .hbm, ⟨10, _⟩ => ⟨S_, .f32⟩
  | .hbm, ⟨11, _⟩ => ⟨S8x2x2816, .f32⟩
  | .hbm, ⟨12, _⟩ => ⟨S8x2050x2816, .f32⟩
  | .hbm, ⟨13, _⟩ => ⟨S8x2048x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S8x2048x2816, .f32⟩
  | .hbm, ⟨18, _⟩ => ⟨S8x2048x2816, .f32⟩
  | .hbm, ⟨19, _⟩ => ⟨S1x1x2816, .f32⟩
  | .hbm, ⟨20, _⟩ => ⟨S8x2048x2816, .f32⟩
  | .hbm, ⟨21, _⟩ => ⟨S8x2048x2816, .f32⟩
  | .hbm, ⟨22, _⟩ => ⟨S8x2048x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S8x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S_, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S_, .f32⟩
  | .hbm, ⟨41, _⟩ => ⟨S8x2048x2816, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | .hbm, ⟨80, _⟩ => ⟨S8x8x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Memkv.lean ====
abbrev S8x256x1024 : Shape := ⟨3, ![8, 256, 1024]⟩
abbrev S1024x256 : Shape := ⟨2, ![1024, 256]⟩
abbrev S1024x5632 : Shape := ⟨2, ![1024, 5632]⟩
abbrev S1024x1024 : Shape := ⟨2, ![1024, 1024]⟩
abbrev S256x1024 : Shape := ⟨2, ![256, 1024]⟩
abbrev S512x1024 : Shape := ⟨2, ![512, 1024]⟩
abbrev S5632 : Shape := ⟨1, ![5632]⟩
abbrev S_ : Shape := ⟨0, ![]⟩
abbrev S2048x1024 : Shape := ⟨2, ![2048, 1024]⟩
abbrev S1024 : Shape := ⟨1, ![1024]⟩
abbrev S1x5632 : Shape := ⟨2, ![1, 5632]⟩
abbrev S1x1024 : Shape := ⟨2, ![1, 1024]⟩
abbrev S8x256x256 : Shape := ⟨3, ![8, 256, 256]⟩
abbrev S256x5632 : Shape := ⟨2, ![256, 5632]⟩
abbrev S64x1024 : Shape := ⟨2, ![64, 1024]⟩
abbrev S128x1024 : Shape := ⟨2, ![128, 1024]⟩
abbrev S2x256x256 : Shape := ⟨3, ![2, 256, 256]⟩
abbrev S256x256 : Shape := ⟨2, ![256, 256]⟩
abbrev S1x256x256 : Shape := ⟨3, ![1, 256, 256]⟩

abbrev nBuf : Space → Nat
  | .hbm => 58
  | .vmem => 30
  | .smem => 0
  | _ => 0

abbrev bufTy : (tb : Table) → Fin (tcTables nBuf tb) → BufTy
  | .hbm, ⟨0, _⟩ => ⟨S8x256x1024, .f32⟩
  | .hbm, ⟨1, _⟩ => ⟨S1024x256, .f32⟩
  | .hbm, ⟨2, _⟩ => ⟨S1024x256, .f32⟩
  | .hbm, ⟨3, _⟩ => ⟨S1024x5632, .f32⟩
  | .hbm, ⟨4, _⟩ => ⟨S1024x1024, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S5632, .i32⟩
  | .hbm, ⟨9, _⟩ => ⟨S_, .i32⟩
  | .hbm, ⟨10, _⟩ => ⟨S5632, .i32⟩
  | .hbm, ⟨11, _⟩ => ⟨S5632, .i1⟩
  | .hbm, ⟨12, _⟩ => ⟨S_, .i32⟩
  | .hbm, ⟨13, _⟩ => ⟨S5632, .i32⟩
  | .hbm, ⟨14, _⟩ => ⟨S5632, .i1⟩
  | .hbm, ⟨15, _⟩ => ⟨S5632, .i1⟩
  | .hbm, ⟨16, _⟩ => ⟨S_, .i32⟩
  | .hbm, ⟨17, _⟩ => ⟨S5632, .i32⟩
  | .hbm, ⟨18, _⟩ => ⟨S5632, .i1⟩
  | .hbm, ⟨19, _⟩ => ⟨S_, .i32⟩
  | .hbm, ⟨20, _⟩ => ⟨S5632, .i32⟩
  | .hbm, ⟨21, _⟩ => ⟨S5632, .i1⟩
  | .hbm, ⟨22, _⟩ => ⟨S5632, .i1⟩
  | .hbm, ⟨23, _⟩ => ⟨S5632, .i1⟩
  | .hbm, ⟨24, _⟩ => ⟨S_, .i32⟩
  | .hbm, ⟨25, _⟩ => ⟨S5632, .i32⟩
  | .hbm, ⟨26, _⟩ => ⟨S5632, .i1⟩
  | .hbm, ⟨27, _⟩ => ⟨S_, .i32⟩
  | .hbm, ⟨28, _⟩ => ⟨S5632, .i32⟩
  | .hbm, ⟨29, _⟩ => ⟨S5632, .i1⟩
  | .hbm, ⟨30, _⟩ => ⟨S5632, .i1⟩
  | .hbm, ⟨31, _⟩ => ⟨S5632, .i1⟩
  | .hbm, ⟨32, _⟩ => ⟨S_, .i32⟩
  | .hbm, ⟨33, _⟩ => ⟨S5632, .i32⟩
  | .hbm, ⟨34, _⟩ => ⟨S5632, .i1⟩
  | .hbm, ⟨35, _⟩ => ⟨S_, .i32⟩
  | .hbm, ⟨36, _⟩ => ⟨S5632, .i32⟩
  | .hbm, ⟨37, _⟩ => ⟨S5632, .i1⟩
  | .hbm, ⟨38, _⟩ => ⟨S5632, .i1⟩
  | .hbm, ⟨39, _⟩ => ⟨S5632, .i1⟩
  | .hbm, ⟨40, _⟩ => ⟨S_, .f32⟩
  | .hbm, ⟨41, _⟩ => ⟨S_, .f32⟩
  | .hbm, ⟨42, _⟩ => ⟨S5632, .f32⟩
  | .hbm, ⟨43, _⟩ => ⟨S5632, .f32⟩
  | .hbm, ⟨44, _⟩ => ⟨S5632, .f32⟩
  | .hbm, ⟨45, _⟩ => ⟨S5632, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x5632, .f32⟩
  | .hbm, ⟨50, _⟩ => ⟨S1x1024, .f32⟩
  | .hbm, ⟨51, _⟩ => ⟨S8x256x256, .f32⟩
  | .hbm, ⟨52, _⟩ => ⟨S8x256x256, .f32⟩
  | .hbm, ⟨53, _⟩ => ⟨S1024x5632, .bf16⟩
  | .hbm, ⟨54, _⟩ => ⟨S1024x1024, .bf16⟩
  | .hbm, ⟨55, _⟩ => ⟨S256x1024, .bf16⟩
  | .hbm, ⟨56, _⟩ => ⟨S512x1024, .bf16⟩
  | .hbm, ⟨57, _⟩ => ⟨S256x1024, .bf16⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S1024x256, .f32⟩
  | .local _ .vmem, ⟨4, _⟩ => ⟨S256x5632, .f32⟩
  | .local _ .vmem, ⟨5, _⟩ => ⟨S256x5632, .f32⟩
  | .local _ .vmem, ⟨6, _⟩ => ⟨S256x1024, .f32⟩
  | .local _ .vmem, ⟨7, _⟩ => ⟨S256x1024, .f32⟩
  | .local _ .vmem, ⟨8, _⟩ => ⟨S64x1024, .f32⟩
  | .local _ .vmem, ⟨9, _⟩ => ⟨S64x1024, .f32⟩
  | .local _ .vmem, ⟨10, _⟩ => ⟨S128x1024, .f32⟩
  | .local _ .vmem, ⟨11, _⟩ => ⟨S128x1024, .f32⟩
  | .local _ .vmem, ⟨12, _⟩ => ⟨S64x1024, .f32⟩
  | .local _ .vmem, ⟨13, _⟩ => ⟨S64x1024, .f32⟩
  | .local _ .vmem, ⟨14, _⟩ => ⟨S1x5632, .f32⟩
  | .local _ .vmem, ⟨15, _⟩ => ⟨S1x1024, .f32⟩
  | .local _ .vmem, ⟨16, _⟩ => ⟨S2x256x256, .f32⟩
  | .local _ .vmem, ⟨17, _⟩ => ⟨S2x256x256, .f32⟩
  | .local _ .vmem, ⟨18, _⟩ => ⟨S2x256x256, .f32⟩
  | .local _ .vmem, ⟨19, _⟩ => ⟨S2x256x256, .f32⟩
  | .local _ .vmem, ⟨20, _⟩ => ⟨S256x5632, .bf16⟩
  | .local _ .vmem, ⟨21, _⟩ => ⟨S256x5632, .bf16⟩
  | .local _ .vmem, ⟨22, _⟩ => ⟨S256x1024, .bf16⟩
  | .local _ .vmem, ⟨23, _⟩ => ⟨S256x1024, .bf16⟩
  | .local _ .vmem, ⟨24, _⟩ => ⟨S64x1024, .bf16⟩
  | .local _ .vmem, ⟨25, _⟩ => ⟨S64x1024, .bf16⟩
  | .local _ .vmem, ⟨26, _⟩ => ⟨S128x1024, .bf16⟩
  | .local _ .vmem, ⟨27, _⟩ => ⟨S128x1024, .bf16⟩
  | .local _ .vmem, ⟨28, _⟩ => ⟨S64x1024, .bf16⟩
  | .local _ .vmem, ⟨29, _⟩ => ⟨S64x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30_0 : Ref sig .tc := ⟨.hbm, 51, rfl⟩
abbrev main_v30_1 : Ref sig .tc := ⟨.hbm, 52, rfl⟩
abbrev main_v30_2 : Ref sig .tc := ⟨.hbm, 53, rfl⟩
abbrev main_v30_3 : Ref sig .tc := ⟨.hbm, 54, rfl⟩
abbrev main_v30_4 : Ref sig .tc := ⟨.hbm, 55, rfl⟩
abbrev main_v30_5 : Ref sig .tc := ⟨.hbm, 56, rfl⟩
abbrev main_v30_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c4_i32 : BitVec 32 := 4#32
  let v34 : BitVec 1 := Scalar.cmpi .slt arg0 c4_i32
  let v35 : BitVec 32 := Scalar.extui v34
  let c0_i32 : BitVec 32 := 0#32
  let v36 : BitVec 1 := Scalar.cmpi .ne v35 c0_i32
  v36

def k0_cond2 (i : grid0.Coords) : BitVec 1 :=
  let arg0 : BitVec 32 := BitVec.ofNat 32 (i 0).val
  let c4_i32_24 : BitVec 32 := 4#32
  let v37 : BitVec 1 := Scalar.cmpi .slt arg0 c4_i32_24
  let v38 : BitVec 32 := Scalar.extui v37
  let c0_i32_25 : BitVec 32 := 0#32
  let v39 : BitVec 1 := Scalar.cmpi .ne v38 c0_i32_25
  v39

def k0_cond3 (i : grid0.Coords) : BitVec 1 :=
  let arg0 : BitVec 32 := BitVec.ofNat 32 (i 0).val
  let c4_i32_26 : BitVec 32 := 4#32
  let v40 : BitVec 1 := Scalar.cmpi .slt arg0 c4_i32_26
  let v41 : BitVec 32 := Scalar.extui v40
  let c0_i32_27 : BitVec 32 := 0#32
  let v42 : BitVec 1 := Scalar.cmpi .ne v41 c0_i32_27
  v42

def k0_cond4 (i : grid0.Coords) : BitVec 1 :=
  let arg0 : BitVec 32 := BitVec.ofNat 32 (i 0).val
  let c4_i32_28 : BitVec 32 := 4#32
  let v43 : BitVec 1 := Scalar.cmpi .slt arg0 c4_i32_28
  let v44 : BitVec 32 := Scalar.extui v43
  let c0_i32_29 : BitVec 32 := 0#32
  let v45 : BitVec 1 := Scalar.cmpi .ne v44 c0_i32_29
  v45

def k0_cond5 (i : grid0.Coords) : BitVec 1 :=
  let arg0 : BitVec 32 := BitVec.ofNat 32 (i 0).val
  let c4_i32_30 : BitVec 32 := 4#32
  let v46 : BitVec 1 := Scalar.cmpi .slt arg0 c4_i32_30
  let v47 : BitVec 32 := Scalar.extui v46
  let c0_i32_31 : BitVec 32 := 0#32
  let v48 : BitVec 1 := Scalar.cmpi .ne v47 c0_i32_31
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MemkvReferenceIdeal.lean ====
abbrev S8x256x1024 : Shape := ⟨3, ![8, 256, 1024]⟩
abbrev S1024x256 : Shape := ⟨2, ![1024, 256]⟩
abbrev S1024x5632 : Shape := ⟨2, ![1024, 5632]⟩
abbrev S1024x1024 : Shape := ⟨2, ![1024, 1024]⟩
abbrev S256x1024 : Shape := ⟨2, ![256, 1024]⟩
abbrev S512x1024 : Shape := ⟨2, ![512, 1024]⟩
abbrev S8x256x256 : Shape := ⟨3, ![8, 256, 256]⟩

abbrev nBuf : Space → Nat
  | .hbm => 12
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x256, .f32⟩
  | .hbm, ⟨2, _⟩ => ⟨S1024x256, .f32⟩
  | .hbm, ⟨3, _⟩ => ⟨S1024x5632, .f32⟩
  | .hbm, ⟨4, _⟩ => ⟨S1024x1024, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S8x256x256, .f32⟩
  | .hbm, ⟨9, _⟩ => ⟨S8x256x256, .f32⟩
  | .hbm, ⟨10, _⟩ => ⟨S8x256x256, .f32⟩
  | .hbm, ⟨11, _⟩ => ⟨S8x256x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩

abbrev nD : Nat := 1
abbrev τ : Topo := Topo.v7x

variable {F : FTy → Type} [FloatOps F]
-- ==== FfnSample.lean ====
abbrev S4x128x1024 : Shape := ⟨3, ![4, 128, 1024]⟩
abbrev S128x2x2816 : Shape := ⟨3, ![128, 2, 2816]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S512x1024 : Shape := ⟨2, ![512, 1024]⟩
abbrev S128x4x1024 : Shape := ⟨3, ![128, 4, 1024]⟩
abbrev S512x2816 : Shape := ⟨2, ![512, 2816]⟩
abbrev S128x1x2816 : Shape := ⟨3, ![128, 1, 2816]⟩
abbrev S128x2816 : Shape := ⟨2, ![128, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S128x1024 : Shape := ⟨2, ![128, 1024]⟩
abbrev S128x1x1024 : Shape := ⟨3, ![128, 1, 1024]⟩

abbrev nBuf : Space → Nat
  | .hbm => 18
  | .vmem => 11
  | .smem => 0
  | _ => 0

abbrev bufTy : (tb : Table) → Fin (tcTables nBuf tb) → BufTy
  | .hbm, ⟨0, _⟩ => ⟨S4x128x1024, .f32⟩
  | .hbm, ⟨1, _⟩ => ⟨S128x2x2816, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x2816, .f32⟩
  | .hbm, ⟨13, _⟩ => ⟨S1x1024, .f32⟩
  | .hbm, ⟨14, _⟩ => ⟨S1x1024, .f32⟩
  | .hbm, ⟨15, _⟩ => ⟨S512x1024, .f32⟩
  | .hbm, ⟨16, _⟩ => ⟨S128x4x1024, .f32⟩
  | .hbm, ⟨17, _⟩ => ⟨S128x2x2816, .f32⟩
  | .local _ .vmem, ⟨0, _⟩ => ⟨S512x1024, .f32⟩
  | .local _ .vmem, ⟨1, _⟩ => ⟨S128x2x2816, .f32⟩
  | .local _ .vmem, ⟨2, _⟩ => ⟨S1024x2816, .bf16⟩
  | .local _ .vmem, ⟨3, _⟩ => ⟨S1024x2816, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S128x4x1024, .f32⟩
  | .local _ .vmem, ⟨10, _⟩ => ⟨S128x2x2816, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnSampleReferenceIdeal.lean ====
abbrev S4x128x1024 : Shape := ⟨3, ![4, 128, 1024]⟩
abbrev S128x2x2816 : Shape := ⟨3, ![128, 2, 2816]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S128x4x1024 : Shape := ⟨3, ![128, 4, 1024]⟩
abbrev S128x4x2816 : Shape := ⟨3, ![128, 4, 2816]⟩
abbrev S128x6x2816 : Shape := ⟨3, ![128, 6, 2816]⟩
abbrev S1x2816 : Shape := ⟨2, ![1, 2816]⟩
abbrev S1x1x2816 : Shape := ⟨3, ![1, 1, 2816]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S128x2x2816, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S128x4x1024, .f32⟩
  | .hbm, ⟨10, _⟩ => ⟨S128x4x2816, .f32⟩
  | .hbm, ⟨11, _⟩ => ⟨S128x4x2816, .f32⟩
  | .hbm, ⟨12, _⟩ => ⟨S128x6x2816, .f32⟩
  | .hbm, ⟨13, _⟩ => ⟨S128x4x2816, .f32⟩
  | .hbm, ⟨14, _⟩ => ⟨S1x2816, .f32⟩
  | .hbm, ⟨15, _⟩ => ⟨S2816, .f32⟩
  | .hbm, ⟨16, _⟩ => ⟨S1x1x2816, .f32⟩
  | .hbm, ⟨17, _⟩ => ⟨S128x4x2816, .f32⟩
  | .hbm, ⟨18, _⟩ => ⟨S128x4x2816, .f32⟩
  | .hbm, ⟨19, _⟩ => ⟨S1x1x2816, .f32⟩
  | .hbm, ⟨20, _⟩ => ⟨S128x4x2816, .f32⟩
  | .hbm, ⟨21, _⟩ => ⟨S128x4x2816, .f32⟩
  | .hbm, ⟨22, _⟩ => ⟨S128x4x2816, .f32⟩
  | .hbm, ⟨23, _⟩ => ⟨S1x2816, .f32⟩
  | .hbm, ⟨24, _⟩ => ⟨S2816, .f32⟩
  | .hbm, ⟨25, _⟩ => ⟨S1x1x2816, .f32⟩
  | .hbm, ⟨26, _⟩ => ⟨S128x4x2816, .f32⟩
  | .hbm, ⟨27, _⟩ => ⟨S128x4x2816, .f32⟩
  | .hbm, ⟨28, _⟩ => ⟨S128x4x2816, .f32⟩
  | .hbm, ⟨29, _⟩ => ⟨S128x4x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S128x4x2816, .f32⟩
  | .hbm, ⟨34, _⟩ => ⟨S128x4x2816, .f32⟩
  | .hbm, ⟨35, _⟩ => ⟨S128x4x2816, .f32⟩
  | .hbm, ⟨36, _⟩ => ⟨S_, .f32⟩
  | .hbm, ⟨37, _⟩ => ⟨S128x4x2816, .f32⟩
  | .hbm, ⟨38, _⟩ => ⟨S128x4x2816, .f32⟩
  | .hbm, ⟨39, _⟩ => ⟨S128x4x2816, .f32⟩
  | .hbm, ⟨40, _⟩ => ⟨S_, .f32⟩
  | .hbm, ⟨41, _⟩ => ⟨S128x4x2816, .f32⟩
  | .hbm, ⟨42, _⟩ => ⟨S128x4x2816, .f32⟩
  | .hbm, ⟨43, _⟩ => ⟨S128x4x2816, .f32⟩
  | .hbm, ⟨44, _⟩ => ⟨S128x4x2816, .f32⟩
  | .hbm, ⟨45, _⟩ => ⟨S128x4x2816, .f32⟩
  | .hbm, ⟨46, _⟩ => ⟨S128x4x1024, .f32⟩
  | .hbm, ⟨47, _⟩ => ⟨S_, .f32⟩
  | .hbm, ⟨48, _⟩ => ⟨S128x4x1024, .f32⟩
  | .hbm, ⟨49, _⟩ => ⟨S128x4x1024, .f32⟩
  | .hbm, ⟨50, _⟩ => ⟨S128x4x1024, .f32⟩
  | .hbm, ⟨51, _⟩ => ⟨S_, .f32⟩
  | .hbm, ⟨52, _⟩ => ⟨S128x4, .f32⟩
  | .hbm, ⟨53, _⟩ => ⟨S128x4x1, .f32⟩
  | .hbm, ⟨54, _⟩ => ⟨S_, .f32⟩
  | .hbm, ⟨55, _⟩ => ⟨S128x4x1, .f32⟩
  | .hbm, ⟨56, _⟩ => ⟨S128x4x1, .f32⟩
  | .hbm, ⟨57, _⟩ => ⟨S128x4x1024, .f32⟩
  | .hbm, ⟨58, _⟩ => ⟨S128x4x1024, .f32⟩
  | .hbm, ⟨59, _⟩ => ⟨S128x4x1024, .f32⟩
  | .hbm, ⟨60, _⟩ => ⟨S_, .f32⟩
  | .hbm, ⟨61, _⟩ => ⟨S128x4, .f32⟩
  | .hbm, ⟨62, _⟩ => ⟨S128x4x1, .f32⟩
  | .hbm, ⟨63, _⟩ => ⟨S_, .f32⟩
  | .hbm, ⟨64, _⟩ => ⟨S128x4x1, .f32⟩
  | .hbm, ⟨65, _⟩ => ⟨S128x4x1, .f32⟩
  | .hbm, ⟨66, _⟩ => ⟨S128x4x1024, .f32⟩
  | .hbm, ⟨67, _⟩ => ⟨S128x4x1024, .f32⟩
  | .hbm, ⟨68, _⟩ => ⟨S_, .f32⟩
  | .hbm, ⟨69, _⟩ => ⟨S128x4x1, .f32⟩
  | .hbm, ⟨70, _⟩ => ⟨S128x4x1, .f32⟩
  | .hbm, ⟨71, _⟩ => ⟨S128x4x1, .f32⟩
  | .hbm, ⟨72, _⟩ => ⟨S128x4x1024, .f32⟩
  | .hbm, ⟨73, _⟩ => ⟨S128x4x1024, .f32⟩
  | .hbm, ⟨74, _⟩ => ⟨S1x1x1024, .f32⟩
  | .hbm, ⟨75, _⟩ => ⟨S128x4x1024, .f32⟩
  | .hbm, ⟨76, _⟩ => ⟨S128x4x1024, .f32⟩
  | .hbm, ⟨77, _⟩ => ⟨S1x1x1024, .f32⟩
  | .hbm, ⟨78, _⟩ => ⟨S128x4x1024, .f32⟩
  | .hbm, ⟨79, _⟩ => ⟨S128x4x1024, .f32⟩
  | .hbm, ⟨80, _⟩ => ⟨S128x2x2816, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Proof.MixerBase.lean ====
/- What the run of the mixer's kernel is stated over: the branch conditions over the grid, where its windows are idle, its buffers. -/
module

public import proofs.«01_k».proof.Proof.Gen.KernelIdeal.Skeleton
public import proofs.«01_k».proof.Proof.Gen.KernelIdeal.Frame
public import Idealize.ShloMosaic.Lib.Claim
public import Idealize.ShloMosaic.Lib.Pipeline.Value

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body\'s conditional number 0, from the grid coordinates. -/
abbrev cond0_0 (i : grid0.Coords) : Prop := k0_cond1 i = 1#1
/-- It holds at every point — decided over the grid. -/
theorem hcond0_0 : ∀ t : Fin cfg0.N, cond0_0 (grid0.coords t) :=
  (by decide +kernel : ∀ t : Fin grid0.N, cond0_0 (grid0.coords t))

/-- The condition of the body\'s conditional number 1, from the grid coordinates. -/
abbrev cond0_1 (i : grid0.Coords) : Prop := k0_cond2 i = 1#1
/-- It holds at every point — decided over the grid. -/
theorem hcond0_1 : ∀ t : Fin cfg0.N, cond0_1 (grid0.coords t) :=
  (by decide +kernel : ∀ t : Fin grid0.N, cond0_1 (grid0.coords t))

/-- The condition of the body\'s conditional number 2, from the grid coordinates. -/
abbrev cond0_2 (i : grid0.Coords) : Prop := k0_cond3 i = 1#1
/-- It holds at the points before point 22 — decided over the grid. -/
theorem hcond0_2 : ∀ t : Fin cfg0.N, cond0_2 (grid0.coords t) ↔ t.val < 22 :=
  (by decide +kernel : ∀ t : Fin grid0.N, cond0_2 (grid0.coords t) ↔ t.val < 22)

/-- The condition of the body\'s conditional number 3, from the grid coordinates. -/
abbrev cond0_3 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_3 : ∀ t : Fin cfg0.N, cond0_3 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_3, e0, e1]
    word_cmp
   : ∀ t : Fin grid0.N, cond0_3 (grid0.coords t) ↔ t.val % 4 = 0)

/-- The condition of the body\'s conditional number 4, from the grid coordinates. -/
abbrev cond0_4 (i : grid0.Coords) : Prop := k0_cond5 i = 1#1
/-- It holds at the points ≡ 3 (mod 4) — by arithmetic of the point. -/
theorem hcond0_4 : ∀ t : Fin cfg0.N, cond0_4 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_4, k0_cond5, e0, e1]
    word_cmp
   : ∀ t : Fin grid0.N, cond0_4 (grid0.coords t) ↔ t.val % 4 = 3)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl
theorem live13 : ∀ t : Fin cfg0.N, cfg0.idle 13 (grid0.coords t) = false := fun _ => rfl
theorem live14 : ∀ t : Fin cfg0.N, cfg0.idle 14 (grid0.coords t) = false := fun _ => rfl
theorem live15 : ∀ t : Fin cfg0.N, cfg0.idle 15 (grid0.coords t) = false := fun _ => rfl
theorem live16 : ∀ t : Fin cfg0.N, cfg0.idle 16 (grid0.coords t) = false := fun _ => rfl
theorem live17 : ∀ t : Fin cfg0.N, cfg0.idle 17 (grid0.coords t) = false := fun _ => rfl

/-- The two carried states are written out only at a sequence's last step. -/
theorem idle_out : ∀ t : Fin cfg0.N, t.val % 4 ≠ 3 → cfg0.idle 18 (grid0.coords t) = true ∧ cfg0.idle 19 (grid0.coords t) = true ∧ (cfg0.win 18).flush t = false ∧ (cfg0.win 19).flush t = false :=
  (by decide +kernel : ∀ t : Fin grid0.N, t.val % 4 ≠ 3 → cfg0.idle 18 (grid0.coords t) = true ∧ cfg0.idle 19 (grid0.coords t) = true ∧ win0_18.flush t = false ∧ win0_19.flush t = false)
theorem live_out : ∀ t : Fin cfg0.N, t.val % 4 = 3 → cfg0.idle 18 (grid0.coords t) = false ∧ cfg0.idle 19 (grid0.coords t) = false :=
  (by decide +kernel : ∀ t : Fin grid0.N, t.val % 4 = 3 → cfg0.idle 18 (grid0.coords t) = false ∧ cfg0.idle 19 (grid0.coords t) = false)

/-- One staging buffer of output window 17, through which its contents are stated (`View.read_writes_of_cover`: the
    choice does not matter). -/
abbrev VO0_17 : View sig .tc .vmem S1x512x1024 .f32 := (Memref.whole cc0_stg17_0 : Memref sig .tc .vmem S1x512x1024 .f32).view
/-- One staging buffer of output window 18, through which its contents are stated (`View.read_writes_of_cover`: the
    choice does not matter). -/
abbrev VO0_18 : View sig .tc .vmem S1x16x256 .f32 := (Memref.whole cc0_stg18_0 : Memref sig .tc .vmem S1x16x256 .f32).view
/-- One staging buffer of output window 19, through which its contents are stated (`View.read_writes_of_cover`: the
    choice does not matter). -/
abbrev VO0_19 : View sig .tc .vmem S1x4x128x128 .f32 := (Memref.whole cc0_stg19_0 : Memref sig .tc .vmem S1x4x128x128 .f32).view
/-- Each window's current staging memref at point `t`, spelled as the pipeline passes it (`bodyAt0`), and its wholeness. -/
abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x5632 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x1024 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x1024 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x1024 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S32x2816 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S32x2816 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S128x1024 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x512x1024 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x16x256 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S1x4x128x128 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S32x2816 .bf16 := win0_20.stage (cfg0.slots t 20)
abbrev hs20 (t : Fin cfg0.N) : (ms20 t).IsWhole := hstage0_20 ((cfg0.slots t 20).cast nbuf0_20)
abbrev ms21 (t : Fin cfg0.N) : Memref sig .tc .vmem S32x2816 .bf16 := win0_21.stage (cfg0.slots t 21)
abbrev hs21 (t : Fin cfg0.N) : (ms21 t).IsWhole := hstage0_21 ((cfg0.slots t 21).cast nbuf0_21)
abbrev ms22 (t : Fin cfg0.N) : Memref sig .tc .vmem S128x1024 .bf16 := win0_22.stage (cfg0.slots t 22)
abbrev hs22 (t : Fin cfg0.N) : (ms22 t).IsWhole := hstage0_22 ((cfg0.slots t 22).cast nbuf0_22)
/-- The scratch operands: whole scoped buffers of the kernel's own, passed beside the windows. -/
abbrev scM0_0 : Memref sig .tc .vmem S4x128x128 .f32 := Memref.whole cc0_scratch0
abbrev scM0_1 : Memref sig .tc .vmem S16x256 .f32 := Memref.whole cc0_scratch1
/-- The scratch `arg25` the kernel carries between points, as a view: what it holds is stated through it. -/
abbrev VS0_0 : View sig .tc .vmem S4x128x128 .f32 := scM0_0.view
/-- The scratch `arg26` the kernel carries between points, as a view: what it holds is stated through it. -/
abbrev VS0_1 : View sig .tc .vmem S16x256 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Mix

end
-- ==== Proof.MixerRunInit.lean ====
/- The mixer's kernel run once at the first step of a sequence (the carried states are set to zero first). -/
module

public import proofs.«01_k».proof.Proof.MixerBase
public import Idealize.ShloMosaic.Lib.Claim
public import Idealize.ShloMosaic.Lib.Pipeline.Value

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in set_option sl_exec.squeezeSlice true in
/-- The kernel's body at the first step of a sequence (the carried states are set to zero first), on whole staging buffers: what it stores into each buffer, as pieces (last first), with
    the proof that it runs and leaves exactly them; the arrays cast on the side are left at some contents, stored or not. -/
def runInit (c : Dev nD) (i : grid0.Coords) (arg2 : Memref sig .tc .vmem S1x512x1024 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S2x512 .f32) (harg5 : arg5.IsWhole) (arg6 : Memref sig .tc .vmem S1024x5632 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S256x1024 .bf16) (harg10 : arg10.IsWhole) (arg11 : Memref sig .tc .vmem S512x1024 .bf16) (harg11 : arg11.IsWhole) (arg12 : Memref sig .tc .vmem S256x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S32x2816 .f32) (harg16 : arg16.IsWhole) (arg17 : Memref sig .tc .vmem S32x2816 .f32) (harg17 : arg17.IsWhole) (arg18 : Memref sig .tc .vmem S128x1024 .f32) (harg18 : arg18.IsWhole) (arg19 : Memref sig .tc .vmem S1x512x1024 .f32) (harg19 : arg19.IsWhole) (arg20 : Memref sig .tc .vmem S1x16x256 .f32) (harg20 : arg20.IsWhole) (arg21 : Memref sig .tc .vmem S1x4x128x128 .f32) (harg21 : arg21.IsWhole) (arg22 : Memref sig .tc .vmem S32x2816 .bf16) (harg22 : arg22.IsWhole) (arg23 : Memref sig .tc .vmem S32x2816 .bf16) (harg23 : arg23.IsWhole) (arg24 : Memref sig .tc .vmem S128x1024 .bf16) (harg24 : arg24.IsWhole) (arg25 : Memref sig .tc .vmem S4x128x128 .f32) (harg25 : arg25.IsWhole) (arg26 : Memref sig .tc .vmem S16x256 .f32) (harg26 : arg26.IsWhole) (hc0 : cond0_0 i) (hc1 : cond0_1 i) (hc3 : cond0_3 i) (hc4 : ¬cond0_4 i)
    (x0 : Vec F S1x512x1024 .f32) (x1 : Vec F S1x256x256 .f32) (x2 : Vec F S1x256x256 .f32) (x3 : Vec F S2x512 .f32) (x4 : Vec F S1024x5632 .bf16) (x5 : Vec F S256x256 .bf16) (x6 : Vec F S1x256 .f32) (x7 : Vec F S1x512 .f32) (x8 : Vec F S256x1024 .bf16) (x9 : Vec F S512x1024 .bf16) (x10 : Vec F S256x1024 .bf16) (x11 : Vec F S1024x1024 .bf16) (x12 : Vec F S1x1024 .f32) (x13 : Vec F S1x1024 .f32) (x14 : Vec F S32x2816 .f32) (x15 : Vec F S32x2816 .f32) (x16 : Vec F S128x1024 .f32) :
    Σ' (L17 : List (View.Piece (Elt F) S1x512x1024 .f32)), Σ' (L18 : List (View.Piece (Elt F) S1x16x256 .f32)), Σ' (L19 : List (View.Piece (Elt F) S1x4x128x128 .f32)), Σ' (LS0 : List (View.Piece (Elt F) S4x128x128 .f32)), { LS1 : List (View.Piece (Elt F) S16x256 .f32) //
      ∀ (xi18 : Vec F S1x16x256 .f32) (xi19 : Vec F S1x4x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ owns (c : Thread nD τ) arg20 fullShare xi18 ∗ owns (c : Thread nD τ) arg21 fullShare xi19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ owns (c : Thread nD τ) arg20 fullShare xi18 ∗ owns (c : Thread nD τ) arg21 fullShare xi19 ∗ (∃ d, owns (c : Thread nD τ) arg22 fullShare d) ∗ (∃ d, owns (c : Thread nD τ) arg23 fullShare d) ∗ (∃ d, owns (c : Thread nD τ) arg24 fullShare d) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, [], [], ?_, ?_, fun xi18 xi19 E K => ?run⟩
  case run =>
    simp only [cc0_mixer_prompt_eq_skeleton]; unfold cc0_mixer_prompt_skel
    simp only [k0_part28_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%f18, %hf18, H18⟩, ⟨%f19, %hf19, H19⟩, ⟨%d20, %f20, -, H20⟩, ⟨%d21, %f21, -, H21⟩, ⟨%d22, %f22, -, H22⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg20.eq_unread hf18; obtain rfl := harg21.eq_unread hf19
    by_cases hc2 : cond0_2 i
    all_goals
      sl_exec (disch := first | sl_exact hc0 | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]; · iexists _; iexact H17
      isplitl [H18]
      · iexists _; isplitr; · ipureintro; exact harg20.read_unread _
        iexact H18
      isplitl [H19]
      · iexists _; isplitr; · ipureintro; exact harg21.read_unread _
        iexact H19
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [HS0]; · iexists _; iexact HS0
      iexists _; iexact HS1

end Cert.KernelIdeal.Mix

end
-- ==== Proof.MixerRunMid.lean ====
/- The mixer's kernel run once at a middle step of a sequence. -/
module

public import proofs.«01_k».proof.Proof.MixerRunInit
public import Idealize.ShloMosaic.Lib.Claim
public import Idealize.ShloMosaic.Lib.Pipeline.Value

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in set_option sl_exec.squeezeSlice true in
/-- The kernel's body at a middle step of a sequence, on whole staging buffers: what it stores into each buffer, as pieces (last first), with
    the proof that it runs and leaves exactly them; the arrays cast on the side are left at some contents, stored or not. -/
def runMid (c : Dev nD) (i : grid0.Coords) (arg2 : Memref sig .tc .vmem S1x512x1024 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S2x512 .f32) (harg5 : arg5.IsWhole) (arg6 : Memref sig .tc .vmem S1024x5632 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S256x1024 .bf16) (harg10 : arg10.IsWhole) (arg11 : Memref sig .tc .vmem S512x1024 .bf16) (harg11 : arg11.IsWhole) (arg12 : Memref sig .tc .vmem S256x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S32x2816 .f32) (harg16 : arg16.IsWhole) (arg17 : Memref sig .tc .vmem S32x2816 .f32) (harg17 : arg17.IsWhole) (arg18 : Memref sig .tc .vmem S128x1024 .f32) (harg18 : arg18.IsWhole) (arg19 : Memref sig .tc .vmem S1x512x1024 .f32) (harg19 : arg19.IsWhole) (arg20 : Memref sig .tc .vmem S1x16x256 .f32) (harg20 : arg20.IsWhole) (arg21 : Memref sig .tc .vmem S1x4x128x128 .f32) (harg21 : arg21.IsWhole) (arg22 : Memref sig .tc .vmem S32x2816 .bf16) (harg22 : arg22.IsWhole) (arg23 : Memref sig .tc .vmem S32x2816 .bf16) (harg23 : arg23.IsWhole) (arg24 : Memref sig .tc .vmem S128x1024 .bf16) (harg24 : arg24.IsWhole) (arg25 : Memref sig .tc .vmem S4x128x128 .f32) (harg25 : arg25.IsWhole) (arg26 : Memref sig .tc .vmem S16x256 .f32) (harg26 : arg26.IsWhole) (hc0 : cond0_0 i) (hc1 : cond0_1 i) (hc3 : ¬cond0_3 i) (hc4 : ¬cond0_4 i)
    (x0 : Vec F S1x512x1024 .f32) (x1 : Vec F S1x256x256 .f32) (x2 : Vec F S1x256x256 .f32) (x3 : Vec F S2x512 .f32) (x4 : Vec F S1024x5632 .bf16) (x5 : Vec F S256x256 .bf16) (x6 : Vec F S1x256 .f32) (x7 : Vec F S1x512 .f32) (x8 : Vec F S256x1024 .bf16) (x9 : Vec F S512x1024 .bf16) (x10 : Vec F S256x1024 .bf16) (x11 : Vec F S1024x1024 .bf16) (x12 : Vec F S1x1024 .f32) (x13 : Vec F S1x1024 .f32) (x14 : Vec F S32x2816 .f32) (x15 : Vec F S32x2816 .f32) (x16 : Vec F S128x1024 .f32) (xs0 : Vec F S4x128x128 .f32) (xs1 : Vec F S16x256 .f32) :
    Σ' (L17 : List (View.Piece (Elt F) S1x512x1024 .f32)), Σ' (L18 : List (View.Piece (Elt F) S1x16x256 .f32)), Σ' (L19 : List (View.Piece (Elt F) S1x4x128x128 .f32)), Σ' (LS0 : List (View.Piece (Elt F) S4x128x128 .f32)), { LS1 : List (View.Piece (Elt F) S16x256 .f32) //
      ∀ (xi18 : Vec F S1x16x256 .f32) (xi19 : Vec F S1x4x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ owns (c : Thread nD τ) arg20 fullShare xi18 ∗ owns (c : Thread nD τ) arg21 fullShare xi19 ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs0 ∗ owns (c : Thread nD τ) arg26 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ owns (c : Thread nD τ) arg20 fullShare xi18 ∗ owns (c : Thread nD τ) arg21 fullShare xi19 ∗ (∃ d, owns (c : Thread nD τ) arg22 fullShare d) ∗ (∃ d, owns (c : Thread nD τ) arg23 fullShare d) ∗ (∃ d, owns (c : Thread nD τ) arg24 fullShare d) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, [], [], ?_, ?_, fun xi18 xi19 E K => ?run⟩
  case run =>
    simp only [cc0_mixer_prompt_eq_skeleton]; unfold cc0_mixer_prompt_skel
    simp only [k0_part28_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%f18, %hf18, H18⟩, ⟨%f19, %hf19, H19⟩, ⟨%d20, %f20, -, H20⟩, ⟨%d21, %f21, -, H21⟩, ⟨%d22, %f22, -, H22⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg20.eq_unread hf18; obtain rfl := harg21.eq_unread hf19; obtain rfl := harg25.eq_unread hfs0; obtain rfl := harg26.eq_unread hfs1
    by_cases hc2 : cond0_2 i
    all_goals
      sl_exec (disch := first | sl_exact hc0 | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]; · iexists _; iexact H17
      isplitl [H18]
      · iexists _; isplitr; · ipureintro; exact harg20.read_unread _
        iexact H18
      isplitl [H19]
      · iexists _; isplitr; · ipureintro; exact harg21.read_unread _
        iexact H19
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [HS0]; · iexists _; iexact HS0
      iexists _; iexact HS1

end Cert.KernelIdeal.Mix

end
-- ==== Proof.MixerRunLast.lean ====
/- The mixer's kernel run once at the last step of a sequence (the carried states are written out). -/
module

public import proofs.«01_k».proof.Proof.MixerRunMid
public import Idealize.ShloMosaic.Lib.Claim
public import Idealize.ShloMosaic.Lib.Pipeline.Value

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in set_option sl_exec.squeezeSlice true in
/-- The kernel's body at the last step of a sequence (the carried states are written out), on whole staging buffers: what it stores into each buffer, as pieces (last first), with
    the proof that it runs and leaves exactly them; the arrays cast on the side are left at some contents, stored or not. -/
def runLast (c : Dev nD) (i : grid0.Coords) (arg2 : Memref sig .tc .vmem S1x512x1024 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S2x512 .f32) (harg5 : arg5.IsWhole) (arg6 : Memref sig .tc .vmem S1024x5632 .bf16) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x512 .f32) (harg9 : arg9.IsWhole) (arg10 : Memref sig .tc .vmem S256x1024 .bf16) (harg10 : arg10.IsWhole) (arg11 : Memref sig .tc .vmem S512x1024 .bf16) (harg11 : arg11.IsWhole) (arg12 : Memref sig .tc .vmem S256x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S32x2816 .f32) (harg16 : arg16.IsWhole) (arg17 : Memref sig .tc .vmem S32x2816 .f32) (harg17 : arg17.IsWhole) (arg18 : Memref sig .tc .vmem S128x1024 .f32) (harg18 : arg18.IsWhole) (arg19 : Memref sig .tc .vmem S1x512x1024 .f32) (harg19 : arg19.IsWhole) (arg20 : Memref sig .tc .vmem S1x16x256 .f32) (harg20 : arg20.IsWhole) (arg21 : Memref sig .tc .vmem S1x4x128x128 .f32) (harg21 : arg21.IsWhole) (arg22 : Memref sig .tc .vmem S32x2816 .bf16) (harg22 : arg22.IsWhole) (arg23 : Memref sig .tc .vmem S32x2816 .bf16) (harg23 : arg23.IsWhole) (arg24 : Memref sig .tc .vmem S128x1024 .bf16) (harg24 : arg24.IsWhole) (arg25 : Memref sig .tc .vmem S4x128x128 .f32) (harg25 : arg25.IsWhole) (arg26 : Memref sig .tc .vmem S16x256 .f32) (harg26 : arg26.IsWhole) (hc0 : cond0_0 i) (hc1 : cond0_1 i) (hc3 : ¬cond0_3 i) (hc4 : cond0_4 i)
    (x0 : Vec F S1x512x1024 .f32) (x1 : Vec F S1x256x256 .f32) (x2 : Vec F S1x256x256 .f32) (x3 : Vec F S2x512 .f32) (x4 : Vec F S1024x5632 .bf16) (x5 : Vec F S256x256 .bf16) (x6 : Vec F S1x256 .f32) (x7 : Vec F S1x512 .f32) (x8 : Vec F S256x1024 .bf16) (x9 : Vec F S512x1024 .bf16) (x10 : Vec F S256x1024 .bf16) (x11 : Vec F S1024x1024 .bf16) (x12 : Vec F S1x1024 .f32) (x13 : Vec F S1x1024 .f32) (x14 : Vec F S32x2816 .f32) (x15 : Vec F S32x2816 .f32) (x16 : Vec F S128x1024 .f32) (xs0 : Vec F S4x128x128 .f32) (xs1 : Vec F S16x256 .f32) :
    Σ' (L17 : List (View.Piece (Elt F) S1x512x1024 .f32)), Σ' (L18 : List (View.Piece (Elt F) S1x16x256 .f32)), Σ' (L19 : List (View.Piece (Elt F) S1x4x128x128 .f32)), Σ' (LS0 : List (View.Piece (Elt F) S4x128x128 .f32)), { LS1 : List (View.Piece (Elt F) S16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs0 ∗ owns (c : Thread nD τ) arg26 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ d, owns (c : Thread nD τ) arg22 fullShare d) ∗ (∃ d, owns (c : Thread nD τ) arg23 fullShare d) ∗ (∃ d, owns (c : Thread nD τ) arg24 fullShare d) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1)) -∗ K ⟨⟩))
          ⊢ wp frame (wpE (defs₀ (F := F)) Variants.none c none) E (cc0_mixer_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, fun E K => ?run⟩
  case run =>
    simp only [cc0_mixer_prompt_eq_skeleton]; unfold cc0_mixer_prompt_skel
    simp only [k0_part28_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg25.eq_unread hfs0; obtain rfl := harg26.eq_unread hfs1
    by_cases hc2 : cond0_2 i
    all_goals
      sl_exec (disch := first | sl_exact hc0 | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]; · iexists _; iexact H17
      isplitl [H18]; · iexists _; iexact H18
      isplitl [H19]; · iexists _; iexact H19
      isplitl [H20]
      · iexists _, _; isplitr; swap; · iexact H20
        ipureintro; rfl
      isplitl [H21]
      · iexists _, _; isplitr; swap; · iexact H21
        ipureintro; rfl
      isplitl [H22]
      · iexists _, _; isplitr; swap; · iexact H22
        ipureintro; rfl
      isplitl [HS0]; · iexists _; iexact HS0
      iexists _; iexact HS1

end Cert.KernelIdeal.Mix

end
-- ==== Proof.MixerPoint.lean ====
/- What the mixer's kernel leaves in its buffers at each grid point. -/
module

public import proofs.«01_k».proof.Proof.MixerRunLast
public import Idealize.ShloMosaic.Lib.Claim
public import Idealize.ShloMosaic.Lib.Pipeline.Value

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer holds after the body's stores: the pieces read back over anything. -/
def back17 (L : List (View.Piece (Elt F) S1x512x1024 .f32)) : Vec F S1x512x1024 .f32 := VO0_17.read (Elt F) (VO0_17.writes (Elt F) VO0_17.junk L)
@[inherit_doc back17] def back18 (L : List (View.Piece (Elt F) S1x16x256 .f32)) : Vec F S1x16x256 .f32 := VO0_18.read (Elt F) (VO0_18.writes (Elt F) VO0_18.junk L)
@[inherit_doc back17] def back19 (L : List (View.Piece (Elt F) S1x4x128x128 .f32)) : Vec F S1x4x128x128 .f32 := VO0_19.read (Elt F) (VO0_19.writes (Elt F) VO0_19.junk L)
@[inherit_doc back17] def backState (L : List (View.Piece (Elt F) S4x128x128 .f32)) : Vec F S4x128x128 .f32 := VS0_0.read (Elt F) (VS0_0.writes (Elt F) VS0_0.junk L)
@[inherit_doc back17] def backPool (L : List (View.Piece (Elt F) S16x256 .f32)) : Vec F S16x256 .f32 := VS0_1.read (Elt F) (VS0_1.writes (Elt F) VS0_1.junk L)

/-- The five buffers after one grid point: output rows, pool window, states written out, carried states, carried pool rows. -/
abbrev After (F : FTy → Type) [FloatOps F] : Type :=
  Vec F S1x512x1024 .f32 × Vec F S1x16x256 .f32 × Vec F S1x4x128x128 .f32 × Vec F S4x128x128 .f32 × Vec F S16x256 .f32

/-- The run of the first step at point `t`, on the point's buffers and blocks. -/
abbrev atInit (c : Dev nD) (t : Fin cfg0.N) (h3 : t.val % 4 = 0) :=
  runInit (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) scM0_0 (Memref.isWhole_whole _) scM0_1 (Memref.isWhole_whole _) (hcond0_0 t) (hcond0_1 t) ((hcond0_3 t).mpr h3) (fun h => absurd ((hcond0_4 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

theorem coverInit17 (c : Dev nD) (t : Fin cfg0.N) (h3 : t.val % 4 = 0) (y) :
    ∃ pc ∈ (atInit m c t h3).1, y ∈ pc.1.set :=
  View.cover_of_tiledL _ ![1, 256, 1024] (by sl_kernel_rfl) y

theorem coverInitState (c : Dev nD) (t : Fin cfg0.N) (h3 : t.val % 4 = 0) (y) :
    ∃ pc ∈ (atInit m c t h3).2.2.2.1, y ∈ pc.1.set :=
  View.cover_of_tiledL _ ![1, 128, 128] (by sl_kernel_rfl) y

theorem coverInitPool (c : Dev nD) (t : Fin cfg0.N) (h3 : t.val % 4 = 0) (y) :
    ∃ pc ∈ (atInit m c t h3).2.2.2.2.1, y ∈ pc.1.set :=
  View.cover_of_tiledL _ ![16, 256] (by sl_kernel_rfl) y

/-- What the first step leaves. -/
def afterInit (c : Dev nD) (t : Fin cfg0.N) (h3 : t.val % 4 = 0) : After F :=
  let r := atInit m c t h3
  (back17 r.1, back18 r.2.1, back19 r.2.2.1, backState r.2.2.2.1, backPool r.2.2.2.2.1)

/-- The run of a middle step at point `t`, on the point's buffers and blocks. -/
abbrev atMid (c : Dev nD) (t : Fin cfg0.N) (h3 : ¬ t.val % 4 = 0) (h4 : ¬ t.val % 4 = 3) (xs0 : Vec F S4x128x128 .f32) (xs1 : Vec F S16x256 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) scM0_0 (Memref.isWhole_whole _) scM0_1 (Memref.isWhole_whole _) (hcond0_0 t) (hcond0_1 t) (fun h => h3 ((hcond0_3 t).mp h)) (fun h => h4 ((hcond0_4 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) xs0 xs1

theorem coverMid17 (c : Dev nD) (t : Fin cfg0.N) (h3 : ¬ t.val % 4 = 0) (h4 : ¬ t.val % 4 = 3) (xs0 : Vec F S4x128x128 .f32) (xs1 : Vec F S16x256 .f32) (y) :
    ∃ pc ∈ (atMid m c t h3 h4 xs0 xs1).1, y ∈ pc.1.set :=
  View.cover_of_tiledL _ ![1, 256, 1024] (by sl_kernel_rfl) y

theorem coverMidState (c : Dev nD) (t : Fin cfg0.N) (h3 : ¬ t.val % 4 = 0) (h4 : ¬ t.val % 4 = 3) (xs0 : Vec F S4x128x128 .f32) (xs1 : Vec F S16x256 .f32) (y) :
    ∃ pc ∈ (atMid m c t h3 h4 xs0 xs1).2.2.2.1, y ∈ pc.1.set :=
  View.cover_of_tiledL _ ![1, 128, 128] (by sl_kernel_rfl) y

theorem coverMidPool (c : Dev nD) (t : Fin cfg0.N) (h3 : ¬ t.val % 4 = 0) (h4 : ¬ t.val % 4 = 3) (xs0 : Vec F S4x128x128 .f32) (xs1 : Vec F S16x256 .f32) (y) :
    ∃ pc ∈ (atMid m c t h3 h4 xs0 xs1).2.2.2.2.1, y ∈ pc.1.set :=
  View.cover_of_tiledL _ ![16, 256] (by sl_kernel_rfl) y

/-- What a middle step leaves. -/
def afterMid (c : Dev nD) (t : Fin cfg0.N) (h3 : ¬ t.val % 4 = 0) (h4 : ¬ t.val % 4 = 3) (xs0 : Vec F S4x128x128 .f32) (xs1 : Vec F S16x256 .f32) : After F :=
  let r := atMid m c t h3 h4 xs0 xs1
  (back17 r.1, back18 r.2.1, back19 r.2.2.1, backState r.2.2.2.1, backPool r.2.2.2.2.1)

/-- The run of the last step at point `t`, on the point's buffers and blocks. -/
abbrev atLast (c : Dev nD) (t : Fin cfg0.N) (h4 : t.val % 4 = 3) (xs0 : Vec F S4x128x128 .f32) (xs1 : Vec F S16x256 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) scM0_0 (Memref.isWhole_whole _) scM0_1 (Memref.isWhole_whole _) (hcond0_0 t) (hcond0_1 t) (fun h => absurd ((hcond0_3 t).mp h) (by omega)) ((hcond0_4 t).mpr h4) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) xs0 xs1

theorem coverLast17 (c : Dev nD) (t : Fin cfg0.N) (h4 : t.val % 4 = 3) (xs0 : Vec F S4x128x128 .f32) (xs1 : Vec F S16x256 .f32) (y) :
    ∃ pc ∈ (atLast m c t h4 xs0 xs1).1, y ∈ pc.1.set :=
  View.cover_of_tiledL _ ![1, 256, 1024] (by sl_kernel_rfl) y

theorem coverLast18 (c : Dev nD) (t : Fin cfg0.N) (h4 : t.val % 4 = 3) (xs0 : Vec F S4x128x128 .f32) (xs1 : Vec F S16x256 .f32) (y) :
    ∃ pc ∈ (atLast m c t h4 xs0 xs1).2.1, y ∈ pc.1.set :=
  View.cover_of_tiledL _ ![1, 16, 256] (by sl_kernel_rfl) y

theorem coverLast19 (c : Dev nD) (t : Fin cfg0.N) (h4 : t.val % 4 = 3) (xs0 : Vec F S4x128x128 .f32) (xs1 : Vec F S16x256 .f32) (y) :
    ∃ pc ∈ (atLast m c t h4 xs0 xs1).2.2.1, y ∈ pc.1.set :=
  View.cover_of_tiledL _ ![1, 1, 128, 128] (by sl_kernel_rfl) y

theorem coverLastState (c : Dev nD) (t : Fin cfg0.N) (h4 : t.val % 4 = 3) (xs0 : Vec F S4x128x128 .f32) (xs1 : Vec F S16x256 .f32) (y) :
    ∃ pc ∈ (atLast m c t h4 xs0 xs1).2.2.2.1, y ∈ pc.1.set :=
  View.cover_of_tiledL _ ![1, 128, 128] (by sl_kernel_rfl) y

theorem coverLastPool (c : Dev nD) (t : Fin cfg0.N) (h4 : t.val % 4 = 3) (xs0 : Vec F S4x128x128 .f32) (xs1 : Vec F S16x256 .f32) (y) :
    ∃ pc ∈ (atLast m c t h4 xs0 xs1).2.2.2.2.1, y ∈ pc.1.set :=
  View.cover_of_tiledL _ ![16, 256] (by sl_kernel_rfl) y

/-- What the last step leaves. -/
def afterLast (c : Dev nD) (t : Fin cfg0.N) (h4 : t.val % 4 = 3) (xs0 : Vec F S4x128x128 .f32) (xs1 : Vec F S16x256 .f32) : After F :=
  let r := atLast m c t h4 xs0 xs1
  (back17 r.1, back18 r.2.1, back19 r.2.2.1, backState r.2.2.2.1, backPool r.2.2.2.2.1)

/-- What the buffers hold after the body at position `n`: a sequence's first step starts afresh, every other step goes on
    from the carried states and pool rows of the step before. -/
def outsAt (c : Dev nD) : (n : ℕ) → n < cfg0.N → After F
  | 0, hn => afterInit m c ⟨0, hn⟩ (Nat.zero_mod _)
  | n + 1, hn =>
    if h3 : (n + 1) % 4 = 0 then afterInit m c ⟨n + 1, hn⟩ h3
    else if h4 : (n + 1) % 4 = 3 then
      afterLast m c ⟨n + 1, hn⟩ h4 (outsAt c n (Nat.lt_of_succ_lt hn)).2.2.2.1 (outsAt c n (Nat.lt_of_succ_lt hn)).2.2.2.2
    else afterMid m c ⟨n + 1, hn⟩ h3 h4 (outsAt c n (Nat.lt_of_succ_lt hn)).2.2.2.1 (outsAt c n (Nat.lt_of_succ_lt hn)).2.2.2.2

theorem outsAt_Init (c : Dev nD) (t : Fin cfg0.N) (h3 : t.val % 4 = 0) : outsAt m c t.val t.isLt = afterInit m c t h3 := by
  obtain ⟨n, hn⟩ := t
  cases n with
  | zero => exact rfl
  | succ n => exact dif_pos h3

/-- What the point before `t` left. -/
abbrev prev (c : Dev nD) (t : Fin cfg0.N) : After F := outsAt m c (t.val - 1) (Nat.lt_of_le_of_lt (Nat.sub_le _ _) t.isLt)

theorem outsAt_Mid (c : Dev nD) (t : Fin cfg0.N) (h3 : ¬ t.val % 4 = 0) (h4 : ¬ t.val % 4 = 3) :
    outsAt m c t.val t.isLt = afterMid m c t h3 h4 (prev m c t).2.2.2.1 (prev m c t).2.2.2.2 := by
  obtain ⟨n, hn⟩ := t
  cases n with
  | zero => exact absurd (Nat.zero_mod _) h3
  | succ n => exact (dif_neg h3).trans (dif_neg h4)

theorem outsAt_Last (c : Dev nD) (t : Fin cfg0.N) (h4 : t.val % 4 = 3) :
    outsAt m c t.val t.isLt = afterLast m c t h4 (prev m c t).2.2.2.1 (prev m c t).2.2.2.2 := by
  obtain ⟨n, hn⟩ := t
  cases n with
  | zero => exact absurd (show 0 % 4 = 3 from h4) (by decide)
  | succ n => exact (dif_neg (by have h : (n + 1) % 4 = 3 := h4; omega)).trans (dif_pos h4)

end Cert.KernelIdeal.Mix

end
-- ==== Proof.MixerFrame.lean ====
/- The mixer's launch: every run ends, leaves its arguments as they were, and its result arrays hold what the grid points left. -/
module

public import proofs.«01_k».proof.Proof.MixerPoint
public import Idealize.ShloMosaic.Lib.Claim
public import Idealize.ShloMosaic.Lib.Pipeline.Value

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's invariant between points: the two carried buffers at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.1) ∗ owns (c : Thread nD τ) scM0_1 fullShare ((outsAt m c n hn).2.2.2.2)) ∗ (∃ r, prngReg c r))

theorem PhiS_succ (c : Dev nD) (n : ℕ) (hn : n < cfg0.N) :
    PhiS m c (n + 1) hn = iprop(iprop(owns (c : Thread nD τ) scM0_0 fullShare ((outsAt m c n hn).2.2.2.1) ∗ owns (c : Thread nD τ) scM0_1 fullShare ((outsAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.2.2.1) ∗ owns (c : Thread nD τ) scM0_1 fullShare ((outsAt m c (n - 1) (by omega)).2.2.2.2)) ∗ (∃ r, prngReg c r)) := by
  cases n with
  | zero => exact absurd rfl hz
  | succ n => rfl

/-- At any point the contents may be forgotten. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨HS0, HS1⟩, Hg⟩
    isplitl [HS0 HS1]
    · isplitl [HS0]
      · iexists _; iexact HS0
      iexists _; iexact HS1
    iexact Hg

/-- The three weight casts made on the side (windows 20, 21, 22) are not described. -/
def forgets0 : Fin 23 → Bool := fun w => w.val == 20 || w.val == 21 || w.val == 22

/-- What every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt m c t.val t.isLt).1
    | ⟨18, _⟩ => (outsAt m c t.val t.isLt).2.1
    | ⟨19, _⟩ => (outsAt m c t.val t.isLt).2.2.1
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨_ + 23, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = (outsAt m c t.val t.isLt).1 := by dsimp only [dats]
theorem after18 (c : Dev nD) (t : Fin cfg0.N) : (dats m 0 c).after 18 t = (outsAt m c t.val t.isLt).2.1 := by dsimp only [dats]
theorem after19 (c : Dev nD) (t : Fin cfg0.N) : (dats m 0 c).after 19 t = (outsAt m c t.val t.isLt).2.2.1 := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d
theorem before14 (c : Dev nD) (t : Fin cfg0.N) (d) : (dats m 0 c).before 14 t d = iblk m c 14 t := before0_14_of m (dats m 0 c) (A_eq m c 14) (after14 m c) t d
theorem before15 (c : Dev nD) (t : Fin cfg0.N) (d) : (dats m 0 c).before 15 t d = iblk m c 15 t := before0_15_of m (dats m 0 c) (A_eq m c 15) (after15 m c) t d
theorem before16 (c : Dev nD) (t : Fin cfg0.N) (d) : (dats m 0 c).before 16 t d = iblk m c 16 t := before0_16_of m (dats m 0 c) (A_eq m c 16) (after16 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]
theorem leaves8 (c : Dev nD) (t : Fin cfg0.N) : (dats m 0 c).leavesExact 8 t = owns (c : Thread nD τ) (ms8 t) fullShare (iblk m c 8 t) := by
  unfold Dat.leavesExact; rw [live8 t, after8]
theorem leaves9 (c : Dev nD) (t : Fin cfg0.N) : (dats m 0 c).leavesExact 9 t = owns (c : Thread nD τ) (ms9 t) fullShare (iblk m c 9 t) := by
  unfold Dat.leavesExact; rw [live9 t, after9]
theorem leaves10 (c : Dev nD) (t : Fin cfg0.N) : (dats m 0 c).leavesExact 10 t = owns (c : Thread nD τ) (ms10 t) fullShare (iblk m c 10 t) := by
  unfold Dat.leavesExact; rw [live10 t, after10]
theorem leaves11 (c : Dev nD) (t : Fin cfg0.N) : (dats m 0 c).leavesExact 11 t = owns (c : Thread nD τ) (ms11 t) fullShare (iblk m c 11 t) := by
  unfold Dat.leavesExact; rw [live11 t, after11]
theorem leaves12 (c : Dev nD) (t : Fin cfg0.N) : (dats m 0 c).leavesExact 12 t = owns (c : Thread nD τ) (ms12 t) fullShare (iblk m c 12 t) := by
  unfold Dat.leavesExact; rw [live12 t, after12]
theorem leaves13 (c : Dev nD) (t : Fin cfg0.N) : (dats m 0 c).leavesExact 13 t = owns (c : Thread nD τ) (ms13 t) fullShare (iblk m c 13 t) := by
  unfold Dat.leavesExact; rw [live13 t, after13]
theorem leaves14 (c : Dev nD) (t : Fin cfg0.N) : (dats m 0 c).leavesExact 14 t = owns (c : Thread nD τ) (ms14 t) fullShare (iblk m c 14 t) := by
  unfold Dat.leavesExact; rw [live14 t, after14]
theorem leaves15 (c : Dev nD) (t : Fin cfg0.N) : (dats m 0 c).leavesExact 15 t = owns (c : Thread nD τ) (ms15 t) fullShare (iblk m c 15 t) := by
  unfold Dat.leavesExact; rw [live15 t, after15]
theorem leaves16 (c : Dev nD) (t : Fin cfg0.N) : (dats m 0 c).leavesExact 16 t = owns (c : Thread nD τ) (ms16 t) fullShare (iblk m c 16 t) := by
  unfold Dat.leavesExact; rw [live16 t, after16]
theorem leaves17 (c : Dev nD) (t : Fin cfg0.N) : (dats m 0 c).leavesExact 17 t = owns (c : Thread nD τ) (ms17 t) fullShare ((outsAt m c t.val t.isLt).1) := by
  unfold Dat.leavesExact; rw [live17 t, after17]
theorem leaves18 (c : Dev nD) (t : Fin cfg0.N) (h4 : t.val % 4 = 3) : (dats m 0 c).leavesExact 18 t = owns (c : Thread nD τ) (ms18 t) fullShare ((outsAt m c t.val t.isLt).2.1) := by
  unfold Dat.leavesExact; rw [(live_out t h4).1, after18]
theorem leaves19 (c : Dev nD) (t : Fin cfg0.N) (h4 : t.val % 4 = 3) : (dats m 0 c).leavesExact 19 t = owns (c : Thread nD τ) (ms19 t) fullShare ((outsAt m c t.val t.isLt).2.2.1) := by
  unfold Dat.leavesExact; rw [(live_out t h4).2, after19]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare d)
    ∗ (∃ d, owns (c : Thread nD τ) (ms21 t) fullShare d)
    ∗ (∃ d, owns (c : Thread nD τ) (ms22 t) fullShare d))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms20 t) fullShare d)
    ∗ (∃ d, owns (c : Thread nD τ) (ms21 t) fullShare d)
    ∗ (∃ d, owns (c : Thread nD τ) (ms22 t) fullShare d))

set_option maxHeartbeats 57600000 in
/-- The body at a first point of a batch row: its run, the invariant handing it the carried buffers and taking them back. -/
theorem soundInit (c : Dev nD) (t : Fin cfg0.N) (h3 : t.val % 4 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, leaves1, leaves2, leaves3, leaves4, leaves5, leaves6, leaves7, leaves8, leaves9, leaves10, leaves11, leaves12, leaves13, leaves14, leaves15, leaves16, leaves17]
  have h4 : ¬ t.val % 4 = 3 := by omega
  refine (sep_mono_left (PhiS_any m c t.val (Nat.le_of_lt t.isLt))).trans ?_
  rw [PhiA0_eq]
  rw [Dat.leavesExact_idle (dats m 0 c) 18 t (idle_out t h4).1 (idle_out t h4).2.2.1, Dat.leavesExact_idle (dats m 0 c) 19 t (idle_out t h4).2.1 (idle_out t h4).2.2.2]
  rw [outsAt_Init m c t h3]
  unfold afterInit back17 backState backPool; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((atInit m c t h3).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexact H18
  isplitl [H19]; · iexact H19
  isplitl [H20]; · iexists _; iexact H20
  isplitl [H21]; · iexists _; iexact H21
  isplitl [H22]; · iexists _; iexact H22
  isplitl [HS0]; · iexact HS0
  isplitl [HS1]; · iexact HS1
  iintro ⟨H0, H1, H2, H3, H4, H5, H6, H7, H8, H9, H10, H11, H12, H13, H14, H15, H16, ⟨%e17, H17⟩, H18, H19, H20, H21, H22, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverInitState m c t h3)
      unfold owns; iexists _; isplitr
      swap; · iexact HS1
      ipureintro; exact View.read_writes_of_cover _ _ _ _ _ (coverInitPool m c t h3)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (coverInit17 m c t h3)
  isplitl [H18]; · iexists _; iexact H18
  isplitl [H19]; · iexists _; iexact H19
  isplitl [H20]; · iexact H20
  isplitl [H21]; · iexact H21
  iexact H22

set_option maxHeartbeats 57600000 in
theorem soundMid (c : Dev nD) (t : Fin cfg0.N) (h3 : ¬ t.val % 4 = 0) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, leaves1, leaves2, leaves3, leaves4, leaves5, leaves6, leaves7, leaves8, leaves9, leaves10, leaves11, leaves12, leaves13, leaves14, leaves15, leaves16, leaves17]
  rw [PhiS_pos m c _ _ (by omega)]
  rw [Dat.leavesExact_idle (dats m 0 c) 18 t (idle_out t h4).1 (idle_out t h4).2.2.1, Dat.leavesExact_idle (dats m 0 c) 19 t (idle_out t h4).2.1 (idle_out t h4).2.2.2]
  rw [outsAt_Mid m c t h3 h4]
  unfold afterMid back17 backState backPool; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((atMid m c t h3 h4 (prev m c t).2.2.2.1 (prev m c t).2.2.2.2).2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexact H18
  isplitl [H19]; · iexact H19
  isplitl [H20]; · iexists _; iexact H20
  isplitl [H21]; · iexists _; iexact H21
  isplitl [H22]; · iexists _; iexact H22
  isplitl [HS0]; · iexact HS0
  isplitl [HS1]; · iexact HS1
  iintro ⟨H0, H1, H2, H3, H4, H5, H6, H7, H8, H9, H10, H11, H12, H13, H14, H15, H16, ⟨%e17, H17⟩, H18, H19, H20, H21, H22, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverMidState m c t h3 h4 (prev m c t).2.2.2.1 (prev m c t).2.2.2.2)
      unfold owns; iexists _; isplitr
      swap; · iexact HS1
      ipureintro; exact View.read_writes_of_cover _ _ _ _ _ (coverMidPool m c t h3 h4 (prev m c t).2.2.2.1 (prev m c t).2.2.2.2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (coverMid17 m c t h3 h4 (prev m c t).2.2.2.1 (prev m c t).2.2.2.2)
  isplitl [H18]; · iexists _; iexact H18
  isplitl [H19]; · iexists _; iexact H19
  isplitl [H20]; · iexact H20
  isplitl [H21]; · iexact H21
  iexact H22

set_option maxHeartbeats 57600000 in
theorem soundLast (c : Dev nD) (t : Fin cfg0.N) (h4 : t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).owesAt () t.succ = (dats m 0 c).owesAt () t.castSucc from rfl]
  rw [show (dats m 0 c).Φ t.succ = PhiS m c (t.val + 1) t.isLt from rfl, PhiS_succ, PhiS_castSucc]
  rw [leaves0, leaves1, leaves2, leaves3, leaves4, leaves5, leaves6, leaves7, leaves8, leaves9, leaves10, leaves11, leaves12, leaves13, leaves14, leaves15, leaves16, leaves17]
  rw [PhiS_pos m c _ _ (by omega)]
  rw [leaves18 m c t h4, leaves19 m c t h4]
  rw [outsAt_Last m c t h4]
  unfold afterLast back17 back18 back19 backState backPool; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((atLast m c t h4 (prev m c t).2.2.2.1 (prev m c t).2.2.2.2).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  isplitl [HS1]; · iexact HS1
  iintro ⟨H0, H1, H2, H3, H4, H5, H6, H7, H8, H9, H10, H11, H12, H13, H14, H15, H16, ⟨%e17, H17⟩, ⟨%e18, H18⟩, ⟨%e19, H19⟩, H20, H21, H22, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverLastState m c t h4 (prev m c t).2.2.2.1 (prev m c t).2.2.2.2)
      unfold owns; iexists _; isplitr
      swap; · iexact HS1
      ipureintro; exact View.read_writes_of_cover _ _ _ _ _ (coverLastPool m c t h4 (prev m c t).2.2.2.1 (prev m c t).2.2.2.2)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (coverLast17 m c t h4 (prev m c t).2.2.2.1 (prev m c t).2.2.2.2)
  isplitl [H18]
  · unfold owns; iexists _; isplitr
    swap; · iexact H18
    ipureintro; exact View.read_writes_of_cover _ _ _ _ _ (coverLast18 m c t h4 (prev m c t).2.2.2.1 (prev m c t).2.2.2.2)
  isplitl [H19]
  · unfold owns; iexists _; isplitr
    swap; · iexact H19
    ipureintro; exact View.read_writes_of_cover _ _ _ _ _ (coverLast19 m c t h4 (prev m c t).2.2.2.1 (prev m c t).2.2.2.2)
  isplitl [H20]; · iexact H20
  isplitl [H21]; · iexact H21
  iexact H22

theorem defs₀_row (t : Fin cfg0.N) : defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) Variants.none c none) Set.univ (bodyAt0 t) (fun _ => bodyPost m c t) := by
  by_cases h3 : t.val % 4 = 0
  · exact soundInit m c t h3
  by_cases h4 : t.val % 4 = 3
  · exact soundLast m c t h4
  exact soundMid m c t h3 h4

set_option maxHeartbeats 4000000 in
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The launch: every run of the program ends with each window's array at what the grid points left (nothing said of the
    three casts made on the side), every other buffer as it was, and every semaphore counter at zero. -/
theorem run_all : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

set_option maxHeartbeats 1380000 in
/-- A run that ends so leaves the argument arrays unchanged. -/
theorem kept (r) (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 3 rfl).trans ((A_eq m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    (Pipeline.RDat.FramePost.arr_in h c 14 rfl).trans ((A_eq m c 14).trans (V_main_arg14 m c)),
    (Pipeline.RDat.FramePost.arr_in h c 15 rfl).trans ((A_eq m c 15).trans (V_main_arg15 m c)),
    (Pipeline.RDat.FramePost.arr_in h c 16 rfl).trans ((A_eq m c 16).trans (V_main_arg16 m c))⟩

/-- The argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r hh => ⟨fun c => kept m r hh.1 c, hh.2⟩) (run_all m ρ)

end Cert.KernelIdeal.Mix

end
-- ==== Proof.Pieces.lean ====
/- Reading back what a kernel point's stores left, and what its loads saw: three facts about whole buffers and lists of
   stored pieces, for both calls of this certificate. -/
module

public import Idealize.ShloMosaic.Lib.Pipeline.Frame
public import Idealize.ShloMosaic.Lib.Pipeline.Value
public import Idealize.ShloMosaic.Lib.WholeRead
public import Idealize.ShloMosaic.Lib.Exec.Geometry

@[expose] public section

namespace Cert.Pieces

open Idealize.ShloMosaic

variable {sig : RefSig} {κ : Kind} {sp : Space} {s : Shape} {e : EltTy} {Val : EltTy → Type}

/-- An index that some piece covers reads a value with the property `P`, if every piece that covers the index holds such a
    value at it. -/
theorem read_of_pieces (v : View sig κ sp s e) (f : v.ty.Contents Val) (P : Val e → Prop) (y : s.Idx) :
    ∀ L : List (View.Piece Val s e), (∀ p ∈ L, ∀ x : p.1.shape.Idx, p.1.emb x = y → P (p.2 x)) → (∃ p ∈ L, y ∈ p.1.set) →
      P (v.read Val (v.writes Val f L) y)
  | [], _, hc => absurd hc.choose_spec.1 List.not_mem_nil
  | p :: L, h, hc => by
    by_cases hy : y ∈ p.1.set
    · obtain ⟨x, hx⟩ : ∃ x, p.1.emb x = y := p.1.exists_idx_of_mem hy
      have hp := h p List.mem_cons_self x hx
      subst hx
      rwa [View.read_writes_cons_emb]
    · rw [View.writes_cons, View.read_slice_write_of_not_mem p.1 _ _ _ (by rwa [Rect.map_emb_univ])]
      refine read_of_pieces v f P y L (fun q hq => h q (List.mem_cons_of_mem _ hq)) ?_
      obtain ⟨q, hq, hyq⟩ := hc
      exact ⟨q, (List.mem_cons.mp hq).resolve_left fun hqp => hy (hqp ▸ hyq), hyq⟩

/-- The index of a whole-buffer load is the index itself. -/
theorem idx_whole {off : Fin s.rank → ℕ} (inb : ∀ a, off a + s.size a ≤ s.size a) (x : s.Idx) :
    ((Rect.unit off s.size inb).toLoadRect.idx x : s.Idx) = x :=
  funext fun a => Fin.ext (by
    have h := inb a
    show off a + 1 * (x a).val = (x a).val
    omega)

/-- A load of the whole of a buffer that holds `X` is `X`. -/
theorem load_whole {M : Memref sig κ sp s e} (h : M.IsWhole) (X : s.Idx → Val e) {off : Fin s.rank → ℕ}
    (inb : ∀ a, off a + s.size a ≤ s.size a) :
    (View.readAt Val M.view (Rect.unit off s.size inb).toLoadRect (h.unread X) : s.Idx → Val e) = X :=
  funext fun x => (h.readAt_unread X _ x).trans (congrArg X (idx_whole inb x))

/-- A load of the whole of a buffer right after a store of `w` into the whole of it is `w`. -/
theorem load_stored [∀ e, Nonempty (Val e)] (v : View sig κ sp s e) {off : Fin s.rank → ℕ}
    (inb inb' : ∀ a, off a + s.size a ≤ s.size a) (w : s.Idx → Val e) (L : List (View.Piece Val s e)) :
    (v.readCov ((⟨Rect.unit off s.size inb, w⟩ : View.Piece Val s e) :: L) (Rect.unit off s.size inb').toLoadRect : s.Idx → Val e) = w :=
  funext fun x => by
    show v.read Val (v.writes Val v.junk _) ((Rect.unit off s.size inb').toLoadRect.idx x) = w x
    rw [idx_whole inb' x]
    have hx : (Rect.unit off s.size inb).emb x = x := idx_whole inb x
    exact (congrArg _ hx.symm).trans (View.read_writes_cons_emb v _ (Rect.unit off s.size inb) w L x)

/-- A buffer whose last store was of `w` into the whole of it reads `w`. -/
theorem read_stored (v : View sig κ sp s e) (f : v.ty.Contents Val) {off : Fin s.rank → ℕ} (inb : ∀ a, off a + s.size a ≤ s.size a)
    (w : s.Idx → Val e) (L : List (View.Piece Val s e)) (y : s.Idx) :
    v.read Val (v.writes Val f ((⟨Rect.unit off s.size inb, w⟩ : View.Piece Val s e) :: L)) y = w y := by
  have hx : (Rect.unit off s.size inb).emb y = y := idx_whole inb y
  exact (congrArg _ hx.symm).trans (View.read_writes_cons_emb v _ (Rect.unit off s.size inb) w L y)

end Cert.Pieces
-- ==== Proof.MixerTower.lean ====
/- The values one grid point of the mixer's kernel computes, as functions of what it loads: the point's blocks of the
   arrays and the two buffers it carries from point to point. -/
module

public import proofs.«01_k».proof.Proof.MixerPoint
public import proofs.«01_k».proof.Proof.Pieces

@[expose] public section

set_option maxRecDepth 16384

noncomputable section

namespace Cert.KernelIdeal.Tower

open Cert.KernelIdeal Cert.KernelIdeal.Gen Cert.KernelIdeal.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a grid point loads: its rows `x`, the lower-bound logits, the column groups of the input projection (`wf`, `wq`,
    `wv` for the recurrence's forget, query and input columns, `wu` for the pooling, `wc` for the memory's queries, `wg` for
    the recurrence's output gate, `wa`, `wb`, `wm` for the three branches' gates), the memory's keys and values, the small
    weights, the carried window of the pooling and the carried state of each head, and the step's number in its sequence. -/
structure In (F : FTy → Type) [FloatOps F] where
  x : Vec F S1x512x1024 .f32
  lb : Vec F S2x512 .f32
  wf : Vec F S1024x512 .bf16
  wq : Vec F S1024x512 .bf16
  wv : Vec F S1024x512 .bf16
  wu : Vec F S1024x256 .bf16
  wc : Vec F S1024x256 .bf16
  wg : Vec F S1024x512 .bf16
  wa : Vec F S1024x1024 .bf16
  wb : Vec F S1024x1024 .bf16
  wm : Vec F S1024x1024 .bf16
  pool : Vec F S16x256 .f32
  mkeys : Vec F S1x256x256 .f32
  mvals : Vec F S1x256x256 .f32
  hgg : Vec F S1x512 .f32
  bd : Vec F S256x256 .bf16
  ps : Vec F S1x256 .f32
  wbp : Vec F S256x1024 .bf16
  wbm : Vec F S256x1024 .bf16
  wbh : Vec F S512x1024 .bf16
  wo : Vec F S1024x1024 .bf16
  g : Vec F S1x1024 .f32
  b : Vec F S1x1024 .f32
  s0 : Vec F S1x128x128 .f32
  s1 : Vec F S1x128x128 .f32
  s2 : Vec F S1x128x128 .f32
  s3 : Vec F S1x128x128 .f32
  j : BitVec 32

/-! The values, in the kernel's order. -/

def r (I : In F) : Vec F S512x1024 .f32 := k0_pay12 I.x
def r_1 (I : In F) : Vec F S512x1024 .bf16 := k0_pay13 I.x
def r_2 (I : In F) : Vec F S1x512 .f32 := k0_pay14 I.lb
def r_3 (I : In F) : Vec F S512x512 .f32 := k0_pay15 I.x I.wf
def r_4 (I : In F) : Vec F S512x512 .f32 := k0_pay16 (r_2 I) (r_3 I)
def r_5 (I : In F) : Vec F S512x512 .f32 := k0_pay17 (r_2 I) (r_3 I)
def r_6 (I : In F) : Vec F S512x512 .f32 := k0_pay18 (r_1 I) I.wq
def r_7 (I : In F) : Vec F S512x512 .f32 := k0_pay19 (r_1 I) I.wv
def r_8 (I : In F) : IVec S256x256 1 := k0_pay22 (iota .tc S256x256 32 [0] iota_S256x256_d0_w32) (iota .tc S256x256 32 [1] iota_S256x256_d1_w32) (64#32) k0_pay20 k0_pay21
def r_9 (I : In F) : Vec F S256x256 .bf16 := k0_pay23 (iota .tc S256x256 32 [0] iota_S256x256_d0_w32) (iota .tc S256x256 32 [1] iota_S256x256_d1_w32) (64#32) k0_pay20 k0_pay21
def r_10 (I : In F) : Vec F S256x512 .bf16 := k0_pay27 (r_5 I)
def r_11 (I : In F) : Vec F S256x512 .bf16 := k0_pay28 (r_5 I)
def r_12 (I : In F) : Vec F S256x512 .f32 := k0_pay29 (r_5 I) (iota .tc S256x256 32 [0] iota_S256x256_d0_w32) (iota .tc S256x256 32 [1] iota_S256x256_d1_w32) (64#32) k0_pay20 k0_pay21
def r_13 (I : In F) : Vec F S512x512 .f32 := k0_pay30 (r_5 I) (r_9 I) (r_10 I) (r_11 I) (r_12 I)
def r_14 (I : In F) : Vec F S512x256 .f32 := k0_pay31 (r_1 I) I.wu
def r_15 (I : In F) : Vec F S512x256 .f32 := k0_pay32 (r_1 I) I.wc
def r_16 (I : In F) : Vec F S512x512 .f32 := k0_pay33 (r_1 I) I.wg
def r_17 (I : In F) : Vec F S512x1024 .f32 := k0_pay34 (r_1 I) I.wa
def r_18 (I : In F) : Vec F S528x256 .f32 := k0_pay35 (r_1 I) I.wu I.pool
def r_19 (I : In F) : IVec S512x256 32 := k0_pay36 I.j
def r_20 (I : In F) : Vec F S528x256 .f32 := k0_pay37 (r_1 I) I.wu I.pool
def r_21 (I : In F) : Vec F S512x256 .f32 := k0_pay39 (r_18 I) (r_20 I)
def r_22 (I : In F) : Vec F S512x256 .f32 := k0_pay41 (r_14 I) (r_19 I) k0_pay38 (r_21 I) k0_pay40
def r_23 (I : In F) : Vec F S256x256 .bf16 := k0_pay43 I.mkeys
def r_24 (I : In F) : Vec F S256x256 .bf16 := k0_pay44 I.mvals
def r_25 (I : In F) : IVec S512x256 32 := k0_pay47 (iota .tc S512x256 32 [1] iota_S512x256_d1_w32) (64#32) k0_pay45 k0_pay46 1#32
def r_26 (I : In F) : Vec F S512x256 .f32 := k0_pay48 (r_15 I) (r_23 I) (iota .tc S512x256 32 [1] iota_S512x256_d1_w32) (64#32) k0_pay45 k0_pay46 1#32
def r_27 (I : In F) : Vec F S512x256 .f32 := k0_pay49 (r_15 I) (r_23 I) (iota .tc S512x256 32 [1] iota_S512x256_d1_w32) (64#32) k0_pay45 k0_pay46 1#32
def r_28 (I : In F) : Vec F S512x256 .f32 := k0_pay50 (r_15 I) (r_23 I) (iota .tc S512x256 32 [1] iota_S512x256_d1_w32) (64#32) k0_pay45 k0_pay46 1#32
def r_29 (I : In F) : Vec F S512x256 .bf16 := k0_pay51 (r_15 I) (iota .tc S512x256 32 [1] iota_S512x256_d1_w32) (64#32) k0_pay45 k0_pay46 1#32
def r_30 (I : In F) : Vec F S512x256 .f32 := k0_pay52 (r_23 I) (r_29 I) (constant S512x256 FTy.f32 0#32)
def r_31 (I : In F) : Vec F S512x1024 .f32 := k0_pay53 (r_1 I) I.wb
def r_32 (I : In F) : Vec F S512x512 .f32 := k0_pay54 (r_13 I)
def r_33 (I : In F) : Vec F S512x512 .f32 := k0_pay55 (r_6 I) (r_13 I)
def r_34 (I : In F) : Vec F S64x512 .f32 := k0_pay56 (r_13 I)
def r_35 (I : In F) : Vec F S64x512 .f32 := k0_pay57 (r_13 I)
def r_36 (I : In F) : Vec F S1x512 .f32 := k0_pay58 (r_13 I)
def r_37 (I : In F) : Vec F S512x512 .f32 := k0_pay59 (r_13 I) (r_33 I) (r_34 I) (r_35 I) (r_36 I)
def r_38 (I : In F) : Vec F S512x512 .f32 := k0_pay60 (r_4 I) (r_13 I) (r_32 I)
def r_39 (I : In F) : Vec F S64x512 .f32 := k0_pay61 (r_13 I)
def r_40 (I : In F) : Vec F S64x512 .f32 := k0_pay62 (r_13 I)
def r_41 (I : In F) : Vec F S64x512 .f32 := k0_pay63 (r_13 I)
def r_42 (I : In F) : Vec F S1x512 .f32 := k0_pay64 (r_13 I)
def r_43 (I : In F) : Vec F S512x512 .f32 := k0_pay65 (r_13 I) (r_38 I) (r_39 I) (r_40 I) (r_41 I) (r_42 I)
def r_44 (I : In F) : Vec F S1x512 .f32 := k0_pay66 (r_13 I)
def r_45 (I : In F) : Vec F S1x512 .f32 := k0_pay67 (r_13 I)
def r_46 (I : In F) : Vec F S1x512 .f32 := k0_pay68 (r_13 I)
def r_47 (I : In F) : Vec F S1x512 .f32 := k0_pay69 (r_13 I)
def r_48 (I : In F) : Vec F S1x512 .f32 := k0_pay70 (r_13 I)
def r_49 (I : In F) : Vec F S1x512 .f32 := k0_pay71 (r_13 I)
def r_50 (I : In F) : Vec F S1x512 .f32 := k0_pay72 (r_13 I)
def r_51 (I : In F) : Vec F S1x512 .f32 := k0_pay73 (r_13 I)
def r_52 (I : In F) : Vec F S1x512 .f32 := k0_pay74 I.hgg
def r_53 (I : In F) : Vec F S256x256 .f32 := k0_pay75 (r_8 I) (r_37 I) (r_38 I)
def r_54 (I : In F) : Vec F S256x256 .f32 := k0_pay76 (r_8 I) (r_37 I) (r_38 I)
def r_55 (I : In F) : Vec F S256x256 .f32 := k0_pay77 (r_8 I) (r_37 I) (r_38 I)
def r_56 (I : In F) : Vec F S256x256 .f32 := k0_pay78 (r_8 I) (r_37 I) (r_38 I)
def r_57 (I : In F) : Vec F S256x256 .f32 := k0_pay79 (r_8 I) (r_37 I) (r_38 I)
def r_58 (I : In F) : Vec F S256x256 .f32 := k0_pay80 (r_8 I) (r_37 I) (r_38 I)
def r_59 (I : In F) : Vec F S256x256 .f32 := k0_pay81 (r_8 I) (r_37 I) (r_38 I)
def r_60 (I : In F) : Vec F S256x256 .f32 := k0_pay82 (r_37 I) (r_38 I)
def r_61 (I : In F) : Vec F S256x256 .f32 := k0_pay83 (r_8 I) (r_60 I)
def r_62 (I : In F) : Vec F S128x128 .f32 := k0_pay84 (r_7 I) (r_43 I)
def r_63 (I : In F) : Vec F S128x128 .f32 := k0_pay85 (r_7 I) (r_43 I)
def r_64 (I : In F) : Vec F S128x128 .f32 := k0_pay86 (r_7 I) (r_43 I)
def r_65 (I : In F) : Vec F S128x128 .f32 := k0_pay87 (r_7 I) (r_43 I)
def r_66 (I : In F) : Vec F S128x128 .f32 := k0_pay88 (r_7 I) (r_43 I)
def r_67 (I : In F) : Vec F S128x128 .f32 := k0_pay89 (r_7 I) (r_43 I)
def r_68 (I : In F) : Vec F S128x128 .f32 := k0_pay90 (r_7 I) (r_43 I)
def r_69 (I : In F) : Vec F S128x128 .f32 := k0_pay91 (r_7 I) (r_43 I)
def r_70 (I : In F) : Vec F S128x128 .f32 := k0_pay92 (r_7 I) (r_43 I)
def r_71 (I : In F) : Vec F S64x128 .f32 := k0_pay93 (r_43 I)
def r_72 (I : In F) : Vec F S64x128 .bf16 := k0_pay94 (r_7 I)
def r_73 (I : In F) : Vec F S128x128 .f32 := k0_pay95 (r_71 I) (r_72 I)
def r_74 (I : In F) : Vec F S128x128 .f32 := k0_pay96 (r_7 I) (r_43 I)
def r_75 (I : In F) : Vec F S128x128 .f32 := k0_pay97 (r_7 I) (r_43 I)
def r_76 (I : In F) : Vec F S128x128 .f32 := k0_pay98 (r_7 I) (r_43 I)
def r_77 (I : In F) : Vec F S128x128 .f32 := k0_pay99 (r_7 I) (r_43 I)
def r_78 (I : In F) : Vec F S128x128 .f32 := k0_pay100 (r_7 I) (r_43 I)
def r_79 (I : In F) : Vec F S128x128 .f32 := k0_pay101 (r_7 I) (r_43 I)
def r_80 (I : In F) : Vec F S128x128 .f32 := k0_pay102 (r_7 I) (r_43 I)
def r_81 (I : In F) : Vec F S128x128 .f32 := k0_pay103 (r_7 I) (r_43 I)
def r_82 (I : In F) : Vec F S128x128 .f32 := k0_pay104 (r_7 I) (r_43 I)
def r_83 (I : In F) : Vec F S64x128 .f32 := k0_pay105 (r_43 I)
def r_84 (I : In F) : Vec F S64x128 .bf16 := k0_pay106 (r_7 I)
def r_85 (I : In F) : Vec F S128x128 .f32 := k0_pay107 (r_83 I) (r_84 I)
def r_86 (I : In F) : Vec F S128x128 .f32 := k0_pay108 (r_7 I) (r_43 I)
def r_87 (I : In F) : Vec F S128x128 .f32 := k0_pay109 (r_7 I) (r_43 I)
def r_88 (I : In F) : Vec F S128x128 .f32 := k0_pay110 (r_7 I) (r_43 I)
def r_89 (I : In F) : Vec F S128x128 .f32 := k0_pay111 (r_7 I) (r_43 I)
def r_90 (I : In F) : Vec F S128x128 .f32 := k0_pay112 (r_7 I) (r_43 I)
def r_91 (I : In F) : Vec F S128x128 .f32 := k0_pay113 (r_7 I) (r_43 I)
def r_92 (I : In F) : Vec F S128x128 .f32 := k0_pay114 (r_7 I) (r_43 I)
def r_93 (I : In F) : Vec F S128x128 .f32 := k0_pay115 (r_7 I) (r_43 I)
def r_94 (I : In F) : Vec F S128x128 .f32 := k0_pay116 (r_7 I) (r_43 I)
def r_95 (I : In F) : Vec F S64x128 .f32 := k0_pay117 (r_43 I)
def r_96 (I : In F) : Vec F S64x128 .bf16 := k0_pay118 (r_7 I)
def r_97 (I : In F) : Vec F S128x128 .f32 := k0_pay119 (r_95 I) (r_96 I)
def r_98 (I : In F) : Vec F S128x128 .f32 := k0_pay120 (r_7 I) (r_43 I)
def r_99 (I : In F) : Vec F S128x128 .f32 := k0_pay121 (r_7 I) (r_43 I)
def r_100 (I : In F) : Vec F S512x256 .f32 := k0_pay122 (r_22 I) I.bd I.ps
def r_101 (I : In F) : Vec F S512x1024 .f32 := k0_pay123 (r_1 I) I.wm
def r_102 (I : In F) : Vec F S512x256 .f32 := k0_pay126 (r_24 I) (r_25 I) (r_26 I)
def r_103 (I : In F) : Vec F S512x1 .f32 := k0_pay128 (r_26 I)
def r_104 (I : In F) : Vec F S512x256 .f32 := k0_pay130 (r_25 I) (r_27 I) k0_pay124 (k0_pay127 (r_25 I)) (r_103 I)
def r_105 (I : In F) : Vec F S512x256 .f32 := k0_pay131 (r_28 I)
def r_106 (I : In F) : Vec F S512x256 .f32 := k0_pay132 (r_24 I) (r_25 I) (r_27 I) (r_28 I) (r_102 I)
def r_107 (I : In F) : Vec F S512x256 .f32 := k0_pay134 (r_24 I) (r_25 I) (r_30 I) (r_104 I) (r_105 I) (r_106 I) (k0_pay133 (r_25 I))
def r_108 (I : In F) : Vec F S512x1024 .f32 := k0_pay135 (r_100 I) I.wbp
def r_109 (I : In F) : Vec F S256x128 .f32 := k0_pay136 (r_7 I) (r_53 I)
def r_110 (I : In F) : Vec F S256x128 .f32 := k0_pay137 (r_7 I) (r_54 I)
def r_111 (I : In F) : Vec F S512x128 .f32 := k0_pay138 (r_109 I) (r_110 I)
def r_112 (I : In F) : Vec F S64x128 .f32 := k0_pay140 (r_33 I) I.s0
def r_113 (I : In F) : Vec F S64x128 .f32 := k0_pay142 (r_33 I) (r_44 I) (r_62 I) I.s0
def r_114 (I : In F) : Vec F S64x128 .f32 := k0_pay144 (r_33 I) (r_44 I) (r_45 I) (r_62 I) (r_63 I) I.s0
def r_115 (I : In F) : Vec F S64x128 .f32 := k0_pay146 (r_33 I) (r_44 I) (r_45 I) (r_46 I) (r_62 I) (r_63 I) (r_64 I) I.s0
def r_116 (I : In F) : Vec F S64x128 .f32 := k0_pay148 (r_33 I) (r_44 I) (r_45 I) (r_46 I) (r_47 I) (r_62 I) (r_63 I) (r_64 I) (r_65 I) I.s0
def r_117 (I : In F) : Vec F S64x128 .f32 := k0_pay150 (r_33 I) (r_44 I) (r_45 I) (r_46 I) (r_47 I) (r_48 I) (r_62 I) (r_63 I) (r_64 I) (r_65 I) (r_66 I) I.s0
def r_118 (I : In F) : Vec F S128x128 .f32 := k0_pay151 (r_44 I) (r_45 I) (r_46 I) (r_47 I) (r_48 I) (r_49 I) (r_62 I) (r_63 I) (r_64 I) (r_65 I) (r_66 I) (r_67 I) I.s0
def r_119 (I : In F) : Vec F S512x128 .f32 := k0_pay154 (r_33 I) (r_50 I) (r_52 I) (r_68 I) (r_111 I) (r_112 I) (r_113 I) (r_114 I) (r_115 I) (r_116 I) (r_117 I) (r_118 I)
def r_120 (I : In F) : Vec F S512x128 .f32 := k0_pay155 (r_7 I) (r_55 I) (r_56 I)
def r_121 (I : In F) : Vec F S128x128 .f32 := k0_pay156 I.s1
def r_122 (I : In F) : Vec F S64x128 .f32 := k0_pay157 (r_33 I)
def r_123 (I : In F) : Vec F S64x128 .f32 := k0_pay158 (r_121 I) (r_122 I)
def r_124 (I : In F) : Vec F S64x128 .f32 := k0_pay160 (r_33 I) (r_44 I) (r_70 I) (r_121 I)
def r_125 (I : In F) : Vec F S64x128 .f32 := k0_pay162 (r_33 I) (r_44 I) (r_45 I) (r_70 I) (r_73 I) (r_121 I)
def r_126 (I : In F) : Vec F S64x128 .f32 := k0_pay164 (r_33 I) (r_44 I) (r_45 I) (r_46 I) (r_70 I) (r_73 I) (r_74 I) (r_121 I)
def r_127 (I : In F) : Vec F S64x128 .f32 := k0_pay166 (r_33 I) (r_44 I) (r_45 I) (r_46 I) (r_47 I) (r_70 I) (r_73 I) (r_74 I) (r_75 I) (r_121 I)
def r_128 (I : In F) : Vec F S64x128 .f32 := k0_pay168 (r_33 I) (r_44 I) (r_45 I) (r_46 I) (r_47 I) (r_48 I) (r_70 I) (r_73 I) (r_74 I) (r_75 I) (r_76 I) (r_121 I)
def r_129 (I : In F) : Vec F S128x128 .f32 := k0_pay169 (r_44 I) (r_45 I) (r_46 I) (r_47 I) (r_48 I) (r_49 I) (r_70 I) (r_73 I) (r_74 I) (r_75 I) (r_76 I) (r_77 I) (r_121 I)
def r_130 (I : In F) : Vec F S64x128 .f32 := k0_pay170 (r_33 I) (r_44 I) (r_45 I) (r_46 I) (r_47 I) (r_48 I) (r_49 I) (r_70 I) (r_73 I) (r_74 I) (r_75 I) (r_76 I) (r_77 I) (r_121 I)
def r_131 (I : In F) : Vec F S128x128 .f32 := k0_pay171 (r_50 I)
def r_132 (I : In F) : Vec F S512x128 .f32 := k0_pay174 (r_33 I) (r_52 I) (r_78 I) (r_120 I) (r_123 I) (r_124 I) (r_125 I) (r_126 I) (r_127 I) (r_128 I) (r_129 I) (r_130 I) (r_131 I)
def r_133 (I : In F) : Vec F S512x128 .f32 := k0_pay175 (r_7 I) (r_57 I) (r_58 I)
def r_134 (I : In F) : Vec F S64x128 .f32 := k0_pay177 (r_33 I) I.s2
def r_135 (I : In F) : Vec F S128x128 .f32 := k0_pay178 (r_44 I) I.s2
def r_136 (I : In F) : Vec F S64x128 .f32 := k0_pay180 (r_33 I) (r_80 I) (r_135 I)
def r_137 (I : In F) : Vec F S64x128 .f32 := k0_pay182 (r_33 I) (r_45 I) (r_80 I) (r_81 I) (r_135 I)
def r_138 (I : In F) : Vec F S64x128 .f32 := k0_pay184 (r_33 I) (r_45 I) (r_46 I) (r_80 I) (r_81 I) (r_82 I) (r_135 I)
def r_139 (I : In F) : Vec F S64x128 .f32 := k0_pay186 (r_33 I) (r_45 I) (r_46 I) (r_47 I) (r_80 I) (r_81 I) (r_82 I) (r_85 I) (r_135 I)
def r_140 (I : In F) : Vec F S64x128 .f32 := k0_pay188 (r_33 I) (r_45 I) (r_46 I) (r_47 I) (r_48 I) (r_80 I) (r_81 I) (r_82 I) (r_85 I) (r_86 I) (r_135 I)
def r_141 (I : In F) : Vec F S64x128 .f32 := k0_pay190 (r_33 I) (r_45 I) (r_46 I) (r_47 I) (r_48 I) (r_49 I) (r_80 I) (r_81 I) (r_82 I) (r_85 I) (r_86 I) (r_87 I) (r_135 I)
def r_142 (I : In F) : Vec F S128x128 .f32 := k0_pay191 (r_45 I) (r_46 I) (r_47 I) (r_48 I) (r_49 I) (r_50 I) (r_80 I) (r_81 I) (r_82 I) (r_85 I) (r_86 I) (r_87 I) (r_88 I) (r_135 I)
def r_143 (I : In F) : Vec F S64x128 .f32 := k0_pay192 (r_33 I) (r_45 I) (r_46 I) (r_47 I) (r_48 I) (r_49 I) (r_50 I) (r_80 I) (r_81 I) (r_82 I) (r_85 I) (r_86 I) (r_87 I) (r_88 I) (r_135 I)
def r_144 (I : In F) : Vec F S512x128 .f32 := k0_pay194 (r_52 I) (r_133 I) (r_134 I) (r_136 I) (r_137 I) (r_138 I) (r_139 I) (r_140 I) (r_141 I) (r_143 I)
def r_145 (I : In F) : Vec F S512x128 .f32 := k0_pay195 (r_7 I) (r_59 I) (r_61 I)
def r_146 (I : In F) : Vec F S64x128 .f32 := k0_pay197 (r_33 I) I.s3
def r_147 (I : In F) : Vec F S128x128 .f32 := k0_pay198 (r_44 I) (r_90 I) I.s3
def r_148 (I : In F) : Vec F S64x128 .f32 := k0_pay199 (r_33 I) (r_44 I) (r_90 I) I.s3
def r_149 (I : In F) : Vec F S1x128 .f32 := k0_pay200 (r_45 I)
def r_150 (I : In F) : Vec F S64x128 .f32 := k0_pay202 (r_33 I) (r_91 I) (r_147 I) (r_149 I)
def r_151 (I : In F) : Vec F S64x128 .f32 := k0_pay204 (r_33 I) (r_46 I) (r_91 I) (r_92 I) (r_147 I) (r_149 I)
def r_152 (I : In F) : Vec F S64x128 .f32 := k0_pay206 (r_33 I) (r_46 I) (r_47 I) (r_91 I) (r_92 I) (r_93 I) (r_147 I) (r_149 I)
def r_153 (I : In F) : Vec F S64x128 .f32 := k0_pay208 (r_33 I) (r_46 I) (r_47 I) (r_48 I) (r_91 I) (r_92 I) (r_93 I) (r_94 I) (r_147 I) (r_149 I)
def r_154 (I : In F) : Vec F S64x128 .f32 := k0_pay210 (r_33 I) (r_46 I) (r_47 I) (r_48 I) (r_49 I) (r_91 I) (r_92 I) (r_93 I) (r_94 I) (r_97 I) (r_147 I) (r_149 I)
def r_155 (I : In F) : Vec F S64x128 .f32 := k0_pay212 (r_33 I) (r_46 I) (r_47 I) (r_48 I) (r_49 I) (r_50 I) (r_91 I) (r_92 I) (r_93 I) (r_94 I) (r_97 I) (r_98 I) (r_147 I) (r_149 I)
def r_156 (I : In F) : Vec F S128x128 .f32 := k0_pay213 (r_46 I) (r_47 I) (r_48 I) (r_49 I) (r_50 I) (r_51 I) (r_91 I) (r_92 I) (r_93 I) (r_94 I) (r_97 I) (r_98 I) (r_99 I) (r_147 I) (r_149 I)
def r_157 (I : In F) : Vec F S512x1024 .f32 := k0_pay215 (r_16 I) (r_17 I) (r_31 I) (r_52 I) (r_101 I) (r_107 I) (r_108 I) (r_119 I) (r_132 I) (r_144 I) (r_145 I) (r_146 I) (r_148 I) (r_150 I) (r_151 I) (r_152 I) (r_153 I) (r_154 I) (r_155 I) I.wbm I.wbh
def r_158 (I : In F) : Vec F S1024x1024 .bf16 := k0_pay216 I.wo
def r_159 (I : In F) : Vec F S1x1024 .f32 := k0_pay217 I.g
def r_160 (I : In F) : Vec F S1x1024 .f32 := k0_pay218 I.b
def r_161 (I : In F) : Vec F S256x1024 .f32 := k0_pay220 (r I) (r_157 I) (r_158 I)
def r_162 (I : In F) : Vec F S256x1 .f32 := k0_pay221 (r I) (r_157 I) (r_158 I)

section values

variable (I : In F)

/-- The first and the last 256 rows of the output block. -/
def hLo : Vec F S256x1024 .f32 := k0_pay219 (r I) (r_157 I) (r_158 I) (r_159 I) I.b
@[inherit_doc hLo] def hHi : Vec F S256x1024 .f32 := k0_pay222 (r_159 I) (r_160 I) (r_161 I) (r_162 I) (FloatOps.ofBits FTy.f32 1149239296#32)

/-- The state each head carries on. -/
def st0 : Vec F S1x128x128 .f32 := k0_pay153 (r_50 I) (r_51 I) (r_68 I) (r_69 I) (r_118 I)
@[inherit_doc st0] def st1 : Vec F S1x128x128 .f32 := k0_pay173 (r_51 I) (r_78 I) (r_79 I) (r_129 I) (r_131 I)
@[inherit_doc st0] def st2 : Vec F S1x128x128 .f32 := k0_pay193 (r_51 I) (r_89 I) (r_142 I)
@[inherit_doc st0] def st3 : Vec F S1x128x128 .f32 := k0_pay214 (r_156 I)

/-- The window of the pooling carried on. -/
def poolOut : Vec F S16x256 .f32 := k0_pay42 (r_18 I)

/-- A group of 256 rows of the output block. -/
def rowsPiece (o : ℕ) (ho : ∀ a, ![o, 0] a + S256x1024.size a ≤ S512x1024.size a) (w : Vec F S256x1024 .f32) : View.Piece (Elt F) S1x512x1024 .f32 :=
  ⟨(Rect.unit (s := S1x512x1024) ![0, 0, 0] S1x512x1024.size inb_S1x512x1024_S1x512x1024_0_0_0).within
    ((Rect.unit (s := S512x1024) ![o, 0] S256x1024.size ho).consLift ![1, 512, 1024] rfl (fun i => by fin_cases i <;> rfl)) (fun _ => rfl),
   Rect.payAlong (Rect.numel_consLift (Rect.unit (s := S512x1024) ![o, 0] S256x1024.size ho) ![1, 512, 1024] rfl (fun i => by fin_cases i <;> rfl)) w⟩

/-- The stores into the output block, newest first. -/
abbrev hPieces : List (View.Piece (Elt F) S1x512x1024 .f32) :=
  [rowsPiece 256 inb_S512x1024_S256x1024_256_0 (hHi I), rowsPiece 0 inb_S512x1024_S256x1024_0_0 (hLo I)]

/-- The stores into the carried states, newest first. -/
abbrev stPieces : List (View.Piece (Elt F) S4x128x128 .f32) :=
  [⟨Rect.unit ![3, 0, 0] S1x128x128.size inb_S4x128x128_S1x128x128_3_0_0, st3 I⟩, ⟨Rect.unit ![2, 0, 0] S1x128x128.size inb_S4x128x128_S1x128x128_2_0_0, st2 I⟩,
   ⟨Rect.unit ![1, 0, 0] S1x128x128.size inb_S4x128x128_S1x128x128_1_0_0, st1 I⟩, ⟨Rect.unit ![0, 0, 0] S1x128x128.size inb_S4x128x128_S1x128x128_0_0_0, st0 I⟩]

/-- The store into the carried window. -/
abbrev poolPieces : List (View.Piece (Elt F) S16x256 .f32) := [⟨Rect.unit ![0, 0] S16x256.size inb_S16x256_S16x256_0_0, poolOut I⟩]

end values

variable (m : (ℓ : Loc nD τ sig) → Buf (Elt F) ℓ) (ρ : Dev nD → PrngReg)

/-- The loads of point `t`, as the run spells them. -/
def loads (c : Dev nD) (t : Fin cfg0.N) (s0 s1 s2 s3 : Vec F S1x128x128 .f32) (pool : Vec F S16x256 .f32) : In F where
  x := View.readAt (Elt F) (ms0 t).view (Rect.unit (s := S1x512x1024) ![0, 0, 0] S1x512x1024.size inb_S1x512x1024_S1x512x1024_0_0_0).toLoadRect ((hs0 t).unread (iblk m c 0 t))
  lb := View.readAt (Elt F) (ms3 t).view (Rect.unit (s := S2x512) ![0, 0] S2x512.size inb_S2x512_S2x512_0_0).toLoadRect ((hs3 t).unread (iblk m c 3 t))
  wf := View.readAt (Elt F) (ms4 t).view (Rect.unit (s := S1024x5632) ![0, 768] S1024x512.size inb_S1024x5632_S1024x512_0_768).toLoadRect ((hs4 t).unread (iblk m c 4 t))
  wq := View.readAt (Elt F) (ms4 t).view (Rect.unit (s := S1024x5632) ![0, 256] S1024x512.size inb_S1024x5632_S1024x512_0_256).toLoadRect ((hs4 t).unread (iblk m c 4 t))
  wv := View.readAt (Elt F) (ms4 t).view (Rect.unit (s := S1024x5632) ![0, 1280] S1024x512.size inb_S1024x5632_S1024x512_0_1280).toLoadRect ((hs4 t).unread (iblk m c 4 t))
  wu := View.readAt (Elt F) (ms4 t).view (Rect.unit (s := S1024x5632) ![0, 0] S1024x256.size inb_S1024x5632_S1024x256_0_0).toLoadRect ((hs4 t).unread (iblk m c 4 t))
  wc := View.readAt (Elt F) (ms4 t).view (Rect.unit (s := S1024x5632) ![0, 2304] S1024x256.size inb_S1024x5632_S1024x256_0_2304).toLoadRect ((hs4 t).unread (iblk m c 4 t))
  wg := View.readAt (Elt F) (ms4 t).view (Rect.unit (s := S1024x5632) ![0, 1792] S1024x512.size inb_S1024x5632_S1024x512_0_1792).toLoadRect ((hs4 t).unread (iblk m c 4 t))
  wa := View.readAt (Elt F) (ms4 t).view (Rect.unit (s := S1024x5632) ![0, 2560] S1024x1024.size inb_S1024x5632_S1024x1024_0_2560).toLoadRect ((hs4 t).unread (iblk m c 4 t))
  wb := View.readAt (Elt F) (ms4 t).view (Rect.unit (s := S1024x5632) ![0, 3584] S1024x1024.size inb_S1024x5632_S1024x1024_0_3584).toLoadRect ((hs4 t).unread (iblk m c 4 t))
  wm := View.readAt (Elt F) (ms4 t).view (Rect.unit (s := S1024x5632) ![0, 4608] S1024x1024.size inb_S1024x5632_S1024x1024_0_4608).toLoadRect ((hs4 t).unread (iblk m c 4 t))
  pool := pool
  mkeys := View.readAt (Elt F) (ms1 t).view (Rect.unit (s := S1x256x256) ![0, 0, 0] S1x256x256.size inb_S1x256x256_S1x256x256_0_0_0).toLoadRect ((hs1 t).unread (iblk m c 1 t))
  mvals := View.readAt (Elt F) (ms2 t).view (Rect.unit (s := S1x256x256) ![0, 0, 0] S1x256x256.size inb_S1x256x256_S1x256x256_0_0_0).toLoadRect ((hs2 t).unread (iblk m c 2 t))
  hgg := View.readAt (Elt F) (ms7 t).view (Rect.unit (s := S1x512) ![0, 0] S1x512.size inb_S1x512_S1x512_0_0).toLoadRect ((hs7 t).unread (iblk m c 7 t))
  bd := View.readAt (Elt F) (ms5 t).view (Rect.unit (s := S256x256) ![0, 0] S256x256.size inb_S256x256_S256x256_0_0).toLoadRect ((hs5 t).unread (iblk m c 5 t))
  ps := View.readAt (Elt F) (ms6 t).view (Rect.unit (s := S1x256) ![0, 0] S1x256.size inb_S1x256_S1x256_0_0).toLoadRect ((hs6 t).unread (iblk m c 6 t))
  wbp := View.readAt (Elt F) (ms8 t).view (Rect.unit (s := S256x1024) ![0, 0] S256x1024.size inb_S256x1024_S256x1024_0_0).toLoadRect ((hs8 t).unread (iblk m c 8 t))
  wbm := View.readAt (Elt F) (ms10 t).view (Rect.unit (s := S256x1024) ![0, 0] S256x1024.size inb_S256x1024_S256x1024_0_0).toLoadRect ((hs10 t).unread (iblk m c 10 t))
  wbh := View.readAt (Elt F) (ms9 t).view (Rect.unit (s := S512x1024) ![0, 0] S512x1024.size inb_S512x1024_S512x1024_0_0).toLoadRect ((hs9 t).unread (iblk m c 9 t))
  wo := View.readAt (Elt F) (ms11 t).view (Rect.unit (s := S1024x1024) ![0, 0] S1024x1024.size inb_S1024x1024_S1024x1024_0_0).toLoadRect ((hs11 t).unread (iblk m c 11 t))
  g := View.readAt (Elt F) (ms12 t).view (Rect.unit (s := S1x1024) ![0, 0] S1x1024.size inb_S1x1024_S1x1024_0_0).toLoadRect ((hs12 t).unread (iblk m c 12 t))
  b := View.readAt (Elt F) (ms13 t).view (Rect.unit (s := S1x1024) ![0, 0] S1x1024.size inb_S1x1024_S1x1024_0_0).toLoadRect ((hs13 t).unread (iblk m c 13 t))
  s0 := s0
  s1 := s1
  s2 := s2
  s3 := s3
  j := BitVec.ofNat 32 ↑((grid0.coords t) 1)

/-- The loads of point `t`, as entries of the point's blocks. -/
def atPoint (c : Dev nD) (t : Fin cfg0.N) (s0 s1 s2 s3 : Vec F S1x128x128 .f32) (pool : Vec F S16x256 .f32) : In F where
  x := iblk m c 0 t
  lb := iblk m c 3 t
  wf := fun y => (iblk m c 4 t : Vec F S1024x5632 .bf16) ((Rect.unit (s := S1024x5632) ![0, 768] S1024x512.size inb_S1024x5632_S1024x512_0_768).toLoadRect.idx y)
  wq := fun y => (iblk m c 4 t : Vec F S1024x5632 .bf16) ((Rect.unit (s := S1024x5632) ![0, 256] S1024x512.size inb_S1024x5632_S1024x512_0_256).toLoadRect.idx y)
  wv := fun y => (iblk m c 4 t : Vec F S1024x5632 .bf16) ((Rect.unit (s := S1024x5632) ![0, 1280] S1024x512.size inb_S1024x5632_S1024x512_0_1280).toLoadRect.idx y)
  wu := fun y => (iblk m c 4 t : Vec F S1024x5632 .bf16) ((Rect.unit (s := S1024x5632) ![0, 0] S1024x256.size inb_S1024x5632_S1024x256_0_0).toLoadRect.idx y)
  wc := fun y => (iblk m c 4 t : Vec F S1024x5632 .bf16) ((Rect.unit (s := S1024x5632) ![0, 2304] S1024x256.size inb_S1024x5632_S1024x256_0_2304).toLoadRect.idx y)
  wg := fun y => (iblk m c 4 t : Vec F S1024x5632 .bf16) ((Rect.unit (s := S1024x5632) ![0, 1792] S1024x512.size inb_S1024x5632_S1024x512_0_1792).toLoadRect.idx y)
  wa := fun y => (iblk m c 4 t : Vec F S1024x5632 .bf16) ((Rect.unit (s := S1024x5632) ![0, 2560] S1024x1024.size inb_S1024x5632_S1024x1024_0_2560).toLoadRect.idx y)
  wb := fun y => (iblk m c 4 t : Vec F S1024x5632 .bf16) ((Rect.unit (s := S1024x5632) ![0, 3584] S1024x1024.size inb_S1024x5632_S1024x1024_0_3584).toLoadRect.idx y)
  wm := fun y => (iblk m c 4 t : Vec F S1024x5632 .bf16) ((Rect.unit (s := S1024x5632) ![0, 4608] S1024x1024.size inb_S1024x5632_S1024x1024_0_4608).toLoadRect.idx y)
  pool := pool
  mkeys := iblk m c 1 t
  mvals := iblk m c 2 t
  hgg := iblk m c 7 t
  bd := iblk m c 5 t
  ps := iblk m c 6 t
  wbp := iblk m c 8 t
  wbm := iblk m c 10 t
  wbh := iblk m c 9 t
  wo := iblk m c 11 t
  g := iblk m c 12 t
  b := iblk m c 13 t
  s0 := s0
  s1 := s1
  s2 := s2
  s3 := s3
  j := BitVec.ofNat 32 ↑((grid0.coords t) 1)

set_option maxHeartbeats 1000000 in
theorem loads_eq (c : Dev nD) (t : Fin cfg0.N) (s0 s1 s2 s3 : Vec F S1x128x128 .f32) (pool : Vec F S16x256 .f32) :
    loads m c t s0 s1 s2 s3 pool = atPoint m c t s0 s1 s2 s3 pool := by
  unfold loads atPoint
  rw [In.mk.injEq]
  refine ⟨Cert.Pieces.load_whole (hs0 t) _ _, Cert.Pieces.load_whole (hs3 t) _ _, funext fun y => (hs4 t).readAt_unread _ _ y, funext fun y => (hs4 t).readAt_unread _ _ y, funext fun y => (hs4 t).readAt_unread _ _ y, funext fun y => (hs4 t).readAt_unread _ _ y, funext fun y => (hs4 t).readAt_unread _ _ y, funext fun y => (hs4 t).readAt_unread _ _ y, funext fun y => (hs4 t).readAt_unread _ _ y, funext fun y => (hs4 t).readAt_unread _ _ y, funext fun y => (hs4 t).readAt_unread _ _ y, rfl, Cert.Pieces.load_whole (hs1 t) _ _, Cert.Pieces.load_whole (hs2 t) _ _, Cert.Pieces.load_whole (hs7 t) _ _, Cert.Pieces.load_whole (hs5 t) _ _, Cert.Pieces.load_whole (hs6 t) _ _, Cert.Pieces.load_whole (hs8 t) _ _, Cert.Pieces.load_whole (hs10 t) _ _, Cert.Pieces.load_whole (hs9 t) _ _, Cert.Pieces.load_whole (hs11 t) _ _, Cert.Pieces.load_whole (hs12 t) _ _, Cert.Pieces.load_whole (hs13 t) _ _, rfl, rfl, rfl, rfl, rfl⟩

/-- A carried state as the run loads head `o` of it. -/
abbrev ldS (X : Vec F S4x128x128 .f32) (o : ℕ) (h : ∀ a, ![o, 0, 0] a + S1x128x128.size a ≤ S4x128x128.size a) : Vec F S1x128x128 .f32 :=
  View.readAt (Elt F) scM0_0.view (Rect.unit (s := S4x128x128) ![o, 0, 0] S1x128x128.size h).toLoadRect ((Memref.isWhole_whole _ : scM0_0.IsWhole).unread X)

abbrev ldP (X : Vec F S16x256 .f32) : Vec F S16x256 .f32 :=
  View.readAt (Elt F) scM0_1.view (Rect.unit ![0, 0] S16x256.size inb_S16x256_S16x256_0_0).toLoadRect ((Memref.isWhole_whole _ : scM0_1.IsWhole).unread X)

abbrev ldsMid (c : Dev nD) (t : Fin cfg0.N) (xs0 : Vec F S4x128x128 .f32) (xs1 : Vec F S16x256 .f32) : In F :=
  loads m c t (ldS xs0 0 inb_S4x128x128_S1x128x128_0_0_0) (ldS xs0 1 inb_S4x128x128_S1x128x128_1_0_0)
    (ldS xs0 2 inb_S4x128x128_S1x128x128_2_0_0) (ldS xs0 3 inb_S4x128x128_S1x128x128_3_0_0) (ldP xs1)

theorem mid_pool (c : Dev nD) (t : Fin cfg0.N) (h3 : ¬ t.val % 4 = 0) (h4 : ¬ t.val % 4 = 3) (xs0 : Vec F S4x128x128 .f32) (xs1 : Vec F S16x256 .f32) :
    (atMid m c t h3 h4 xs0 xs1).2.2.2.2.1 = poolPieces (ldsMid m c t xs0 xs1) := by sl_kernel_rfl

theorem mid_st (c : Dev nD) (t : Fin cfg0.N) (h3 : ¬ t.val % 4 = 0) (h4 : ¬ t.val % 4 = 3) (xs0 : Vec F S4x128x128 .f32) (xs1 : Vec F S16x256 .f32) :
    (atMid m c t h3 h4 xs0 xs1).2.2.2.1 = stPieces (ldsMid m c t xs0 xs1) := by sl_kernel_rfl

theorem mid_h (c : Dev nD) (t : Fin cfg0.N) (h3 : ¬ t.val % 4 = 0) (h4 : ¬ t.val % 4 = 3) (xs0 : Vec F S4x128x128 .f32) (xs1 : Vec F S16x256 .f32) :
    (atMid m c t h3 h4 xs0 xs1).1 = hPieces (ldsMid m c t xs0 xs1) := by sl_kernel_rfl

theorem last_pool (c : Dev nD) (t : Fin cfg0.N) (h4 : t.val % 4 = 3) (xs0 : Vec F S4x128x128 .f32) (xs1 : Vec F S16x256 .f32) :
    (atLast m c t h4 xs0 xs1).2.2.2.2.1 = poolPieces (ldsMid m c t xs0 xs1) := by sl_kernel_rfl

theorem last_st (c : Dev nD) (t : Fin cfg0.N) (h4 : t.val % 4 = 3) (xs0 : Vec F S4x128x128 .f32) (xs1 : Vec F S16x256 .f32) :
    (atLast m c t h4 xs0 xs1).2.2.2.1 = stPieces (ldsMid m c t xs0 xs1) := by sl_kernel_rfl

theorem last_h (c : Dev nD) (t : Fin cfg0.N) (h4 : t.val % 4 = 3) (xs0 : Vec F S4x128x128 .f32) (xs1 : Vec F S16x256 .f32) :
    (atLast m c t h4 xs0 xs1).1 = hPieces (ldsMid m c t xs0 xs1) := by sl_kernel_rfl

/-- The first step clears the carried state and the carried window. -/
abbrev zeroS : List (View.Piece (Elt F) S4x128x128 .f32) := [⟨Rect.unit ![0, 0, 0] S4x128x128.size inb_S4x128x128_S4x128x128_0_0_0, k0_pay11⟩]
@[inherit_doc zeroS] abbrev zeroP : List (View.Piece (Elt F) S16x256 .f32) := [⟨Rect.unit ![0, 0] S16x256.size inb_S16x256_S16x256_0_0, k0_pay10⟩]

/-- The store of one head's carried state. -/
abbrev stPiece (o : ℕ) (h : ∀ a, ![o, 0, 0] a + S1x128x128.size a ≤ S4x128x128.size a) (w : Vec F S1x128x128 .f32) : View.Piece (Elt F) S4x128x128 .f32 :=
  ⟨Rect.unit ![o, 0, 0] S1x128x128.size h, w⟩

/-- What the first step reads back of head `o` after the stores `L`. -/
abbrev rdS (L : List (View.Piece (Elt F) S4x128x128 .f32)) (o : ℕ) (h : ∀ a, ![o, 0, 0] a + S1x128x128.size a ≤ S4x128x128.size a) : Vec F S1x128x128 .f32 :=
  scM0_0.view.readCov L (Rect.unit (s := S4x128x128) ![o, 0, 0] S1x128x128.size h).toLoadRect

abbrev rdP : Vec F S16x256 .f32 := scM0_1.view.readCov zeroP (Rect.unit ![0, 0] S16x256.size inb_S16x256_S16x256_0_0).toLoadRect

/-- The first step's loads when it has stored the states of no head yet, and of one, two and three heads. -/
abbrev ldsInit0 (c : Dev nD) (t : Fin cfg0.N) : In F :=
  let s := rdS zeroS 0 inb_S4x128x128_S1x128x128_0_0_0
  loads m c t s s s s rdP
@[inherit_doc ldsInit0] abbrev ldsInit1 (c : Dev nD) (t : Fin cfg0.N) : In F :=
  { ldsInit0 m c t with s1 := rdS (stPiece 0 inb_S4x128x128_S1x128x128_0_0_0 (st0 (ldsInit0 m c t)) :: zeroS) 1 inb_S4x128x128_S1x128x128_1_0_0 }
@[inherit_doc ldsInit0] abbrev ldsInit2 (c : Dev nD) (t : Fin cfg0.N) : In F :=
  { ldsInit1 m c t with s2 := rdS (stPiece 1 inb_S4x128x128_S1x128x128_1_0_0 (st1 (ldsInit1 m c t)) :: stPiece 0 inb_S4x128x128_S1x128x128_0_0_0 (st0 (ldsInit0 m c t)) :: zeroS) 2 inb_S4x128x128_S1x128x128_2_0_0 }
@[inherit_doc ldsInit0] abbrev ldsInit (c : Dev nD) (t : Fin cfg0.N) : In F :=
  { ldsInit2 m c t with s3 := rdS (stPiece 2 inb_S4x128x128_S1x128x128_2_0_0 (st2 (ldsInit2 m c t)) :: stPiece 1 inb_S4x128x128_S1x128x128_1_0_0 (st1 (ldsInit1 m c t)) :: stPiece 0 inb_S4x128x128_S1x128x128_0_0_0 (st0 (ldsInit0 m c t)) :: zeroS) 3 inb_S4x128x128_S1x128x128_3_0_0 }

theorem init_pool (c : Dev nD) (t : Fin cfg0.N) (h3 : t.val % 4 = 0) :
    (atInit m c t h3).2.2.2.2.1 = poolPieces (ldsInit m c t) ++ zeroP := by sl_kernel_rfl

theorem init_st (c : Dev nD) (t : Fin cfg0.N) (h3 : t.val % 4 = 0) :
    (atInit m c t h3).2.2.2.1 = stPieces (ldsInit m c t) ++ zeroS := by sl_kernel_rfl

theorem init_h (c : Dev nD) (t : Fin cfg0.N) (h3 : t.val % 4 = 0) :
    (atInit m c t h3).1 = hPieces (ldsInit m c t) := by sl_kernel_rfl

/-- The last step copies the carried window out, and each head's carried state transposed. -/
theorem last_poolOut (c : Dev nD) (t : Fin cfg0.N) (h4 : t.val % 4 = 3) (xs0 : Vec F S4x128x128 .f32) (xs1 : Vec F S16x256 .f32) :
    (atLast m c t h4 xs0 xs1).2.1 = [⟨Rect.unit ![0, 0, 0] S1x16x256.size inb_S1x16x256_S1x16x256_0_0_0,
      k0_pay2 (scM0_1.view.readCov (poolPieces (ldsMid m c t xs0 xs1)) (Rect.unit ![0, 0] S16x256.size inb_S16x256_S16x256_0_0).toLoadRect)⟩] := by sl_kernel_rfl

theorem last_stOut (c : Dev nD) (t : Fin cfg0.N) (h4 : t.val % 4 = 3) (xs0 : Vec F S4x128x128 .f32) (xs1 : Vec F S16x256 .f32) :
    (atLast m c t h4 xs0 xs1).2.2.1 =
      [⟨Rect.unit ![0, 3, 0, 0] S1x1x128x128.size inb_S1x4x128x128_S1x1x128x128_0_3_0_0, k0_pay1 (k0_pay6 (rdS (stPieces (ldsMid m c t xs0 xs1)) 3 inb_S4x128x128_S1x128x128_3_0_0))⟩,
       ⟨Rect.unit ![0, 2, 0, 0] S1x1x128x128.size inb_S1x4x128x128_S1x1x128x128_0_2_0_0, k0_pay5 (rdS (stPieces (ldsMid m c t xs0 xs1)) 2 inb_S4x128x128_S1x128x128_2_0_0)⟩,
       ⟨Rect.unit ![0, 1, 0, 0] S1x1x128x128.size inb_S1x4x128x128_S1x1x128x128_0_1_0_0, k0_pay4 (rdS (stPieces (ldsMid m c t xs0 xs1)) 1 inb_S4x128x128_S1x128x128_1_0_0)⟩,
       ⟨Rect.unit ![0, 0, 0, 0] S1x1x128x128.size inb_S1x4x128x128_S1x1x128x128_0_0_0_0, k0_pay3 (rdS (stPieces (ldsMid m c t xs0 xs1)) 0 inb_S4x128x128_S1x128x128_0_0_0)⟩] := by sl_kernel_rfl

end Cert.KernelIdeal.Tower

end
-- ==== Proof.MixerMath.lean ====
/- The recurrence of the mixer over the real numbers: the state after `n` tokens and the output of a token as sums over the
   tokens before, and how both are reached chunk by chunk. -/
module

public import Mathlib.Analysis.SpecialFunctions.Exp
public import Mathlib.Data.EReal.Operations
public import Mathlib.Algebra.BigOperators.Intervals

@[expose] public section

noncomputable section

namespace Cert.Recurrence

open Finset

/-- A finite sum of reals, taken over the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The logarithms of the decay summed over the first `n` tokens. -/
def total (lf : ℕ → ℝ) (n : ℕ) : ℝ := ∑ s ∈ range n, lf s

/-- One entry of the state after `n` tokens: every token's key times value, decayed by what came after it. -/
def state (lf k v : ℕ → ℝ) (n : ℕ) : ℝ := ∑ s ∈ range n, k s * Real.exp (total lf n - total lf (s + 1)) * v s

/-- A query at token `t` against the key of token `s`. -/
def score {D : ℕ} (lf k : Fin D → ℕ → ℝ) (q : Fin D → ℝ) (t s : ℕ) : ℝ :=
  ∑ d, q d * k d s * Real.exp (total (lf d) (t + 1) - total (lf d) (s + 1))

/-- One entry of the output of token `t`. -/
def output {D : ℕ} (lf k : Fin D → ℕ → ℝ) (q : Fin D → ℝ) (v : ℕ → ℝ) (t : ℕ) : ℝ :=
  ∑ s ∈ range (t + 1), score lf k q t s * v s

theorem total_add (lf : ℕ → ℝ) (n i : ℕ) : total lf (n + i) - total lf n = ∑ j ∈ range i, lf (n + j) := by
  unfold total
  rw [Finset.sum_range_add, add_sub_cancel_left]

theorem exp_split (a b c : ℝ) : Real.exp (a - b) * Real.exp (b - c) = Real.exp (a - c) := by
  rw [← Real.exp_add]; congr 1; ring

/-- The state after a chunk of `L` more tokens. -/
theorem state_step (lf k v : ℕ → ℝ) (n L : ℕ) :
    state lf k v (n + L) = state lf k v n * Real.exp (total lf (n + L) - total lf n)
      + ∑ i : Fin L, v (n + i) * (k (n + i) * Real.exp (total lf (n + L) - total lf (n + i + 1))) := by
  rw [Fin.sum_univ_eq_sum_range (fun i => v (n + i) * (k (n + i) * Real.exp (total lf (n + L) - total lf (n + i + 1)))) L]
  unfold state
  rw [Finset.sum_range_add, Finset.sum_mul]
  refine congr (congrArg _ (Finset.sum_congr rfl fun s _ => ?_)) (Finset.sum_congr rfl fun s _ => by ring)
  rw [← exp_split (total lf (n + L)) (total lf n)]
  ring

/-- The output of a token: its query against the state at the chunk's start, and against the keys of its own chunk. -/
theorem output_split {D : ℕ} (lf k : Fin D → ℕ → ℝ) (q : Fin D → ℝ) (v : ℕ → ℝ) (t n : ℕ) (h : n ≤ t) :
    output lf k q v t = (∑ d, q d * Real.exp (total (lf d) (t + 1) - total (lf d) n) * state (lf d) (k d) v n)
      + ∑ s ∈ Ico n (t + 1), score lf k q t s * v s := by
  unfold output
  rw [← Finset.sum_range_add_sum_Ico _ (by omega : n ≤ t + 1)]
  refine congrArg (· + _) ?_
  unfold state score
  simp only [Finset.mul_sum, Finset.sum_mul]
  rw [Finset.sum_comm]
  refine Finset.sum_congr rfl fun d _ => Finset.sum_congr rfl fun s _ => ?_
  rw [← exp_split (total (lf d) (t + 1)) (total (lf d) n)]
  ring

/-- A sum over a group of `N` tokens from `g` on, masked to those from `a` to `r`. -/
theorem masked_sum (N g a r : ℕ) (hr : r < N) (f : ℕ → ℝ) (p : Fin N → Prop) [DecidablePred p] (hp : ∀ s, p s ↔ a ≤ s.val ∧ s.val ≤ r) :
    (∑ s : Fin N, if p s then f (g + s) else 0) = ∑ s ∈ Ico (g + a) (g + r + 1), f s := by
  have e : (∑ s : Fin N, if p s then f (g + s) else 0) = ∑ s : Fin N, (fun i => if a ≤ i ∧ i ≤ r then f (g + i) else 0) s.val :=
    Finset.sum_congr rfl fun s _ => if_congr (hp s) rfl rfl
  rw [e, Fin.sum_univ_eq_sum_range (fun i => if a ≤ i ∧ i ≤ r then f (g + i) else 0) N, ← Finset.sum_filter,
    show g + r + 1 = (r + 1) + g by omega, add_comm g a, ← Finset.sum_Ico_add']
  refine Finset.sum_congr (Finset.ext fun i => ?_) fun i _ => by rw [add_comm]
  simp only [mem_filter, mem_range, mem_Ico]
  omega

end Cert.Recurrence

end
-- ==== Proof.MixerScan.lean ====
/- The recurrence inside one grid point of the mixer, over the real numbers: the decay summed within chunks of 64 tokens, the
   keys and queries rescaled by it, and the state each head carries from chunk to chunk. -/
module

public import proofs.«01_k».proof.Proof.MixerTower
public import proofs.«01_k».proof.Proof.MixerMath
public import Idealize.ShloMosaic.Lib.Pointwise

@[expose] public section

set_option maxRecDepth 65536

noncomputable section

namespace Cert.KernelIdeal.Scan

open Cert.KernelIdeal Cert.KernelIdeal.Gen Cert.KernelIdeal.Tower Cert.Recurrence
open Idealize.ShloMosaic

/-- The chunk of 64 a row number is in, as the kernel computes it. -/
def chunkOf (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem chunkOf_eq : ∀ r : Fin 512, chunkOf (BitVec.ofNat 32 r.val) = BitVec.ofNat 32 (r.val / 64) := by decide +kernel

theorem chunk_cmp : ∀ a b : Fin 4, IntOp.cmpi CmpIPredicate.eq (BitVec.ofNat 32 a.val) (BitVec.ofNat 32 b.val) = if a = b then 1#1 else 0#1 := by
  decide +kernel

theorem row_cmp (r s : Fin 256) : IntOp.cmpi CmpIPredicate.sle (BitVec.ofNat 32 s.val) (BitVec.ofNat 32 r.val) = if s.val ≤ r.val then 1#1 else 0#1 := by
  have hr := r.isLt
  have hs := s.isLt
  have e : ∀ n : ℕ, n < 256 → (BitVec.ofNat 32 n).toInt = (n : ℤ) := fun n hn => by
    rw [BitVec.toInt_eq_toNat_of_lt (by rw [BitVec.toNat_ofNat]; omega), BitVec.toNat_ofNat]
    omega
  have h : (BitVec.ofNat 32 s.val).sle (BitVec.ofNat 32 r.val) = decide (s.val ≤ r.val) := by
    rw [BitVec.sle_eq_decide, e _ hs, e _ hr]
    exact decide_eq_decide.mpr (by omega)
  show BitVec.ofBool _ = _
  rw [h]
  by_cases hh : s.val ≤ r.val <;> simp [hh]

/-- The mask that keeps, for each row, the rows of its own chunk up to it. -/
theorem mask_at (r s : Fin 256) :
    k0_pay22 (iota .tc S256x256 32 [0] iota_S256x256_d0_w32) (iota .tc S256x256 32 [1] iota_S256x256_d1_w32) (64#32) k0_pay20 k0_pay21 (ix2 r s)
      = if 64 * (r.val / 64) ≤ s.val ∧ s.val ≤ r.val then 1#1 else 0#1 := by
  have hr := r.isLt
  have hs := s.isLt
  pointwise [k0_pay22, k0_pay20, k0_pay21]
  show IntOp.andi (IntOp.cmpi CmpIPredicate.eq (chunkOf (BitVec.ofNat 32 r.val)) (chunkOf (BitVec.ofNat 32 s.val))) _ = _
  rw [chunkOf_eq ⟨r.val, by omega⟩, chunkOf_eq ⟨s.val, by omega⟩, row_cmp]
  rw [show IntOp.cmpi CmpIPredicate.eq (BitVec.ofNat 32 (r.val / 64)) (BitVec.ofNat 32 (s.val / 64)) = _ from chunk_cmp ⟨r.val / 64, by omega⟩ ⟨s.val / 64, by omega⟩]
  by_cases h1 : s.val ≤ r.val <;> by_cases h2 : r.val / 64 = s.val / 64 <;>
    simp [h1, h2, Fin.ext_iff, IntOp.andi] <;> omega

theorem select_at (m : Prop) [Decidable m] (a b : EReal) : Scalar.select (if m then 1#1 else 0#1) a b = if m then a else b := by
  by_cases h : m <;> simp [h, Scalar.select]

/-- A masked sum of one quantity over the rows of a group, as a sum over the tokens of the row's chunk up to the row. -/
theorem masked_at (f : ℕ → ℝ) (g : ℕ) (r : Fin 256) :
    (∑ s : Fin 256, if 64 * (r.val / 64) ≤ s.val ∧ s.val ≤ r.val then (f (g + s.val) : EReal) else 0)
      = ((∑ s ∈ Finset.Ico (g + 64 * (r.val / 64)) (g + r.val + 1), f s : ℝ) : EReal) := by
  rw [← masked_sum 256 g (64 * (r.val / 64)) r.val r.isLt f (fun s => 64 * (r.val / 64) ≤ s.val ∧ s.val ≤ r.val) (fun _ => Iff.rfl), ← coe_sum]
  exact Finset.sum_congr rfl fun s _ => by split <;> simp

/-- The kernel's values at a point whose first row is token `T`, as real numbers: the logarithm of the decay `lf`, the keys
    `k`, half the queries before their activation `p` and the values `v`, each by column and token. -/
structure Rows (I : In Ideal) (T : ℕ) (lf k p v : ℕ → ℕ → ℝ) : Prop where
  key : ∀ r c : Fin 512, r_4 I (ix2 r c) = ((k c.val (T + r.val) : ℝ) : EReal)
  logf : ∀ r c : Fin 512, r_5 I (ix2 r c) = ((lf c.val (T + r.val) : ℝ) : EReal)
  query : ∀ r c : Fin 512, r_6 I (ix2 r c) = ((p c.val (T + r.val) : ℝ) : EReal)
  value : ∀ r c : Fin 512, r_7 I (ix2 r c) = ((v c.val (T + r.val) : ℝ) : EReal)

section point

variable {I : In Ideal} {T : ℕ} {lf k p v : ℕ → ℕ → ℝ} (H : Rows I T lf k p v)
include H

omit H in
theorem tri_at (r s : Fin 256) : r_9 I (ix2 r s) = if 64 * (r.val / 64) ≤ s.val ∧ s.val ≤ r.val then (1 : EReal) else 0 := by
  pointwise [r_9, k0_pay23]
  rw [mask_at, select_at]

/-- A row of the triangular mask against reals. -/
theorem tri_sum (f : ℕ → ℝ) (g : ℕ) (r : Fin 256) :
    (∑ s : Fin 256, r_9 I (ix2 r s) * (f (g + s.val) : EReal)) = ((total f (g + r.val + 1) - total f (g + 64 * (r.val / 64)) : ℝ) : EReal) := by
  simp only [tri_at, ite_mul, one_mul, zero_mul]
  rw [masked_at f g r, Finset.sum_Ico_eq_sub _ (by omega)]
  rfl

/-- The decay summed from the row's chunk's start through the row. -/
theorem decay_at (r c : Fin 512) :
    r_13 I (ix2 r c) = ((total (lf c.val) (T + r.val + 1) - total (lf c.val) (T + 64 * (r.val / 64)) : ℝ) : EReal) := by
  have hr := r.isLt
  have e12 : ∀ r : Fin 256, r_12 I (ix2 r c) = ∑ s : Fin 256, r_9 I (ix2 r s) * r_5 I (ix2 ⟨s.val, by omega⟩ c) := fun r => by
    pointwise [r_12, k0_pay29, k0_pay25, k0_pay24]
    rfl
  have e10 : ∀ s : Fin 256, r_10 I (ix2 s c) = 0 := fun s => by
    pointwise [r_10, k0_pay27, k0_pay26, k0_pay25, k0_pay24]
    rw [H.logf, ← EReal.coe_sub, sub_self, EReal.coe_zero]
  have e11 : ∀ s : Fin 256, r_11 I (ix2 s c) = 0 := fun s => by
    pointwise [r_11, k0_pay28, k0_pay27, k0_pay26, k0_pay25, k0_pay24]
    rw [H.logf, ← EReal.coe_sub, sub_self, EReal.coe_zero, sub_zero]
  pointwise [r_13, k0_pay30]
  simp only [e10, e11, mul_zero, Finset.sum_const_zero, add_zero, H.logf, ← EReal.coe_sub, sub_self, EReal.coe_zero, sub_zero]
  split
  · rw [e12]
    simp only [H.logf]
    exact tri_sum H (lf c.val) T ⟨r.val, by assumption⟩
  · simp only [← add_assoc]
    refine (tri_sum H (lf c.val) (T + 256) ⟨r.val - 256, by omega⟩).trans ?_
    show ((total _ (T + 256 + (r.val - 256) + 1) - total _ (T + 256 + 64 * ((r.val - 256) / 64)) : ℝ) : EReal) = _
    rw [show T + 256 + (r.val - 256) + 1 = T + r.val + 1 by omega, show T + 256 + 64 * ((r.val - 256) / 64) = T + 64 * (r.val / 64) by omega]

omit H in
/-- A concatenation of eight rows, each repeated 64 times, at row `r`. -/
theorem eight (r : Fin 512) (f : ℕ → EReal) (a0 a1 a2 a3 a4 a5 a6 a7 : EReal) (h0 : a0 = f 0) (h1 : a1 = f 1) (h2 : a2 = f 2)
    (h3 : a3 = f 3) (h4 : a4 = f 4) (h5 : a5 = f 5) (h6 : a6 = f 6) (h7 : a7 = f 7) :
    (if r.val < 64 then a0 else if r.val - 64 < 64 then a1 else if r.val - 64 - 64 < 64 then a2 else if r.val - 64 - 64 - 64 < 64 then a3
      else if r.val - 64 - 64 - 64 - 64 < 64 then a4 else if r.val - 64 - 64 - 64 - 64 - 64 < 64 then a5
      else if r.val - 64 - 64 - 64 - 64 - 64 - 64 < 64 then a6 else a7) = f (r.val / 64) := by
  have hr := r.isLt
  subst h0 h1 h2 h3 h4 h5 h6 h7
  split_ifs <;> congr 1 <;> omega

/-- The decay up to the middle of the row's chunk. -/
theorem middle_at (r c : Fin 512) :
    r_32 I (ix2 r c) = ((total (lf c.val) (T + 64 * (r.val / 64) + 33) - total (lf c.val) (T + 64 * (r.val / 64)) : ℝ) : EReal) := by
  pointwise [r_32, k0_pay54]
  simp only [decay_at H]
  exact eight r (fun κ => ((total (lf c.val) (T + 64 * κ + 33) - total (lf c.val) (T + 64 * κ) : ℝ) : EReal)) _ _ _ _ _ _ _ _ rfl rfl rfl rfl rfl rfl rfl rfl

/-- The activated queries. -/
abbrev act (z : ℝ) : ℝ := z + z * Real.tanh z

theorem qin_at (r c : Fin 512) :
    r_33 I (ix2 r c) = ((act (p c.val (T + r.val)) * Real.exp (total (lf c.val) (T + r.val + 1) - total (lf c.val) (T + 64 * (r.val / 64))) : ℝ) : EReal) := by
  pointwise [r_33, k0_pay55]
  simp only [decay_at H, H.query, Ideal.tanh_coe, Ideal.exp_coe, ← EReal.coe_mul, ← EReal.coe_add]

theorem qd_at (r c : Fin 512) :
    r_37 I (ix2 r c) = ((act (p c.val (T + r.val)) * Real.exp (total (lf c.val) (T + r.val + 1) - total (lf c.val) (T + 64 * (r.val / 64) + 33)) : ℝ) : EReal) := by
  pointwise [r_37, k0_pay59, r_34, r_35, r_36, k0_pay56, k0_pay57, k0_pay58]
  simp only [decay_at H, qin_at H, zero_sub, ← EReal.coe_neg, Ideal.exp_coe]
  refine (congrArg (_ * ·) (eight r (fun κ => ((Real.exp (-(total (lf c.val) (T + 64 * κ + 33) - total (lf c.val) (T + 64 * κ))) : ℝ) : EReal)) _ _ _ _ _ _ _ _ rfl rfl rfl rfl rfl rfl rfl rfl)).trans ?_
  rw [← EReal.coe_mul, mul_assoc, ← Real.exp_add]
  congr 3
  ring

theorem kd_at (r c : Fin 512) :
    r_38 I (ix2 r c) = ((k c.val (T + r.val) * Real.exp (total (lf c.val) (T + 64 * (r.val / 64) + 33) - total (lf c.val) (T + r.val + 1)) : ℝ) : EReal) := by
  pointwise [r_38, k0_pay60]
  simp only [decay_at H, middle_at H, H.key, ← EReal.coe_sub, Ideal.exp_coe, ← EReal.coe_mul, sub_sub_sub_cancel_right]

theorem kl_at (r c : Fin 512) :
    r_43 I (ix2 r c) = ((k c.val (T + r.val) * Real.exp (total (lf c.val) (T + 64 * (r.val / 64) + 64) - total (lf c.val) (T + r.val + 1)) : ℝ) : EReal) := by
  pointwise [r_43, k0_pay65, r_39, r_40, r_41, r_42, k0_pay61, k0_pay62, k0_pay63, k0_pay64]
  simp only [decay_at H, kd_at H, ← EReal.coe_sub, Ideal.exp_coe]
  refine (congrArg (_ * ·) (eight r (fun κ => ((Real.exp ((total (lf c.val) (T + 64 * κ + 64) - total (lf c.val) (T + 64 * κ)) - (total (lf c.val) (T + 64 * κ + 33) - total (lf c.val) (T + 64 * κ))) : ℝ) : EReal)) _ _ _ _ _ _ _ _ rfl rfl rfl rfl rfl rfl rfl rfl)).trans ?_
  rw [← EReal.coe_mul, mul_assoc, ← Real.exp_add]
  congr 3
  ring

omit H in
/-- The decay over a whole chunk, and what a chunk adds to a head's state. -/
def chunkDecay (I : In Ideal) : Fin 8 → Vec Ideal S1x512 .f32 := ![r_44 I, r_45 I, r_46 I, r_47 I, r_48 I, r_49 I, r_50 I, r_51 I]
omit H in
@[inherit_doc chunkDecay] def grow (I : In Ideal) : Fin 4 → Fin 8 → Vec Ideal S128x128 .f32 :=
  ![![r_62 I, r_63 I, r_64 I, r_65 I, r_66 I, r_67 I, r_68 I, r_69 I], ![r_70 I, r_73 I, r_74 I, r_75 I, r_76 I, r_77 I, r_78 I, r_79 I], ![r_80 I, r_81 I, r_82 I, r_85 I, r_86 I, r_87 I, r_88 I, r_89 I], ![r_90 I, r_91 I, r_92 I, r_93 I, r_94 I, r_97 I, r_98 I, r_99 I]]

theorem chunkDecay_at (κ : Fin 8) (c : Fin 512) :
    chunkDecay I κ (ix2 0 c) = ((Real.exp (total (lf c.val) (T + 64 * κ.val + 64) - total (lf c.val) (T + 64 * κ.val)) : ℝ) : EReal) := by
  fin_cases κ <;> pointwise [chunkDecay, Matrix.cons_val, r_44, r_45, r_46, r_47, r_48, r_49, r_50, r_51, k0_pay66, k0_pay67, k0_pay68, k0_pay69, k0_pay70, k0_pay71, k0_pay72, k0_pay73] <;> (rw [decay_at H]; rfl)

omit H in
theorem grow_read (h : Fin 4) (κ : Fin 8) (e d : Fin 128) :
    grow I h κ (ix2 e d) = ∑ i : Fin 64, r_7 I (ix2 ⟨64 * κ.val + i.val, by omega⟩ ⟨128 * h.val + e.val, by omega⟩)
      * r_43 I (ix2 ⟨64 * κ.val + i.val, by omega⟩ ⟨128 * h.val + d.val, by omega⟩) := by
  fin_cases h <;> fin_cases κ <;> pointwise [grow, Matrix.cons_val, r_62, r_63, r_64, r_65, r_66, r_67, r_68, r_69, r_70, r_71, r_72, r_73, r_74, r_75, r_76, r_77, r_78, r_79, r_80, r_81, r_82, r_83, r_84, r_85, r_86, r_87, r_88, r_89, r_90, r_91, r_92, r_93, r_94, r_95, r_96, r_97, r_98, r_99, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121]

/-- What chunk `κ` adds to the state of head `h`. -/
theorem grow_at (h : Fin 4) (κ : Fin 8) (e d : Fin 128) :
    grow I h κ (ix2 e d) = ((∑ i : Fin 64, v (128 * h.val + e.val) (T + 64 * κ.val + i.val) *
      (k (128 * h.val + d.val) (T + 64 * κ.val + i.val) * Real.exp (total (lf (128 * h.val + d.val)) (T + 64 * κ.val + 64) - total (lf (128 * h.val + d.val)) (T + 64 * κ.val + i.val + 1))) : ℝ) : EReal) := by
  rw [grow_read, ← coe_sum]
  refine Finset.sum_congr rfl fun i _ => ?_
  have hi := i.isLt
  rw [H.value, kl_at H, ← EReal.coe_mul]
  simp only [show 64 * ((64 * κ.val + i.val) / 64) = 64 * κ.val by omega, ← add_assoc]

end point

end Cert.KernelIdeal.Scan

end
-- ==== Proof.MixerHeads.lean ====
/- The output of each head of the mixer's recurrence at one grid point: its queries against the carried state and against the
   keys of their own chunk, and the state carried on. -/
module

public import proofs.«01_k».proof.Proof.MixerScan

@[expose] public section

set_option maxRecDepth 65536
set_option maxHeartbeats 400000

noncomputable section

namespace Cert.KernelIdeal.Scan

open Cert.KernelIdeal Cert.KernelIdeal.Gen Cert.KernelIdeal.Tower Cert.Recurrence
open Idealize.ShloMosaic

/-- The states the four heads bring into the point. -/
def carried (I : In Ideal) : Fin 4 → Vec Ideal S1x128x128 .f32 := ![I.s0, I.s1, I.s2, I.s3]

/-- The states they carry on. -/
def carriedOn (I : In Ideal) : Fin 4 → Vec Ideal S1x128x128 .f32 := ![st0 I, st1 I, st2 I, st3 I]

/-- A head's state before chunk `κ`. -/
def stateAt (I : In Ideal) (h : Fin 4) (e d : Fin 128) : ℕ → EReal
  | 0 => carried I h (ix3 0 e d)
  | κ + 1 => stateAt I h e d κ * chunkDecay I (Fin.ofNat 8 κ) (ix2 0 ⟨128 * h.val + d.val, by omega⟩) + grow I h (Fin.ofNat 8 κ) (ix2 e d)

theorem stateAt_eight (I : In Ideal) (h : Fin 4) (e d : Fin 128) : stateAt I h e d 8 =
    ((((((((carried I h (ix3 0 e d)) * chunkDecay I 0 (ix2 0 ⟨128 * h.val + d.val, by omega⟩) + grow I h 0 (ix2 e d)) * chunkDecay I 1 (ix2 0 ⟨128 * h.val + d.val, by omega⟩) + grow I h 1 (ix2 e d)) * chunkDecay I 2 (ix2 0 ⟨128 * h.val + d.val, by omega⟩) + grow I h 2 (ix2 e d)) * chunkDecay I 3 (ix2 0 ⟨128 * h.val + d.val, by omega⟩) + grow I h 3 (ix2 e d)) * chunkDecay I 4 (ix2 0 ⟨128 * h.val + d.val, by omega⟩) + grow I h 4 (ix2 e d)) * chunkDecay I 5 (ix2 0 ⟨128 * h.val + d.val, by omega⟩) + grow I h 5 (ix2 e d)) * chunkDecay I 6 (ix2 0 ⟨128 * h.val + d.val, by omega⟩) + grow I h 6 (ix2 e d)) * chunkDecay I 7 (ix2 0 ⟨128 * h.val + d.val, by omega⟩) + grow I h 7 (ix2 e d) := rfl

theorem carriedOn_read (I : In Ideal) (h : Fin 4) (e d : Fin 128) : carriedOn I h (ix3 0 e d) = stateAt I h e d 8 := by
  refine Eq.trans ?_ (stateAt_eight I h e d).symm
  fin_cases h <;> pointwise [carried, chunkDecay, grow, carriedOn, Matrix.cons_val, st0, st1, st2, st3, r_118, r_121, r_129, r_131, r_135, r_142, r_147, r_149, r_156, k0_pay153, k0_pay173, k0_pay193, k0_pay214, k0_pay151, k0_pay156, k0_pay169, k0_pay171, k0_pay178, k0_pay191, k0_pay198, k0_pay200, k0_pay213, k0_pay139, k0_pay141, k0_pay143, k0_pay145, k0_pay147, k0_pay149, k0_pay152, k0_pay159, k0_pay161, k0_pay163, k0_pay165, k0_pay167, k0_pay172, k0_pay176, k0_pay179, k0_pay181, k0_pay183, k0_pay185, k0_pay187, k0_pay189, k0_pay196, k0_pay201, k0_pay203, k0_pay205, k0_pay207, k0_pay209, k0_pay211]

section

variable {I : In Ideal} {T : ℕ} {lf k p v : ℕ → ℕ → ℝ} (H : Rows I T lf k p v)
include H

/-- The states a head carries are the recurrence's, if the ones brought in are. -/
theorem stateAt_at (h : Fin 4) (e d : Fin 128)
    (h0 : carried I h (ix3 0 e d) = ((state (lf (128 * h.val + d.val)) (k (128 * h.val + d.val)) (v (128 * h.val + e.val)) T : ℝ) : EReal)) :
    ∀ κ ≤ 8, stateAt I h e d κ = ((state (lf (128 * h.val + d.val)) (k (128 * h.val + d.val)) (v (128 * h.val + e.val)) (T + 64 * κ) : ℝ) : EReal)
  | 0, _ => h0
  | κ + 1, hκ => by
      have hκ' : (Fin.ofNat 8 κ).val = κ := Nat.mod_eq_of_lt (by omega)
      show stateAt I h e d κ * _ + _ = _
      rw [stateAt_at h e d h0 κ (by omega), chunkDecay_at H, grow_at H, hκ', ← EReal.coe_mul, ← EReal.coe_add,
        show T + 64 * (κ + 1) = T + 64 * κ + 64 by omega, state_step _ _ _ (T + 64 * κ) 64]

/-- One row's part from the keys of its own chunk. -/
theorem intra_sum (h : Fin 4) (g : ℕ) (hg : g = 0 ∨ g = 256) (r : Fin 256) (Q E : Fin 512) (hQ : Q.val = g + r.val) (e : Fin 128)
    (hE : E.val = 128 * h.val + e.val) (R : Fin 256 → Fin 512) (hR : ∀ s, (R s).val = g + s.val) (C : Fin 128 → Fin 512)
    (hC : ∀ d, (C d).val = 128 * h.val + d.val) :
    (∑ s : Fin 256, Scalar.select (r_8 I (ix2 r s)) (∑ d, r_37 I (ix2 Q (C d)) * r_38 I (ix2 (R s) (C d))) 0 * r_7 I (ix2 (R s) E))
      = ((∑ s ∈ Finset.Ico (T + 64 * (Q.val / 64)) (T + Q.val + 1), score (fun d : Fin 128 => lf (128 * h.val + d.val))
          (fun d => k (128 * h.val + d.val)) (fun d => act (p (128 * h.val + d.val) (T + Q.val))) (T + Q.val) s * v (128 * h.val + e.val) s : ℝ) : EReal) := by
  have hq : 64 * (Q.val / 64) = g + 64 * (r.val / 64) := by rcases hg with rfl | rfl <;> omega
  rw [hq, show T + (g + 64 * (r.val / 64)) = (T + g) + 64 * (r.val / 64) by omega, show T + Q.val + 1 = (T + g) + r.val + 1 by omega, ← masked_at]
  refine Finset.sum_congr rfl fun s _ => ?_
  rw [show r_8 I (ix2 r s) = _ from mask_at r s, select_at]
  by_cases hs : 64 * (r.val / 64) ≤ s.val ∧ s.val ≤ r.val
  · have hs' : (R s).val / 64 = Q.val / 64 := by rw [hR, hQ]; rcases hg with rfl | rfl <;> omega
    rw [if_pos hs, if_pos hs, H.value, hE, show T + g + s.val = T + (R s).val by rw [hR]; omega, score, Finset.sum_congr rfl fun d _ => by
      rw [qd_at H, kd_at H, hC, hs', ← EReal.coe_mul], coe_sum, ← EReal.coe_mul]
    refine congrArg _ (congrArg (· * _) (Finset.sum_congr rfl fun d _ => ?_))
    rw [mul_mul_mul_comm, ← Real.exp_add]
    congr 2
    ring
  · rw [if_neg hs, if_neg hs, zero_mul]

end

/-- Each head's part from the keys of its own chunk. -/
def intra (I : In Ideal) : Fin 4 → Vec Ideal S512x128 .f32 := ![r_111 I, r_120 I, r_133 I, r_145 I]

section

variable {I : In Ideal} {T : ℕ} {lf k p v : ℕ → ℕ → ℝ} (H : Rows I T lf k p v)
include H

theorem intra_at (h : Fin 4) (r : Fin 512) (e : Fin 128) :
    intra I h (ix2 r e) = ((∑ s ∈ Finset.Ico (T + 64 * (r.val / 64)) (T + r.val + 1), score (fun d : Fin 128 => lf (128 * h.val + d.val))
          (fun d => k (128 * h.val + d.val)) (fun d => act (p (128 * h.val + d.val) (T + r.val))) (T + r.val) s * v (128 * h.val + e.val) s : ℝ) : EReal) := by
  by_cases hr : r.val < 256
  · refine Eq.trans ?_ (intra_sum H h 0 (.inl rfl) ⟨r.val, hr⟩ r ⟨128 * h.val + e.val, by omega⟩ (by simp) e rfl (fun s => ⟨s.val, by omega⟩)
      (fun s => (Nat.zero_add _).symm) (fun d => ⟨128 * h.val + d.val, by omega⟩) fun d => rfl)
    fin_cases h <;> pointwise [intra, Matrix.cons_val, r_111, r_109, r_110, r_120, r_133, r_145, r_53, r_54, r_55, r_56, r_57, r_58, r_59, r_61, r_60, k0_pay136, k0_pay137, k0_pay138, k0_pay155, k0_pay175, k0_pay195, k0_pay75, k0_pay76, k0_pay77, k0_pay78, k0_pay79, k0_pay80, k0_pay81, k0_pay82, k0_pay83] <;> rw [dif_pos hr]
  · refine Eq.trans ?_ (intra_sum H h 256 (.inr rfl) ⟨r.val - 256, by omega⟩ r ⟨128 * h.val + e.val, by omega⟩ (by simp; omega) e rfl
      (fun s => ⟨256 + s.val, by omega⟩) (fun s => rfl) (fun d => ⟨128 * h.val + d.val, by omega⟩) fun d => rfl)
    fin_cases h <;> pointwise [intra, Matrix.cons_val, r_111, r_109, r_110, r_120, r_133, r_145, r_53, r_54, r_55, r_56, r_57, r_58, r_59, r_61, r_60, k0_pay136, k0_pay137, k0_pay138, k0_pay155, k0_pay175, k0_pay195, k0_pay75, k0_pay76, k0_pay77, k0_pay78, k0_pay79, k0_pay80, k0_pay81, k0_pay82, k0_pay83] <;> rw [dif_neg hr] <;>
      simp only [show 256 + (r.val - 256) = r.val by omega, Fin.eta]

end

/-- A row's part from the state its chunk starts from. -/
def inter (I : In Ideal) (h : Fin 4) (r : Fin 512) (e : Fin 128) (κ : ℕ) : EReal :=
  ∑ d : Fin 128, r_33 I (ix2 r ⟨128 * h.val + d.val, by omega⟩) * stateAt I h e d κ

/-- A head's output before its normalisation. -/
def raw (I : In Ideal) (h : Fin 4) (r : Fin 512) (e : Fin 128) : EReal :=
  intra I h (ix2 r e) + inter I h r e (r.val / 64)

/-- A row divided by the root of its mean square, times a scale. -/
def rmsRow (o : Fin 128 → EReal) (g : EReal) (e : Fin 128) : EReal :=
  o e * Ideal.rsqrt (Ideal.div (∑ x, o x * o x) (Scalar.ofBits (F := Ideal) .f32 0x43000000#32) + Scalar.ofBits (F := Ideal) .f32 0x358637BD#32) * g

/-- The outputs of the first three heads. -/
def headOut (I : In Ideal) : Fin 3 → Vec Ideal S512x128 .f32 := ![r_119 I, r_132 I, r_144 I]

/-- Rows put together from eight chunks, each given on its own rows. -/
theorem eight_rows (r : Fin 512) (f : ℕ → EReal) (a0 : r.val < 64 → EReal) (a1 : ¬ r.val < 64 → r.val - 64 < 64 → EReal) (a2 : ¬ r.val < 64 → ¬ r.val - 64 < 64 → r.val - 64 - 64 < 64 → EReal) (a3 : ¬ r.val < 64 → ¬ r.val - 64 < 64 → ¬ r.val - 64 - 64 < 64 → r.val - 64 - 64 - 64 < 64 → EReal) (a4 : ¬ r.val < 64 → ¬ r.val - 64 < 64 → ¬ r.val - 64 - 64 < 64 → ¬ r.val - 64 - 64 - 64 < 64 → r.val - 64 - 64 - 64 - 64 < 64 → EReal) (a5 : ¬ r.val < 64 → ¬ r.val - 64 < 64 → ¬ r.val - 64 - 64 < 64 → ¬ r.val - 64 - 64 - 64 < 64 → ¬ r.val - 64 - 64 - 64 - 64 < 64 → r.val - 64 - 64 - 64 - 64 - 64 < 64 → EReal) (a6 : ¬ r.val < 64 → ¬ r.val - 64 < 64 → ¬ r.val - 64 - 64 < 64 → ¬ r.val - 64 - 64 - 64 < 64 → ¬ r.val - 64 - 64 - 64 - 64 < 64 → ¬ r.val - 64 - 64 - 64 - 64 - 64 < 64 → r.val - 64 - 64 - 64 - 64 - 64 - 64 < 64 → EReal) (a7 : ¬ r.val < 64 → ¬ r.val - 64 < 64 → ¬ r.val - 64 - 64 < 64 → ¬ r.val - 64 - 64 - 64 < 64 → ¬ r.val - 64 - 64 - 64 - 64 < 64 → ¬ r.val - 64 - 64 - 64 - 64 - 64 < 64 → ¬ r.val - 64 - 64 - 64 - 64 - 64 - 64 < 64 → EReal)
    (h0 : r.val / 64 = 0 → ∀ p0, a0 p0 = f 0) (h1 : r.val / 64 = 1 → ∀ p0 p1, a1 p0 p1 = f 1) (h2 : r.val / 64 = 2 → ∀ p0 p1 p2, a2 p0 p1 p2 = f 2) (h3 : r.val / 64 = 3 → ∀ p0 p1 p2 p3, a3 p0 p1 p2 p3 = f 3) (h4 : r.val / 64 = 4 → ∀ p0 p1 p2 p3 p4, a4 p0 p1 p2 p3 p4 = f 4) (h5 : r.val / 64 = 5 → ∀ p0 p1 p2 p3 p4 p5, a5 p0 p1 p2 p3 p4 p5 = f 5) (h6 : r.val / 64 = 6 → ∀ p0 p1 p2 p3 p4 p5 p6, a6 p0 p1 p2 p3 p4 p5 p6 = f 6) (h7 : r.val / 64 = 7 → ∀ p0 p1 p2 p3 p4 p5 p6, a7 p0 p1 p2 p3 p4 p5 p6 = f 7) :
    (if p0 : r.val < 64 then a0 p0 else if p1 : r.val - 64 < 64 then a1 p0 p1 else if p2 : r.val - 64 - 64 < 64 then a2 p0 p1 p2 else if p3 : r.val - 64 - 64 - 64 < 64 then a3 p0 p1 p2 p3 else if p4 : r.val - 64 - 64 - 64 - 64 < 64 then a4 p0 p1 p2 p3 p4 else if p5 : r.val - 64 - 64 - 64 - 64 - 64 < 64 then a5 p0 p1 p2 p3 p4 p5 else if p6 : r.val - 64 - 64 - 64 - 64 - 64 - 64 < 64 then a6 p0 p1 p2 p3 p4 p5 p6 else a7 p0 p1 p2 p3 p4 p5 p6) = f (r.val / 64) := by
  by_cases p0 : r.val < 64
  · rw [dif_pos p0, h0 (by omega) p0, show r.val / 64 = 0 by omega]
  rw [dif_neg p0]
  by_cases p1 : r.val - 64 < 64
  · rw [dif_pos p1, h1 (by omega) p0 p1, show r.val / 64 = 1 by omega]
  rw [dif_neg p1]
  by_cases p2 : r.val - 64 - 64 < 64
  · rw [dif_pos p2, h2 (by omega) p0 p1 p2, show r.val / 64 = 2 by omega]
  rw [dif_neg p2]
  by_cases p3 : r.val - 64 - 64 - 64 < 64
  · rw [dif_pos p3, h3 (by omega) p0 p1 p2 p3, show r.val / 64 = 3 by omega]
  rw [dif_neg p3]
  by_cases p4 : r.val - 64 - 64 - 64 - 64 < 64
  · rw [dif_pos p4, h4 (by omega) p0 p1 p2 p3 p4, show r.val / 64 = 4 by omega]
  rw [dif_neg p4]
  by_cases p5 : r.val - 64 - 64 - 64 - 64 - 64 < 64
  · rw [dif_pos p5, h5 (by omega) p0 p1 p2 p3 p4 p5, show r.val / 64 = 5 by omega]
  rw [dif_neg p5]
  by_cases p6 : r.val - 64 - 64 - 64 - 64 - 64 - 64 < 64
  · rw [dif_pos p6, h6 (by omega) p0 p1 p2 p3 p4 p5 p6, show r.val / 64 = 6 by omega]
  rw [dif_neg p6]
  rw [h7 (by omega) p0 p1 p2 p3 p4 p5 p6, show r.val / 64 = 7 by omega]

theorem rms_congr {A B : Fin 128 → EReal} {g : Fin 128 → EReal} (h : ∀ x, A x = B x) (e : Fin 128) :
    A e * Ideal.rsqrt (Ideal.div (∑ x, A x * A x) (Ideal.ofBits FTy.f32 0x43000000#32) + Ideal.ofBits FTy.f32 0x358637BD#32) * g e
      = rmsRow B (g e) e := by
  obtain rfl := funext h
  rfl

theorem headOut_read (I : In Ideal) (h : Fin 3) (r : Fin 512) (e : Fin 128) :
    headOut I h (ix2 r e) = rmsRow (raw I h.castSucc r) (I.hgg (ix2 0 ⟨128 * h.val + e.val, by omega⟩)) e := by
  have c0 : Fin.castSucc (0 : Fin 3) = 0 := rfl
  have c1 : Fin.castSucc (1 : Fin 3) = 1 := rfl
  have c2 : Fin.castSucc (2 : Fin 3) = 2 := rfl
  fin_cases h <;> pointwise [headOut, Matrix.cons_val, r_119, r_132, r_144, r_52, k0_pay74, k0_pay154, k0_pay174, k0_pay194] <;> revert e <;>
    refine rms_congr fun x => congrArg (_ + ·) (eight_rows r (inter I _ r x) _ _ _ _ _ _ _ _ ?_ ?_ ?_ ?_ ?_ ?_ ?_ ?_) <;> intros <;>
    pointwise [c0, c1, c2, carried, chunkDecay, grow, inter, stateAt, Fin.ofNat, Matrix.cons_val, r_118, r_121, r_129, r_131, r_135, r_142, r_147, r_149, r_156, r_112, r_113, r_114, r_115, r_116, r_117, r_122, r_123, r_124, r_125, r_126, r_127, r_128, r_130, r_134, r_136, r_137, r_138, r_139, r_140, r_141, r_143, r_146, r_148, r_150, r_151, r_152, r_153, r_154, r_155, k0_pay153, k0_pay173, k0_pay193, k0_pay214, k0_pay151, k0_pay156, k0_pay169, k0_pay171, k0_pay178, k0_pay191, k0_pay198, k0_pay200, k0_pay213, k0_pay139, k0_pay141, k0_pay143, k0_pay145, k0_pay147, k0_pay149, k0_pay152, k0_pay159, k0_pay161, k0_pay163, k0_pay165, k0_pay167, k0_pay172, k0_pay176, k0_pay179, k0_pay181, k0_pay183, k0_pay185, k0_pay187, k0_pay189, k0_pay196, k0_pay201, k0_pay203, k0_pay205, k0_pay207, k0_pay209, k0_pay211, k0_pay74, k0_pay154, k0_pay174, k0_pay194, k0_pay140, k0_pay142, k0_pay144, k0_pay146, k0_pay148, k0_pay150, k0_pay157, k0_pay158, k0_pay160, k0_pay162, k0_pay164, k0_pay166, k0_pay168, k0_pay170, k0_pay177, k0_pay180, k0_pay182, k0_pay184, k0_pay186, k0_pay188, k0_pay190, k0_pay192, k0_pay197, k0_pay199, k0_pay202, k0_pay204, k0_pay206, k0_pay208, k0_pay210, k0_pay212] <;>
    refine Finset.sum_congr rfl fun d _ => congrArg (fun R => r_33 I (ix2 R _) * _) (Fin.ext (by show _ = r.val; simp only []; omega))

end Cert.KernelIdeal.Scan

end
-- ==== Proof.MixerTarget.lean ====
/- The mixer's recurrence as a function of its three input arrays, for inputs that are all real numbers: each channel's
   forget gate, key and value of every token, and the equality of the arithmetic the programs spell with these. -/
module

public import proofs.«01_k».proof.Proof.MixerMath
public import Idealize.ShloMosaic.Lib.Pointwise
public import Idealize.ShloMosaic.Lib.IdealHost

@[expose] public section

set_option maxRecDepth 65536

noncomputable section

namespace Cert.Recurrence

open Idealize.ShloMosaic

abbrev ShX : Shape := ⟨3, ![8, 2048, 1024]⟩
abbrev ShW : Shape := ⟨2, ![1024, 5632]⟩
abbrev ShL : Shape := ⟨2, ![2, 512]⟩

/-- Every entry of an array is a real number. -/
def AllReal {s : Shape} (X : s.Idx → EReal) : Prop := ∀ i, X i = ((X i).toReal : EReal)

section arrays
variable (X : ShX.Idx → EReal) (W : ShW.Idx → EReal) (L : ShL.Idx → EReal) (q : Fin 8)

/-- Column `n` of the projection of token `s` of sequence `q`. -/
def proj (n : Fin 5632) (s : ℕ) : ℝ :=
  ∑ k : Fin 1024, (X (ix3 q ⟨s % 2048, Nat.mod_lt _ (by decide)⟩ k)).toReal * (W (ix2 k n)).toReal

/-- The lower bound of channel `c`'s forget gate: the first entry of the softmax of its two logits. -/
def lower (c : ℕ) : ℝ :=
  let e := fun i : Fin 2 => Real.exp (L (ix2 i ⟨c % 512, Nat.mod_lt _ (by decide)⟩)).toReal
  e 0 / (e 0 + e 1)

def sig (z : ℝ) : ℝ := 1 / (1 + Real.exp (-z))

/-- The column of channel `c` in the group of 512 columns that starts at `o`. -/
def col (o : ℕ) (ho : o + 512 ≤ 5632) (c : ℕ) : Fin 5632 := ⟨o + c % 512, by have := Nat.mod_lt c (show 0 < 512 by decide); omega⟩

/-- The logarithm of the forget gate of channel `c` at token `s`. -/
def logf (c s : ℕ) : ℝ := Real.log (lower L c + (1 - lower L c) * sig (proj X W q (col 768 (by decide) c) s))
def key (c s : ℕ) : ℝ := (1 - lower L c) * sig (-proj X W q (col 768 (by decide) c) s)
def value (c s : ℕ) : ℝ := proj X W q (col 1280 (by decide) c) s
/-- Half of the query. -/
def query (c s : ℕ) : ℝ := (1 / 2 : ℝ) * proj X W q (col 256 (by decide) c) s

/-- The entry of the final state of head `h` at key channel `d` and value channel `e`. -/
def final (h : Fin 4) (d e : Fin 128) : ℝ :=
  state (logf X W L q (128 * h.val + d.val)) (key X W L q (128 * h.val + d.val)) (value X W q (128 * h.val + e.val)) 2048

end arrays

theorem sig_pos (z : ℝ) : 0 < sig z := by unfold sig; positivity

theorem lower_pos (L : ShL.Idx → EReal) (c : ℕ) : 0 < lower L c := by unfold lower; positivity

theorem lower_lt (L : ShL.Idx → EReal) (c : ℕ) : lower L c < 1 := by
  unfold lower
  dsimp only
  rw [div_lt_one (by positivity)]
  linarith [Real.exp_pos (L (ix2 1 ⟨c % 512, Nat.mod_lt _ (by decide)⟩)).toReal]

theorem gate_pos (L : ShL.Idx → EReal) (c : ℕ) (z : ℝ) : 0 < lower L c + (1 - lower L c) * sig z := by
  have h0 := lower_pos L c
  have h1 := lower_lt L c
  have h2 := sig_pos z
  nlinarith [mul_pos (sub_pos.mpr h1) h2]

/-! ## The programs' arithmetic -/

theorem proj_at {X : ShX.Idx → EReal} {W : ShW.Idx → EReal} (hX : AllReal X) (hW : AllReal W) (q : Fin 8) (s : Fin 2048) (n : Fin 5632) :
    (∑ k : Fin 1024, X (ix3 q s k) * W (ix2 k n)) = ((proj X W q n s.val : ℝ) : EReal) := by
  unfold proj
  rw [← coe_sum]
  refine Finset.sum_congr rfl fun k _ => ?_
  rw [hX (ix3 q s k), hW (ix2 k n), EReal.coe_mul]
  simp only [Nat.mod_eq_of_lt s.isLt, EReal.toReal_coe]

theorem one_sub (a : ℝ) : (1 : EReal) - (a : EReal) = ((1 - a : ℝ) : EReal) := by rw [EReal.coe_sub, EReal.coe_one]

theorem sig_at (z : ℝ) : Ideal.div 1 (1 + Ideal.exp (-(z : EReal))) = ((sig z : ℝ) : EReal) := by
  have h : (1 + Real.exp (-z)) ≠ 0 := by positivity
  rw [← EReal.coe_neg, Ideal.exp_coe, ← EReal.coe_one, ← EReal.coe_add, Ideal.div_coe h, ← EReal.coe_mul, one_mul]
  rfl

theorem log_at {a : ℝ} (h : 0 < a) : Ideal.log (a : EReal) = ((Real.log a : ℝ) : EReal) := by
  rw [Ideal.log_coe, if_neg (not_le.mpr h)]

/-- The forget gate from the hyperbolic tangent of half the projection. -/
theorem sig_tanh (z : ℝ) : (1 / 2 : ℝ) + 1 / 2 * Real.tanh (1 / 2 * z) = sig z := by
  unfold sig
  have e1 : Real.exp (-z) = Real.exp (-(1 / 2 * z)) * Real.exp (-(1 / 2 * z)) := by rw [← Real.exp_add]; congr 1; ring
  have e2 : Real.exp (1 / 2 * z) * Real.exp (-(1 / 2 * z)) = 1 := by rw [← Real.exp_add]; simp
  rw [Real.tanh_eq_sinh_div_cosh, Real.sinh_eq, Real.cosh_eq, e1]
  have p1 := Real.exp_pos (1 / 2 * z)
  have p2 := Real.exp_pos (-(1 / 2 * z))
  generalize Real.exp (1 / 2 * z) = a at *
  generalize Real.exp (-(1 / 2 * z)) = b at *
  have : b = 1 / a := by field_simp; linarith
  subst this
  field_simp
  ring

theorem sig_tanh_neg (z : ℝ) : (1 / 2 : ℝ) - 1 / 2 * Real.tanh (1 / 2 * z) = sig (-z) := by
  rw [← sig_tanh (-z), mul_neg, Real.tanh_neg]
  ring

theorem softmax_at {L : ShL.Idx → EReal} (hL : AllReal L) (c : Fin 512) (M : ℝ) :
    Ideal.div (Ideal.exp (L (ix2 0 c) - (M : EReal))) (∑ i : Fin 2, Ideal.exp (L (ix2 i c) - (M : EReal))) = ((lower L c.val : ℝ) : EReal) := by
  have e : ∀ i : Fin 2, Ideal.exp (L (ix2 i c) - (M : EReal)) = ((Real.exp ((L (ix2 i c)).toReal) / Real.exp M : ℝ) : EReal) := fun i => by
    rw [hL (ix2 i c), ← EReal.coe_sub, Ideal.exp_coe, Real.exp_sub, EReal.toReal_coe]
  simp only [e, Fin.sum_univ_two]
  have hp := Real.exp_pos M
  have h0 := Real.exp_pos (L (ix2 0 c)).toReal
  have h1 := Real.exp_pos (L (ix2 1 c)).toReal
  rw [← EReal.coe_add, Ideal.div_coe (by positivity)]
  unfold lower
  simp only [Nat.mod_eq_of_lt c.isLt]
  rw [← EReal.coe_mul]
  congr 1
  field_simp

theorem negInf : Ideal.ofBits .f32 4286578688#32 = ⊥ := by simp [Ideal.ofBits, Ideal.ieee]

/-- A maximum over real numbers, some of them, that starts at the least value is a real number. -/
theorem fold_max_real {ι : Type*} (s : Finset ι) (f : ι → EReal) (hf : ∀ i, f i = ((f i).toReal : EReal)) (i : ι) (hi : i ∈ s) :
    ∃ M : ℝ, s.fold max (Ideal.ofBits .f32 4286578688#32) f = (M : EReal) := by
  rw [negInf]
  refine ⟨(s.fold max ⊥ f).toReal, (EReal.coe_toReal (ne_of_lt ?_) (ne_of_gt ?_)).symm⟩
  · exact (Finset.fold_max_lt _).mpr ⟨bot_lt_top, fun x _ => by rw [hf x]; exact EReal.coe_lt_top _⟩
  · exact (Finset.lt_fold_max _).mpr (Or.inr ⟨i, hi, by rw [hf i]; exact EReal.bot_lt_coe _⟩)

/-- The lower-triangular factor. -/
theorem tri (t x : ℕ) (ht : t < 2048) (hx : x < 2048) :
    FloatOps.uitofp (F := Ideal) FTy.f32 (Scalar.select (IntOp.cmpi CmpIPredicate.sge (IntOp.addi (BitVec.ofNat 32 t) 0#32) (BitVec.ofNat 32 x)) 1#1 0#1)
      = (((if x ≤ t then 1 else 0 : ℝ)) : EReal) := by
  have e : ∀ n : ℕ, n < 2048 → (BitVec.ofNat 32 n).toInt = (n : ℤ) := fun n hn => by
    rw [BitVec.toInt_eq_toNat_of_lt (by rw [BitVec.toNat_ofNat]; omega), BitVec.toNat_ofNat]
    omega
  have a0 : IntOp.addi (BitVec.ofNat 32 t) 0#32 = BitVec.ofNat 32 t := BitVec.add_zero _
  have h : (BitVec.ofNat 32 x).sle (BitVec.ofNat 32 t) = decide (x ≤ t) := by
    rw [BitVec.sle_eq_decide, e _ hx, e _ ht]
    exact decide_eq_decide.mpr (by omega)
  have h' : IntOp.cmpi CmpIPredicate.sge (BitVec.ofNat 32 t) (BitVec.ofNat 32 x) = BitVec.ofBool (decide (x ≤ t)) := congrArg BitVec.ofBool h
  rw [a0, h']
  by_cases hh : x ≤ t
  · simp only [hh, decide_true, if_true]
    show (((1#1 : BitVec 1).toNat : ℝ) : EReal) = _
    simp
  · simp only [hh, decide_false, if_false]
    show (((0#1 : BitVec 1).toNat : ℝ) : EReal) = _
    simp

/-- The sum of the first `t + 1` of 2048 numbers, as a product with the triangular factor. -/
theorem total_at (lf : ℕ → ℝ) (t : ℕ) (ht : t < 2048) :
    (∑ x : Fin 2048, ((lf x.val : ℝ) : EReal) * (((if x.val ≤ t then 1 else 0 : ℝ)) : EReal)) = ((total lf (t + 1) : ℝ) : EReal) := by
  simp only [← EReal.coe_mul]
  rw [coe_sum, Fin.sum_univ_eq_sum_range (fun x => lf x * if x ≤ t then 1 else 0) 2048]
  congr 1
  unfold total
  simp only [mul_ite, mul_one, mul_zero]
  rw [← Finset.sum_filter]
  refine Finset.sum_congr (Finset.ext fun x => ?_) fun _ _ => rfl
  simp only [Finset.mem_filter, Finset.mem_range]
  omega

end Cert.Recurrence
-- ==== Proof.MixerArrays.lean ====
/- The arrays the mixer's windows read, and the blocks of them a grid point sees. -/
module

public import proofs.«01_k».proof.Proof.MixerTower
public import proofs.«01_k».proof.Proof.MixerTarget
public import Idealize.ShloMosaic.Lib.Pointwise

@[expose] public section

set_option maxRecDepth 65536

noncomputable section

namespace Cert.KernelIdeal.Arrays

open Cert.KernelIdeal Cert.KernelIdeal.Gen Cert.KernelIdeal.Tower Cert.KernelIdeal.Mix Cert.Recurrence
open Idealize.ShloMosaic Idealize.ShloMosaic.TcCoe Idealize.SL.Sem

variable (m : (ℓ : Loc nD τ sig) → Buf (Elt Ideal) ℓ) (c : Dev nD)

/-- Whether a column of the input projection is one the kernel halves, as the program computes it. -/
def halvedWord (x : BitVec 32) : BitVec 1 :=
  IntOp.ori (IntOp.ori (IntOp.ori
      (IntOp.andi (IntOp.cmpi CmpIPredicate.sge x 256#32) (IntOp.cmpi CmpIPredicate.slt x 768#32))
      (IntOp.andi (IntOp.cmpi CmpIPredicate.sge x 768#32) (IntOp.cmpi CmpIPredicate.slt x 1280#32)))
      (IntOp.andi (IntOp.cmpi CmpIPredicate.sge x 1792#32) (IntOp.cmpi CmpIPredicate.slt x 2304#32)))
      (IntOp.andi (IntOp.cmpi CmpIPredicate.sge x 2560#32) (IntOp.cmpi CmpIPredicate.slt x 5632#32))

def Halved (n : ℕ) : Prop := (256 ≤ n ∧ n < 1280) ∨ (1792 ≤ n ∧ n < 2304) ∨ 2560 ≤ n

instance (n : ℕ) : Decidable (Halved n) := by unfold Halved; infer_instance

theorem halvedWord_eq : ∀ n : Fin 5632, halvedWord (BitVec.ofNat 32 n.val) = if Halved n.val then 1#1 else 0#1 := by decide +kernel

theorem half_bits : Ideal.ofBits .f32 1056964608#32 = ((1 / 2 : ℝ) : EReal) := by
  simp [Ideal.ofBits, Ideal.ieee]
  rw [← EReal.coe_mul]
  norm_num

/-- The three arrays the recurrence depends on: the tokens, the projection's weights and the lower bounds' logits. -/
abbrev X : ShX.Idx → EReal := m ((c : Thread nD τ).loc main_arg0)
@[inherit_doc X] abbrev W : ShW.Idx → EReal := m ((c : Thread nD τ).loc main_arg4)
@[inherit_doc X] abbrev L : ShL.Idx → EReal := m ((c : Thread nD τ).loc main_arg3)

theorem V_v47 (k : Fin 1024) (n : Fin 5632) : (V m c main_v47 : Vec Ideal S1024x5632 .bf16) (ix2 k n)
    = W m c (ix2 k n) * (if Halved n.val then ((1 / 2 : ℝ) : EReal) else 1) := by
  show StableHlo.after (List.flatten [hostOps0, hostOps0_1, hostOps0_2]) (fun b => m (c, b)) _ _ = _
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  pointwise [id]
  refine congrArg (W m c (ix2 k n) * ·) (show (Scalar.select (halvedWord (BitVec.ofNat 32 n.val)) _ _ : EReal) = _ from ?_)
  rw [halvedWord_eq, half_bits]
  by_cases h : Halved n.val <;> simp [h, Scalar.select]

/-! ## The blocks -/

theorem index_rows : ∀ t : Fin cfg0.N, win0_0.index t = ![t.val / 4, t.val % 4, 0] ∧ win0_18.index t = ![t.val / 4, 0, 0] ∧ win0_19.index t = ![t.val / 4, 0, 0, 0] :=
  (by decide +kernel : ∀ t : Fin grid0.N, _)

theorem index_whole : ∀ t : Fin cfg0.N, win0_3.index t = ![0, 0] ∧ win0_4.index t = ![0, 0] :=
  (by decide +kernel : ∀ t : Fin grid0.N, _)

theorem N_eq : cfg0.N = 32 := N_0

variable (t : Fin cfg0.N)

/-- The sequence of a grid point and the position of row `r` of its block in it. -/
abbrev sq : Fin 8 := ⟨t.val / 4, by have := lt_of_lt_of_eq t.isLt N_eq; omega⟩
@[inherit_doc sq] abbrev row (r : Fin 512) : Fin 2048 := ⟨512 * (t.val % 4) + r.val, by have := r.isLt; omega⟩

theorem emb_two {a b : ℕ} (e : Fin 2 → ℕ) (he : e = ![0, 0]) (i : Fin a) (j : Fin b) (z : Shape.Idx ⟨2, ![a, b]⟩)
    (h0 : (z 0).val = e 0 * a + 1 * i.val) (h1 : (z 1).val = e 1 * b + 1 * j.val) : z = ix2 i j := by
  subst he
  refine funext fun x => Fin.ext ?_
  fin_cases x
  · exact h0.trans (show 0 * a + 1 * i.val = i.val by omega)
  · exact h1.trans (show 0 * b + 1 * j.val = j.val by omega)

theorem blk0 (r : Fin 512) (k : Fin 1024) : iblk m c 0 t (ix3 0 r k) = X m c (ix3 (sq t) (row t r) k) := by
  obtain ⟨e, -, -⟩ := index_rows t
  show V m c main_arg0 (((cfg0.win 0).blk t).view.emb (ix3 0 r k)) = _
  rw [V_main_arg0]
  refine congrArg _ (funext fun a => Fin.ext ?_)
  fin_cases a
  · show win0_0.index t 0 * 1 + 1 * 0 = t.val / 4
    rw [e]; show t.val / 4 * 1 + 1 * 0 = t.val / 4; omega
  · show win0_0.index t 1 * 512 + 1 * r.val = 512 * (t.val % 4) + r.val
    rw [e]; show t.val % 4 * 512 + 1 * r.val = 512 * (t.val % 4) + r.val; omega
  · show win0_0.index t 2 * 1024 + 1 * k.val = k.val
    rw [e]; show 0 * 1024 + 1 * k.val = k.val; omega

theorem blk3 (k : Fin 2) (n : Fin 512) : iblk m c 3 t (ix2 k n) = L m c (ix2 k n) := by
  show V m c main_arg3 (((cfg0.win 3).blk t).view.emb (ix2 k n)) = _
  rw [V_main_arg3]
  exact congrArg _ (emb_two _ (index_whole t).1 k n _ rfl rfl)

theorem blk4 (k : Fin 1024) (n : Fin 5632) : iblk m c 4 t (ix2 k n)
    = W m c (ix2 k n) * (if Halved n.val then ((1 / 2 : ℝ) : EReal) else 1) := by
  refine Eq.trans ?_ (V_v47 m c k n)
  exact congrArg (V m c main_v47) (emb_two _ (index_whole t).2 k n _ rfl rfl)

/-- A group of columns of the block of the projection's weights, as the point loads it. -/
theorem cols {w : ℕ} (o : ℕ) (h : ∀ a, ![0, o] a + (⟨2, ![1024, w]⟩ : Shape).size a ≤ S1024x5632.size a) (k : Fin 1024) (j : Fin w) (hj : o + j.val < 5632) :
    (iblk m c 4 t : Vec Ideal S1024x5632 .bf16) ((Rect.unit (s := S1024x5632) ![0, o] (⟨2, ![1024, w]⟩ : Shape).size h).toLoadRect.idx (ix2 k j))
      = W m c (ix2 k ⟨o + j.val, hj⟩) * (if Halved (o + j.val) then ((1 / 2 : ℝ) : EReal) else 1) := by
  refine Eq.trans (congrArg _ (funext fun a => Fin.ext ?_)) (blk4 m c t k ⟨o + j.val, hj⟩)
  fin_cases a
  · exact (show 0 + 1 * k.val = k.val by omega)
  · exact (show o + 1 * j.val = o + j.val by omega)

end Cert.KernelIdeal.Arrays
-- ==== Proof.MixerRows.lean ====
/- What one grid point of the mixer computes of its rows: the forget gate, the key, the half query and the value of every
   channel, and the last rows of the pooled projection. -/
module

public import proofs.«01_k».proof.Proof.MixerHeads
public import proofs.«01_k».proof.Proof.MixerArrays

@[expose] public section

set_option maxRecDepth 65536

noncomputable section

namespace Cert.KernelIdeal.Arrays

open Cert.KernelIdeal Cert.KernelIdeal.Gen Cert.KernelIdeal.Tower Cert.KernelIdeal.Mix Cert.Recurrence
open Idealize.ShloMosaic Idealize.ShloMosaic.TcCoe Idealize.SL.Sem

/-! ## The kernel's values at an index -/

section readings
variable (I : In Ideal)

theorem tanh_read (r n : Fin 512) : r_3 I (ix2 r n) = Ideal.tanh (∑ k : Fin 1024, I.x (ix3 0 r k) * I.wf (ix2 k n)) := by
  pointwise [r_3, r_1, k0_pay12, k0_pay13, k0_pay15]

theorem key_read (r n : Fin 512) : r_4 I (ix2 r n)
    = (1 - r_2 I (ix2 0 n)) * (Ideal.ofBits .f32 1056964608#32 - Ideal.ofBits .f32 1056964608#32 * r_3 I (ix2 r n)) := by
  pointwise [r_4, k0_pay15, k0_pay16, k0_pay17]

theorem logf_read (r n : Fin 512) : r_5 I (ix2 r n)
    = Ideal.log (r_2 I (ix2 0 n) + (1 - r_2 I (ix2 0 n)) * (Ideal.ofBits .f32 1056964608#32 + Ideal.ofBits .f32 1056964608#32 * r_3 I (ix2 r n))) := by
  pointwise [r_5, k0_pay15, k0_pay16, k0_pay17]

theorem query_read (r n : Fin 512) : r_6 I (ix2 r n) = ∑ k : Fin 1024, I.x (ix3 0 r k) * I.wq (ix2 k n) := by
  pointwise [r_6, r_1, k0_pay12, k0_pay13, k0_pay18]

theorem value_read (r n : Fin 512) : r_7 I (ix2 r n) = ∑ k : Fin 1024, I.x (ix3 0 r k) * I.wv (ix2 k n) := by
  pointwise [r_7, r_1, k0_pay12, k0_pay13, k0_pay19]

theorem pool_read (i : Fin 16) (n : Fin 256) : poolOut I (ix2 i n)
    = ∑ k : Fin 1024, I.x (ix3 0 ⟨496 + i.val, by omega⟩ k) * I.wu (ix2 k n) := by
  unfold poolOut
  pointwise [r_18, r_1, k0_pay12, k0_pay13, k0_pay42, k0_pay35, k0_pay31]
  rw [dif_neg (by omega)]
  refine Finset.sum_congr rfl fun k _ => congrArg (· * _) (congrArg (fun r => I.x (ix3 0 r k)) (Fin.ext ?_))
  show 512 + i.val - 16 = 496 + i.val
  omega

theorem lower_read (n : Fin 512) (hL : AllReal I.lb) : r_2 I (ix2 0 n) = ((lower I.lb n.val : ℝ) : EReal) := by
  obtain ⟨M, hM⟩ := fold_max_real Finset.univ (fun i : Fin 2 => I.lb (ix2 i n)) (fun i => hL _) 0 (Finset.mem_univ _)
  refine Eq.trans ?_ (softmax_at hL n M)
  rw [← hM]
  pointwise [r_2, k0_pay14]
  exact Fin.sum_univ_one _

end readings

/-! ## The point's own rows -/

variable (m : (ℓ : Loc nD τ sig) → Buf (Elt Ideal) ℓ) (c : Dev nD) (t : Fin cfg0.N)

/-- A product with a column of the weights that the kernel halves is half the projection. -/
theorem half_proj {A : ShX.Idx → EReal} {B : ShW.Idx → EReal} (hA : AllReal A) (hB : AllReal B) (q : Fin 8) (s : Fin 2048) (n : Fin 5632) :
    (∑ k : Fin 1024, A (ix3 q s k) * (B (ix2 k n) * ((1 / 2 : ℝ) : EReal))) = ((1 / 2 * proj A B q n s.val : ℝ) : EReal) := by
  unfold proj
  rw [Finset.mul_sum, ← coe_sum]
  refine Finset.sum_congr rfl fun k _ => ?_
  rw [hA (ix3 q s k), hB (ix2 k n), ← EReal.coe_mul, ← EReal.coe_mul]
  simp only [Nat.mod_eq_of_lt s.isLt, EReal.toReal_coe]
  congr 1
  ring

theorem col_val (o : ℕ) (ho : o + 512 ≤ 5632) (n : Fin 512) : col o ho n.val = ⟨o + n.val, by omega⟩ :=
  Fin.ext (by show o + n.val % 512 = o + n.val; omega)

section
variable {m c} (hX : AllReal (X m c)) (hW : AllReal (W m c))
include hX hW

/-- The projection of a row of the point onto a column of a halved group. -/
theorem halved_at (r : Fin 512) (o : ℕ) (ho : o + 512 ≤ 5632) (n : Fin 512) (hH : Halved (o + n.val)) {A B : Fin 1024 → EReal}
    (hA : ∀ k, A k = X m c (ix3 (sq t) (row t r) k)) (hB : ∀ k, B k = W m c (ix2 k ⟨o + n.val, by omega⟩) * (if Halved (o + n.val) then ((1 / 2 : ℝ) : EReal) else 1)) :
    (∑ k, A k * B k) = ((1 / 2 * proj (X m c) (W m c) (sq t) (col o ho n.val) (512 * (t.val % 4) + r.val) : ℝ) : EReal) := by
  rw [col_val]
  refine Eq.trans (Finset.sum_congr rfl fun k _ => ?_) (half_proj hX hW (sq t) (row t r) ⟨o + n.val, by omega⟩)
  rw [hA, hB, if_pos hH]

theorem plain_at (r : Fin 512) (o : ℕ) (ho : o + 512 ≤ 5632) (n : Fin 512) (hH : ¬ Halved (o + n.val)) {A B : Fin 1024 → EReal}
    (hA : ∀ k, A k = X m c (ix3 (sq t) (row t r) k)) (hB : ∀ k, B k = W m c (ix2 k ⟨o + n.val, by omega⟩) * (if Halved (o + n.val) then ((1 / 2 : ℝ) : EReal) else 1)) :
    (∑ k, A k * B k) = ((proj (X m c) (W m c) (sq t) (col o ho n.val) (512 * (t.val % 4) + r.val) : ℝ) : EReal) := by
  rw [col_val]
  refine Eq.trans (Finset.sum_congr rfl fun k _ => ?_) (proj_at hX hW (sq t) (row t r) ⟨o + n.val, by omega⟩)
  rw [hA, hB, if_neg hH, mul_one]

set_option maxHeartbeats 2000000 in
theorem rows_at (hL : AllReal (L m c)) (s0 s1 s2 s3 : Vec Ideal S1x128x128 .f32) (pool : Vec Ideal S16x256 .f32) :
    Scan.Rows (atPoint m c t s0 s1 s2 s3 pool) (512 * (t.val % 4)) (logf (X m c) (W m c) (L m c) (sq t)) (key (X m c) (W m c) (L m c) (sq t))
      (query (X m c) (W m c) (sq t)) (value (X m c) (W m c) (sq t)) := by
  have hlb : (atPoint m c t s0 s1 s2 s3 pool).lb = L m c := funext fun i => by
    have e : i = ix2 ⟨(i 0).val, (i 0).isLt⟩ ⟨(i 1).val, (i 1).isLt⟩ := funext fun a => by fin_cases a <;> rfl
    exact (congrArg _ e).trans ((blk3 m c t _ _).trans (congrArg _ e.symm))
  have low : ∀ n : Fin 512, r_2 (atPoint m c t s0 s1 s2 s3 pool) (ix2 0 n) = ((lower (L m c) n.val : ℝ) : EReal) := fun n =>
    (lower_read _ n (by rw [hlb]; exact hL)).trans (by rw [hlb])
  have tanh : ∀ r n : Fin 512, r_3 (atPoint m c t s0 s1 s2 s3 pool) (ix2 r n)
      = ((Real.tanh (1 / 2 * proj (X m c) (W m c) (sq t) (col 768 (by decide) n.val) (512 * (t.val % 4) + r.val)) : ℝ) : EReal) := fun r n => by
    rw [tanh_read, ← Ideal.tanh_coe]
    exact congrArg Ideal.tanh (halved_at t hX hW r 768 (by decide) n (by unfold Halved; omega) (fun k => blk0 m c t r k) fun k => cols m c t 768 _ k n (by omega))
  refine ⟨fun r n => ?_, fun r n => ?_, fun r n => ?_, fun r n => ?_⟩
  · rw [key_read, low, tanh, half_bits, one_sub, ← EReal.coe_mul, ← EReal.coe_sub, ← EReal.coe_mul, sig_tanh_neg]
    rfl
  · rw [logf_read, low, tanh, half_bits, one_sub, ← EReal.coe_mul, ← EReal.coe_add, ← EReal.coe_mul, ← EReal.coe_add, sig_tanh, log_at (gate_pos _ _ _)]
    rfl
  · rw [query_read]
    exact halved_at t hX hW r 256 (by decide) n (by unfold Halved; omega) (fun k => blk0 m c t r k) fun k => cols m c t 256 _ k n (by omega)
  · rw [value_read]
    exact plain_at t hX hW r 1280 (by decide) n (by unfold Halved; omega) (fun k => blk0 m c t r k) fun k => cols m c t 1280 _ k n (by omega)

end

/-- The last sixteen rows of the block's projection onto the pooled columns. -/
theorem pool_rows (s0 s1 s2 s3 : Vec Ideal S1x128x128 .f32) (pool : Vec Ideal S16x256 .f32) (i : Fin 16) (n : Fin 256) :
    poolOut (atPoint m c t s0 s1 s2 s3 pool) (ix2 i n)
      = ∑ k : Fin 1024, X m c (ix3 (sq t) (row t ⟨496 + i.val, by omega⟩) k) * W m c (ix2 k ⟨n.val, by omega⟩) := by
  rw [pool_read]
  refine Finset.sum_congr rfl fun k _ => congrArg₂ (· * · : EReal → EReal → EReal) (blk0 m c t _ k) ((cols m c t 0 _ k n (by omega)).trans ?_)
  rw [if_neg (by unfold Halved; omega), mul_one]
  exact congrArg (W m c) (congrArg (ix2 k) (Fin.ext (Nat.zero_add _)))

end Cert.KernelIdeal.Arrays
-- ==== Proof.MixerState.lean ====
/- The state the mixer carries from point to point, and the two blocks a sequence's last point writes out. -/
module

public import proofs.«01_k».proof.Proof.MixerRows

@[expose] public section

set_option maxRecDepth 65536

noncomputable section

namespace Cert.KernelIdeal.Arrays

open Cert.KernelIdeal Cert.KernelIdeal.Scan Cert.KernelIdeal.Gen Cert.KernelIdeal.Tower Cert.KernelIdeal.Mix Cert.Recurrence
open Idealize.ShloMosaic Idealize.ShloMosaic.TcCoe Idealize.SL.Sem

/-! ## Reading the carried state's buffer -/

/-- A store of one head's state is what a read of that head finds; a read of another head finds what was there before. -/
theorem read_head (v : View sig .tc .vmem S4x128x128 .f32) (f : v.ty.Contents (Elt Ideal)) (o : ℕ)
    (ho : ∀ a, ![o, 0, 0] a + S1x128x128.size a ≤ S4x128x128.size a) (w : Vec Ideal S1x128x128 .f32) (P : List (View.Piece (Elt Ideal) S4x128x128 .f32))
    (h : Fin 4) (e d : Fin 128) :
    v.read (Elt Ideal) (v.writes (Elt Ideal) f (stPiece o ho w :: P)) (ix3 h e d)
      = if h.val = o then w (ix3 0 e d) else v.read (Elt Ideal) (v.writes (Elt Ideal) f P) (ix3 h e d) := by
  by_cases hh : h.val = o
  · rw [if_pos hh]
    have hx : (Rect.unit (s := S4x128x128) ![o, 0, 0] S1x128x128.size ho).emb (ix3 0 e d) = ix3 h e d := funext fun a => Fin.ext (by
      fin_cases a
      · exact (show o + 1 * 0 = h.val by omega)
      · exact (show 0 + 1 * e.val = e.val by omega)
      · exact (show 0 + 1 * d.val = d.val by omega))
    exact (congrArg _ hx.symm).trans (View.read_writes_cons_emb v _ (Rect.unit (s := S4x128x128) ![o, 0, 0] S1x128x128.size ho) w P _)
  · rw [if_neg hh, View.writes_cons, View.read_slice_write_of_not_mem _ _ _ _ (by
      rw [Rect.map_emb_univ, Rect.mem_set_unit]
      intro hm
      have h0 := hm 0
      have h1 : o ≤ h.val ∧ h.val < o + 1 := h0
      omega)]

theorem cleared (h : Fin 4) (e d : Fin 128) : (k0_pay11 (F := Ideal)) (ix3 h e d) = (0 : EReal) := by
  pointwise [k0_pay11]

theorem read_zero (v : View sig .tc .vmem S4x128x128 .f32) (f : v.ty.Contents (Elt Ideal)) (h : Fin 4) (e d : Fin 128) :
    v.read (Elt Ideal) (v.writes (Elt Ideal) f zeroS) (ix3 h e d) = (0 : EReal) := by
  unfold zeroS
  rw [Cert.Pieces.read_stored v f (off := ![0, 0, 0]) inb_S4x128x128_S4x128x128_0_0_0 (k0_pay11 (F := Ideal)) []]
  exact cleared h e d

/-- The four stores of a point, whatever was stored before. -/
theorem read_heads (v : View sig .tc .vmem S4x128x128 .f32) (f : v.ty.Contents (Elt Ideal)) (I : In Ideal) (P : List (View.Piece (Elt Ideal) S4x128x128 .f32))
    (h : Fin 4) (e d : Fin 128) :
    v.read (Elt Ideal) (v.writes (Elt Ideal) f (stPieces I ++ P)) (ix3 h e d) = carriedOn I h (ix3 0 e d) := by
  show v.read (Elt Ideal) (v.writes (Elt Ideal) f (stPiece 3 inb_S4x128x128_S1x128x128_3_0_0 (st3 I) :: stPiece 2 inb_S4x128x128_S1x128x128_2_0_0 (st2 I)
    :: stPiece 1 inb_S4x128x128_S1x128x128_1_0_0 (st1 I) :: stPiece 0 inb_S4x128x128_S1x128x128_0_0_0 (st0 I) :: P)) (ix3 h e d) = _
  rw [read_head, read_head, read_head, read_head]
  fin_cases h <;> rfl

theorem head_idx (o : Fin 4) (ho : ∀ a, ![o.val, 0, 0] a + S1x128x128.size a ≤ S4x128x128.size a) (e d : Fin 128) :
    (Rect.unit (s := S4x128x128) ![o.val, 0, 0] S1x128x128.size ho).toLoadRect.idx (ix3 0 e d) = ix3 o e d := funext fun a => Fin.ext (by
  fin_cases a
  · exact (show o.val + 1 * 0 = o.val by omega)
  · exact (show 0 + 1 * e.val = e.val by omega)
  · exact (show 0 + 1 * d.val = d.val by omega))

theorem ldS_at (S : Vec Ideal S4x128x128 .f32) (o : Fin 4) (ho : ∀ a, ![o.val, 0, 0] a + S1x128x128.size a ≤ S4x128x128.size a) (e d : Fin 128) :
    ldS S o.val ho (ix3 0 e d) = S (ix3 o e d) :=
  ((Memref.isWhole_whole _ : scM0_0.IsWhole).readAt_unread S _ _).trans (congrArg S (head_idx o ho e d))

theorem rdS_at (P : List (View.Piece (Elt Ideal) S4x128x128 .f32)) (o : Fin 4) (ho : ∀ a, ![o.val, 0, 0] a + S1x128x128.size a ≤ S4x128x128.size a) (e d : Fin 128) :
    rdS P o.val ho (ix3 0 e d) = scM0_0.view.read (Elt Ideal) (scM0_0.view.writes (Elt Ideal) scM0_0.view.junk P) (ix3 o e d) := by
  show scM0_0.view.read (Elt Ideal) (scM0_0.view.writes (Elt Ideal) scM0_0.view.junk P) ((Rect.unit (s := S4x128x128) ![o.val, 0, 0] S1x128x128.size ho).toLoadRect.idx (ix3 0 e d)) = _
  rw [head_idx o ho e d]

section
variable {m : (ℓ : Loc nD τ sig) → Buf (Elt Ideal) ℓ} {c : Dev nD} (t : Fin cfg0.N) (e d : Fin 128)

/-! The first point of a sequence finds zeros in every head's state. -/

theorem init_s0 : (ldsInit m c t).s0 (ix3 0 e d) = (0 : EReal) := by
  have h : (ldsInit m c t).s0 = rdS (F := Ideal) zeroS (0 : Fin 4).val inb_S4x128x128_S1x128x128_0_0_0 := by sl_kernel_rfl
  rw [h, rdS_at, read_zero]

theorem init_s1 : (ldsInit m c t).s1 (ix3 0 e d) = (0 : EReal) := by
  have h : (ldsInit m c t).s1 = rdS (stPiece 0 inb_S4x128x128_S1x128x128_0_0_0 (st0 (ldsInit0 m c t)) :: zeroS) (1 : Fin 4).val inb_S4x128x128_S1x128x128_1_0_0 := by
    sl_kernel_rfl
  rw [h, rdS_at, read_head, if_neg (by decide), read_zero]

theorem init_s2 : (ldsInit m c t).s2 (ix3 0 e d) = (0 : EReal) := by
  have h : (ldsInit m c t).s2 = rdS (stPiece 1 inb_S4x128x128_S1x128x128_1_0_0 (st1 (ldsInit1 m c t)) ::
      stPiece 0 inb_S4x128x128_S1x128x128_0_0_0 (st0 (ldsInit0 m c t)) :: zeroS) (2 : Fin 4).val inb_S4x128x128_S1x128x128_2_0_0 := by
    sl_kernel_rfl
  rw [h, rdS_at, read_head, if_neg (by decide), read_head, if_neg (by decide), read_zero]

theorem init_s3 : (ldsInit m c t).s3 (ix3 0 e d) = (0 : EReal) := by
  have h : (ldsInit m c t).s3 = rdS (stPiece 2 inb_S4x128x128_S1x128x128_2_0_0 (st2 (ldsInit2 m c t)) :: stPiece 1 inb_S4x128x128_S1x128x128_1_0_0 (st1 (ldsInit1 m c t)) ::
      stPiece 0 inb_S4x128x128_S1x128x128_0_0_0 (st0 (ldsInit0 m c t)) :: zeroS) (3 : Fin 4).val inb_S4x128x128_S1x128x128_3_0_0 := by
    sl_kernel_rfl
  rw [h, rdS_at, read_head, if_neg (by decide), read_head, if_neg (by decide), read_head, if_neg (by decide), read_zero]

/-- What the first point reads, put together from the states it finds. -/
theorem init_loads : ldsInit m c t = loads m c t (ldsInit m c t).s0 (ldsInit m c t).s1 (ldsInit m c t).s2 (ldsInit m c t).s3 rdP := by
  sl_kernel_rfl

end

/-! ## The carried state -/

variable {m : (ℓ : Loc nD τ sig) → Buf (Elt Ideal) ℓ} {c : Dev nD} (hX : AllReal (X m c)) (hW : AllReal (W m c)) (hL : AllReal (L m c))

/-- The state of head `h` of sequence `q` after `n` tokens, at key channel `d` and value channel `e`. -/
def stateOf (m : (ℓ : Loc nD τ sig) → Buf (Elt Ideal) ℓ) (c : Dev nD) (q : Fin 8) (h : Fin 4) (e d : Fin 128) (n : ℕ) : ℝ :=
  state (logf (X m c) (W m c) (L m c) q (128 * h.val + d.val)) (key (X m c) (W m c) (L m c) q (128 * h.val + d.val)) (value (X m c) (W m c) q (128 * h.val + e.val)) n

section
include hX hW hL

theorem step_at (t : Fin cfg0.N) (s0 s1 s2 s3 : Vec Ideal S1x128x128 .f32) (pool : Vec Ideal S16x256 .f32) (h : Fin 4) (e d : Fin 128)
    (h0 : carried (atPoint m c t s0 s1 s2 s3 pool) h (ix3 0 e d) = ((stateOf m c (sq t) h e d (512 * (t.val % 4)) : ℝ) : EReal)) :
    carriedOn (atPoint m c t s0 s1 s2 s3 pool) h (ix3 0 e d) = ((stateOf m c (sq t) h e d (512 * (t.val % 4) + 512) : ℝ) : EReal) :=
  (carriedOn_read _ h e d).trans (stateAt_at (rows_at t hX hW hL s0 s1 s2 s3 pool) h e d h0 8 le_rfl)

/-- What a later point of a sequence carries on, if the point before it left the state of its rows' start. -/
theorem later_at (t : Fin cfg0.N) (S : Vec Ideal S4x128x128 .f32) (P : Vec Ideal S16x256 .f32)
    (hS : ∀ h e d, S (ix3 h e d) = ((stateOf m c (sq t) h e d (512 * (t.val % 4)) : ℝ) : EReal)) (h : Fin 4) (e d : Fin 128) :
    carriedOn (ldsMid m c t S P) h (ix3 0 e d) = ((stateOf m c (sq t) h e d (512 * (t.val % 4) + 512) : ℝ) : EReal) := by
  unfold ldsMid
  rw [loads_eq]
  refine step_at hX hW hL t _ _ _ _ _ h e d ?_
  rw [← hS h e d]
  fin_cases h
  · exact ldS_at S 0 _ e d
  · exact ldS_at S 1 _ e d
  · exact ldS_at S 2 _ e d
  · exact ldS_at S 3 _ e d

theorem step_zero (t : Fin cfg0.N) (h3 : t.val % 4 = 0) (s0 s1 s2 s3 : Vec Ideal S1x128x128 .f32) (pool : Vec Ideal S16x256 .f32)
    (z0 : ∀ e d, s0 (ix3 0 e d) = (0 : EReal)) (z1 : ∀ e d, s1 (ix3 0 e d) = (0 : EReal))
    (z2 : ∀ e d, s2 (ix3 0 e d) = (0 : EReal)) (z3 : ∀ e d, s3 (ix3 0 e d) = (0 : EReal)) (h : Fin 4) (e d : Fin 128) :
    carriedOn (loads m c t s0 s1 s2 s3 pool) h (ix3 0 e d) = ((stateOf m c (sq t) h e d (512 * (t.val % 4) + 512) : ℝ) : EReal) := by
  rw [loads_eq]
  refine step_at hX hW hL t _ _ _ _ _ h e d ?_
  have hz : stateOf m c (sq t) h e d (512 * (t.val % 4)) = 0 := by
    rw [h3]
    unfold stateOf state
    simp
  rw [hz, EReal.coe_zero]
  fin_cases h
  · exact z0 e d
  · exact z1 e d
  · exact z2 e d
  · exact z3 e d

/-- What the first point of a sequence carries on: it starts from zeros. -/
theorem first_at (t : Fin cfg0.N) (h3 : t.val % 4 = 0) (h : Fin 4) (e d : Fin 128) :
    carriedOn (ldsInit m c t) h (ix3 0 e d) = ((stateOf m c (sq t) h e d (512 * (t.val % 4) + 512) : ℝ) : EReal) :=
  (congrArg (fun I => carriedOn I h (ix3 0 e d)) (init_loads t)).trans
    (step_zero hX hW hL t h3 _ _ _ _ _ (init_s0 t) (init_s1 t) (init_s2 t) (init_s3 t) h e d)

end

/-- What a later point finds, if the point before it left the state after its last row. -/
theorem before_of (t : Fin cfg0.N) (ht : t.val % 4 ≠ 0) (hp : ∀ (h : Fin 4) (e d : Fin 128), (prev m c t).2.2.2.1 (ix3 h e d)
      = ((stateOf m c (sq ⟨t.val - 1, Nat.lt_of_le_of_lt (Nat.sub_le _ _) t.isLt⟩) h e d (512 * ((t.val - 1) % 4) + 512) : ℝ) : EReal)) (h : Fin 4) (e d : Fin 128) :
    (prev m c t).2.2.2.1 (ix3 h e d) = ((stateOf m c (sq t) h e d (512 * (t.val % 4)) : ℝ) : EReal) := by
  rw [hp, show sq ⟨t.val - 1, Nat.lt_of_le_of_lt (Nat.sub_le _ _) t.isLt⟩ = sq t from Fin.ext (by show (t.val - 1) / 4 = t.val / 4; omega),
    show 512 * ((t.val - 1) % 4) + 512 = 512 * (t.val % 4) by omega]

section
include hX hW hL

theorem carry_first (t : Fin cfg0.N) (h3 : t.val % 4 = 0) (h : Fin 4) (e d : Fin 128) :
    (outsAt m c t.val t.isLt).2.2.2.1 (ix3 h e d) = ((stateOf m c (sq t) h e d (512 * (t.val % 4) + 512) : ℝ) : EReal) := by
  rw [outsAt_Init m c t h3]
  unfold afterInit
  dsimp only
  rw [init_st]
  exact (read_heads VS0_0 VS0_0.junk (ldsInit m c t) zeroS h e d).trans (first_at hX hW hL t h3 h e d)

theorem carry_later (t : Fin cfg0.N) (ht : t.val % 4 ≠ 0)
    (hS : ∀ (h : Fin 4) (e d : Fin 128), (prev m c t).2.2.2.1 (ix3 h e d) = ((stateOf m c (sq t) h e d (512 * (t.val % 4)) : ℝ) : EReal)) (h : Fin 4) (e d : Fin 128) :
    (outsAt m c t.val t.isLt).2.2.2.1 (ix3 h e d) = ((stateOf m c (sq t) h e d (512 * (t.val % 4) + 512) : ℝ) : EReal) := by
  refine Eq.trans ?_ (later_at hX hW hL t (prev m c t).2.2.2.1 (prev m c t).2.2.2.2 hS h e d)
  by_cases h4 : t.val % 4 = 3
  · rw [outsAt_Last m c t h4]
    unfold afterLast
    dsimp only
    rw [last_st]
    exact read_heads VS0_0 VS0_0.junk (ldsMid m c t (prev m c t).2.2.2.1 (prev m c t).2.2.2.2) [] h e d
  · rw [outsAt_Mid m c t ht h4]
    unfold afterMid
    dsimp only
    rw [mid_st]
    exact read_heads VS0_0 VS0_0.junk (ldsMid m c t (prev m c t).2.2.2.1 (prev m c t).2.2.2.2) [] h e d

/-- The carried state after a point: the state after the point's last row. -/
theorem carry_at : ∀ (j : ℕ) (t : Fin cfg0.N), t.val % 4 = j → ∀ (h : Fin 4) (e d : Fin 128),
    (outsAt m c t.val t.isLt).2.2.2.1 (ix3 h e d) = ((stateOf m c (sq t) h e d (512 * (t.val % 4) + 512) : ℝ) : EReal)
  | 0, t, hj => carry_first hX hW hL t hj
  | j + 1, t, hj => carry_later hX hW hL t (by omega) (before_of t (by omega)
      (carry_at j ⟨t.val - 1, Nat.lt_of_le_of_lt (Nat.sub_le _ _) t.isLt⟩ (by show (t.val - 1) % 4 = j; omega)))

theorem before_at (t : Fin cfg0.N) (ht : t.val % 4 ≠ 0) (h : Fin 4) (e d : Fin 128) :
    (prev m c t).2.2.2.1 (ix3 h e d) = ((stateOf m c (sq t) h e d (512 * (t.val % 4)) : ℝ) : EReal) :=
  before_of t ht (carry_at hX hW hL _ ⟨t.val - 1, Nat.lt_of_le_of_lt (Nat.sub_le _ _) t.isLt⟩ rfl) h e d

end

end Cert.KernelIdeal.Arrays
-- ==== Proof.MixerValue.lean ====
/- The arrays the mixer leaves: each sequence's pooling window and final states, and the equality with the reference's. -/
module

public import proofs.«01_k».proof.Defs
public import proofs.«01_k».proof.Proof.MixerState
public import proofs.«01_k».proof.Proof.MixerFrame

@[expose] public section

set_option maxRecDepth 65536

noncomputable section

namespace Cert.KernelIdeal.Arrays

open Cert.KernelIdeal Cert.KernelIdeal.Scan Cert.KernelIdeal.Gen Cert.KernelIdeal.Tower Cert.KernelIdeal.Mix Cert.Recurrence
open Idealize.ShloMosaic Idealize.ShloMosaic.TcCoe Idealize.SL.Sem
open Idealize.ShloMosaic.Pipeline (Dat Cfg Window)

/-! ## The blocks written out -/

/-- A store of one head's state into the block of states, read back. -/
theorem read_out (v : View sig .tc .vmem S1x4x128x128 .f32) (f : v.ty.Contents (Elt Ideal)) (o : ℕ)
    (ho : ∀ a, ![0, o, 0, 0] a + S1x1x128x128.size a ≤ S1x4x128x128.size a) (w : Vec Ideal S1x1x128x128 .f32) (P : List (View.Piece (Elt Ideal) S1x4x128x128 .f32))
    (h : Fin 4) (d e : Fin 128) :
    v.read (Elt Ideal) (v.writes (Elt Ideal) f ((⟨Rect.unit (s := S1x4x128x128) ![0, o, 0, 0] S1x1x128x128.size ho, w⟩ : View.Piece (Elt Ideal) S1x4x128x128 .f32) :: P)) (ix4 0 h d e)
      = if h.val = o then w (ix4 0 0 d e) else v.read (Elt Ideal) (v.writes (Elt Ideal) f P) (ix4 0 h d e) := by
  by_cases hh : h.val = o
  · rw [if_pos hh]
    have hx : (Rect.unit (s := S1x4x128x128) ![0, o, 0, 0] S1x1x128x128.size ho).emb (ix4 0 0 d e) = ix4 0 h d e := funext fun a => Fin.ext (by
      fin_cases a
      · rfl
      · exact (show o + 1 * 0 = h.val by omega)
      · exact (show 0 + 1 * d.val = d.val by omega)
      · exact (show 0 + 1 * e.val = e.val by omega))
    exact (congrArg _ hx.symm).trans (View.read_writes_cons_emb v _ (Rect.unit (s := S1x4x128x128) ![0, o, 0, 0] S1x1x128x128.size ho) w P _)
  · rw [if_neg hh, View.writes_cons, View.read_slice_write_of_not_mem _ _ _ _ (by
      rw [Rect.map_emb_univ, Rect.mem_set_unit]
      intro hm
      have h0 := hm 1
      have h1 : o ≤ h.val ∧ h.val < o + 1 := h0
      omega)]

/-- A head's state written out is transposed. -/
theorem turned (x : Vec Ideal S1x128x128 .f32) (d e : Fin 128) :
    k0_pay3 x (ix4 0 0 d e) = x (ix3 0 e d) ∧ k0_pay4 x (ix4 0 0 d e) = x (ix3 0 e d) ∧ k0_pay5 x (ix4 0 0 d e) = x (ix3 0 e d)
      ∧ k0_pay1 (k0_pay6 x) (ix4 0 0 d e) = x (ix3 0 e d) := by
  refine ⟨?_, ?_, ?_, ?_⟩
  · pointwise [k0_pay3]
  · pointwise [k0_pay4]
  · pointwise [k0_pay5]
  · pointwise [k0_pay1, k0_pay6]

theorem copied (x : Vec Ideal S16x256 .f32) (i : Fin 16) (n : Fin 256) : k0_pay2 x (ix3 0 i n) = x (ix2 i n) := by
  pointwise [k0_pay2]

/-- What the last step reads back of head `o` after its own stores. -/
theorem rdS_own (I : In Ideal) (o : Fin 4) (ho : ∀ a, ![o.val, 0, 0] a + S1x128x128.size a ≤ S4x128x128.size a) (e d : Fin 128) :
    rdS (stPieces I) o.val ho (ix3 0 e d) = carriedOn I o (ix3 0 e d) :=
  (rdS_at (stPieces I) o ho e d).trans (read_heads _ _ I [] o e d)

theorem out_states (I : In Ideal) (h : Fin 4) (d e : Fin 128) (f : VO0_19.ty.Contents (Elt Ideal)) :
    VO0_19.read (Elt Ideal) (VO0_19.writes (Elt Ideal) f
      [⟨Rect.unit ![0, 3, 0, 0] S1x1x128x128.size inb_S1x4x128x128_S1x1x128x128_0_3_0_0, k0_pay1 (k0_pay6 (rdS (stPieces I) 3 inb_S4x128x128_S1x128x128_3_0_0))⟩,
       ⟨Rect.unit ![0, 2, 0, 0] S1x1x128x128.size inb_S1x4x128x128_S1x1x128x128_0_2_0_0, k0_pay5 (rdS (stPieces I) 2 inb_S4x128x128_S1x128x128_2_0_0)⟩,
       ⟨Rect.unit ![0, 1, 0, 0] S1x1x128x128.size inb_S1x4x128x128_S1x1x128x128_0_1_0_0, k0_pay4 (rdS (stPieces I) 1 inb_S4x128x128_S1x128x128_1_0_0)⟩,
       ⟨Rect.unit ![0, 0, 0, 0] S1x1x128x128.size inb_S1x4x128x128_S1x1x128x128_0_0_0_0, k0_pay3 (rdS (stPieces I) 0 inb_S4x128x128_S1x128x128_0_0_0)⟩]) (ix4 0 h d e)
      = carriedOn I h (ix3 0 e d) := by
  rw [read_out, read_out, read_out, read_out, (turned _ d e).1, (turned _ d e).2.1, (turned _ d e).2.2.1, (turned _ d e).2.2.2]
  obtain rfl | rfl | rfl | rfl : h = 0 ∨ h = 1 ∨ h = 2 ∨ h = 3 := by omega
  · rw [if_neg (by decide), if_neg (by decide), if_neg (by decide), if_pos (by decide)]
    exact rdS_own I 0 inb_S4x128x128_S1x128x128_0_0_0 e d
  · rw [if_neg (by decide), if_neg (by decide), if_pos (by decide)]
    exact rdS_own I 1 inb_S4x128x128_S1x128x128_1_0_0 e d
  · rw [if_neg (by decide), if_pos (by decide)]
    exact rdS_own I 2 inb_S4x128x128_S1x128x128_2_0_0 e d
  · rw [if_pos (by decide)]
    exact rdS_own I 3 inb_S4x128x128_S1x128x128_3_0_0 e d

section
variable {m : (ℓ : Loc nD τ sig) → Buf (Elt Ideal) ℓ} {c : Dev nD}

theorem block19 (hX : AllReal (X m c)) (hW : AllReal (W m c)) (hL : AllReal (L m c)) (t : Fin cfg0.N) (h4 : t.val % 4 = 3) (h : Fin 4) (d e : Fin 128) :
    (outsAt m c t.val t.isLt).2.2.1 (ix4 0 h d e) = ((final (X m c) (W m c) (L m c) (sq t) h d e : ℝ) : EReal) := by
  have hS := before_at hX hW hL t (by omega)
  rw [outsAt_Last m c t h4]
  unfold afterLast
  dsimp only
  rw [last_stOut]
  unfold back19
  refine (out_states _ h d e _).trans ((later_at hX hW hL t (prev m c t).2.2.2.1 (prev m c t).2.2.2.2 hS h e d).trans ?_)
  rw [h4]
  rfl

/-- A row of the projection onto the pooled columns. -/
def pooled (X : ShX.Idx → EReal) (W : ShW.Idx → EReal) (q : Fin 8) (s : Fin 2048) (n : Fin 256) : EReal :=
  ∑ k : Fin 1024, X (ix3 q s k) * W (ix2 k ⟨n.val, by omega⟩)

theorem block18 (t : Fin cfg0.N) (h4 : t.val % 4 = 3) (i : Fin 16) (n : Fin 256) :
    (outsAt m c t.val t.isLt).2.1 (ix3 0 i n) = pooled (X m c) (W m c) (sq t) ⟨2032 + i.val, by omega⟩ n := by
  rw [outsAt_Last m c t h4]
  unfold afterLast
  dsimp only
  rw [last_poolOut]
  unfold back18
  rw [Cert.Pieces.read_stored (s := S1x16x256) (off := ![0, 0, 0]), copied, Cert.Pieces.load_stored (s := S16x256) (off := ![0, 0])]
  unfold ldsMid
  rw [loads_eq, pool_rows]
  unfold pooled
  exact Finset.sum_congr rfl fun k _ => congrArg (· * _) (congrArg (fun s => X m c (ix3 (sq t) s k)) (Fin.ext (by show 512 * (t.val % 4) + (496 + i.val) = 2032 + i.val; omega)))

end

/-! ## The arrays -/

variable (m : (ℓ : Loc nD τ sig) → Buf (Elt Ideal) ℓ) (ρ : Dev nD → PrngReg) (c : Dev nD)

def poolWindow : Vec Ideal S8x16x256 .f32 := fun i =>
  pooled (X m c) (W m c) ⟨(i 0).val, (i 0).isLt⟩ ⟨2032 + (i 1).val, by have : (i 1).val < 16 := (i 1).isLt; omega⟩ ⟨(i 2).val, (i 2).isLt⟩
def finalStates : Vec Ideal S8x4x128x128 .f32 := fun i =>
  ((final (X m c) (W m c) (L m c) ⟨(i 0).val, (i 0).isLt⟩ ⟨(i 1).val, (i 1).isLt⟩ ⟨(i 2).val, (i 2).isLt⟩ ⟨(i 3).val, (i 3).isLt⟩ : ℝ) : EReal)

theorem mem_blk18 (t : Fin cfg0.N) (i : S8x16x256.Idx) :
    i ∈ ((cfg0.win 18).blk t).view.set ↔ ∀ a : Fin 3, win0_18.index t a * S1x16x256.size a ≤ (i a).val ∧ (i a).val < win0_18.index t a * S1x16x256.size a + S1x16x256.size a := by
  show i ∈ ((View.whole main_v58_1).slice (win0_18.rect t)).set ↔ _
  rw [View.set_slice_whole, Rect.mem_set_unit]
  exact Iff.rfl

theorem mem_blk19 (t : Fin cfg0.N) (i : S8x4x128x128.Idx) :
    i ∈ ((cfg0.win 19).blk t).view.set ↔ ∀ a : Fin 4, win0_19.index t a * S1x4x128x128.size a ≤ (i a).val ∧ (i a).val < win0_19.index t a * S1x4x128x128.size a + S1x4x128x128.size a := by
  show i ∈ ((View.whole main_v58_2).slice (win0_19.rect t)).set ↔ _
  rw [View.set_slice_whole, Rect.mem_set_unit]
  exact Iff.rfl

theorem final18 : (dats m 0 c).arrAt 18 cfg0.N = poolWindow m c := by
  refine (dats m 0 c).arrAt_eq_of_cover 18 _ (fun t hf => ?_) (fun i => ?_)
  · obtain ⟨-, e, -⟩ := index_rows t
    show (cfg0.win 18).cut (grid0.coords t) ((dats m 0 c).after 18 t) = _
    rw [after18]
    funext y
    have b0 : (y 0).val < 1 := (y 0).isLt
    have b1 : (y 1).val < 16 := (y 1).isLt
    have b2 : (y 2).val < 256 := (y 2).isLt
    have ey : (cfg0.win 18).xinj (grid0.coords t) y = ix3 0 ⟨(y 1).val, b1⟩ ⟨(y 2).val, b2⟩ := funext fun a => Fin.ext (by
      fin_cases a
      · show (y 0).val = 0
        omega
      · rfl
      · rfl)
    show (outsAt m c t.val t.isLt).2.1 ((cfg0.win 18).xinj (grid0.coords t) y) = _
    refine (congrArg (outsAt m c t.val t.isLt).2.1 ey).trans ((block18 t ((flush0_18 t).mp hf) ⟨(y 1).val, b1⟩ ⟨(y 2).val, b2⟩).trans ?_)
    show _ = pooled (X m c) (W m c) _ _ _
    congr 1 <;> apply Fin.ext
    · show t.val / 4 = win0_18.index t 0 * 1 + 1 * (y 0).val
      rw [e]; show t.val / 4 = t.val / 4 * 1 + 1 * (y 0).val; omega
    · show 2032 + (y 1).val = 2032 + (win0_18.index t 1 * 16 + 1 * (y 1).val)
      rw [e]; show 2032 + (y 1).val = 2032 + (0 * 16 + 1 * (y 1).val); omega
    · show (y 2).val = win0_18.index t 2 * 256 + 1 * (y 2).val
      rw [e]; show (y 2).val = 0 * 256 + 1 * (y 2).val; omega
  · have b0 : (i 0).val < 8 := (i 0).isLt
    have b1 : (i 1).val < 16 := (i 1).isLt
    have b2 : (i 2).val < 256 := (i 2).isLt
    refine ⟨⟨4 * (i 0).val + 3, lt_of_lt_of_eq (by omega) N_eq.symm⟩, (flush0_18 _).mpr (by show (4 * (i 0).val + 3) % 4 = 3; omega), ?_⟩
    obtain ⟨-, e, -⟩ := index_rows ⟨4 * (i 0).val + 3, lt_of_lt_of_eq (by omega) N_eq.symm⟩
    rw [mem_blk18]
    rw [e]
    refine Fin.forall_fin_succ.2 ⟨?_, Fin.forall_fin_two.2 ⟨?_, ?_⟩⟩
    · show (4 * (i 0).val + 3) / 4 * 1 ≤ (i 0).val ∧ (i 0).val < (4 * (i 0).val + 3) / 4 * 1 + 1
      omega
    · show 0 * 16 ≤ (i 1).val ∧ (i 1).val < 0 * 16 + 16
      omega
    · show 0 * 256 ≤ (i 2).val ∧ (i 2).val < 0 * 256 + 256
      omega

theorem final19 (hX : AllReal (X m c)) (hW : AllReal (W m c)) (hL : AllReal (L m c)) : (dats m 0 c).arrAt 19 cfg0.N = finalStates m c := by
  refine (dats m 0 c).arrAt_eq_of_cover 19 _ (fun t hf => ?_) (fun i => ?_)
  · obtain ⟨-, -, e⟩ := index_rows t
    show (cfg0.win 19).cut (grid0.coords t) ((dats m 0 c).after 19 t) = _
    rw [after19]
    funext y
    have b0 : (y 0).val < 1 := (y 0).isLt
    have b1 : (y 1).val < 4 := (y 1).isLt
    have b2 : (y 2).val < 128 := (y 2).isLt
    have b3 : (y 3).val < 128 := (y 3).isLt
    have ey : (cfg0.win 19).xinj (grid0.coords t) y = ix4 0 ⟨(y 1).val, b1⟩ ⟨(y 2).val, b2⟩ ⟨(y 3).val, b3⟩ := funext fun a => Fin.ext (by
      fin_cases a
      · show (y 0).val = 0
        omega
      · rfl
      · rfl
      · rfl)
    show (outsAt m c t.val t.isLt).2.2.1 ((cfg0.win 19).xinj (grid0.coords t) y) = _
    refine (congrArg (outsAt m c t.val t.isLt).2.2.1 ey).trans ((block19 hX hW hL t ((flush0_19 t).mp hf) ⟨(y 1).val, b1⟩ ⟨(y 2).val, b2⟩ ⟨(y 3).val, b3⟩).trans ?_)
    show _ = ((final (X m c) (W m c) (L m c) _ _ _ _ : ℝ) : EReal)
    congr 2 <;> apply Fin.ext
    · show t.val / 4 = win0_19.index t 0 * 1 + 1 * (y 0).val
      rw [e]; show t.val / 4 = t.val / 4 * 1 + 1 * (y 0).val; omega
    · show (y 1).val = win0_19.index t 1 * 4 + 1 * (y 1).val
      rw [e]; show (y 1).val = 0 * 4 + 1 * (y 1).val; omega
    · show (y 2).val = win0_19.index t 2 * 128 + 1 * (y 2).val
      rw [e]; show (y 2).val = 0 * 128 + 1 * (y 2).val; omega
    · show (y 3).val = win0_19.index t 3 * 128 + 1 * (y 3).val
      rw [e]; show (y 3).val = 0 * 128 + 1 * (y 3).val; omega
  · have b0 : (i 0).val < 8 := (i 0).isLt
    have b1 : (i 1).val < 4 := (i 1).isLt
    have b2 : (i 2).val < 128 := (i 2).isLt
    have b3 : (i 3).val < 128 := (i 3).isLt
    refine ⟨⟨4 * (i 0).val + 3, lt_of_lt_of_eq (by omega) N_eq.symm⟩, (flush0_19 _).mpr (by show (4 * (i 0).val + 3) % 4 = 3; omega), ?_⟩
    obtain ⟨-, -, e⟩ := index_rows ⟨4 * (i 0).val + 3, lt_of_lt_of_eq (by omega) N_eq.symm⟩
    rw [mem_blk19]
    rw [e]
    refine Fin.forall_fin_succ.2 ⟨?_, Fin.forall_fin_succ.2 ⟨?_, Fin.forall_fin_two.2 ⟨?_, ?_⟩⟩⟩
    · show (4 * (i 0).val + 3) / 4 * 1 ≤ (i 0).val ∧ (i 0).val < (4 * (i 0).val + 3) / 4 * 1 + 1
      omega
    · show 0 * 4 ≤ (i 1).val ∧ (i 1).val < 0 * 4 + 4
      omega
    · show 0 * 128 ≤ (i 2).val ∧ (i 2).val < 0 * 128 + 128
      omega
    · show 0 * 128 ≤ (i 3).val ∧ (i 3).val < 0 * 128 + 128
      omega

end Cert.KernelIdeal.Arrays
-- ==== Proof.MixerReferenceRows.lean ====
/- The reference of the mixer's recurrence and of its pooling window, entry by entry. -/
module

public import proofs.«01_k».proof.Proof.Gen.ReferenceIdeal.Run
public import proofs.«01_k».proof.Proof.MixerTarget
public import Idealize.ShloMosaic.Lib.Pointwise

@[expose] public section

set_option maxRecDepth 65536

noncomputable section

namespace Cert.ReferenceIdeal.Rows

open Cert.ReferenceIdeal Cert.ReferenceIdeal.Gen Cert.ReferenceIdeal.Value Cert.Recurrence
open Idealize.ShloMosaic Idealize.ShloMosaic.TcCoe Idealize.SL.Sem
open Cert.ReferenceIdeal.Facts

variable (m : (ℓ : Loc nD τ sig) → Buf (Elt Ideal) ℓ) (c : Dev nD)

theorem max_real {L : ShL.Idx → EReal} (hL : AllReal L) (n : Fin 512) :
    ∃ M : ℝ, max (Ideal.ofBits FTy.f32 4286578688#32)
      (Finset.fold max (Ideal.ofBits FTy.f32 4286578688#32) L {i | reducesTo_S2x512_S512_d0.drop i = ix1 n}) = (M : EReal) := by
  obtain ⟨M, e⟩ := fold_max_real (Finset.univ.filter fun i => reducesTo_S2x512_S512_d0.drop i = ix1 n) L hL (ix2 0 n)
    (Finset.mem_filter.mpr ⟨Finset.mem_univ _, funext fun a => by fin_cases a; rfl⟩)
  exact ⟨M, by rw [e, negInf]; exact max_eq_right bot_le⟩

section
variable (X : ShX.Idx → EReal) (W : ShW.Idx → EReal) (L : ShL.Idx → EReal) (q : Fin 8)

/-- The projections, the lower bounds, the gates' logarithms and the triangular factor, as the reference spells them. -/
def projE (n : Fin 5632) (s : Fin 2048) : EReal := ∑ k : Fin 1024, X (ix3 q s k) * W (ix2 k n)
@[inherit_doc projE] def maxE (n : Fin 512) : EReal := max (Ideal.ofBits FTy.f32 4286578688#32)
  (Finset.fold max (Ideal.ofBits FTy.f32 4286578688#32) L {i | reducesTo_S2x512_S512_d0.drop i = ix1 n})
@[inherit_doc projE] def lowerE (n : Fin 512) : EReal :=
  Ideal.div (Ideal.exp (L (ix2 0 n) - maxE L n)) (∑ i : Fin 2, Ideal.exp (L (ix2 i n) - maxE L n))
@[inherit_doc projE] def gateE (n : Fin 512) (s : Fin 2048) : EReal := Ideal.log (lowerE L n + (1 - lowerE L n)
  * Ideal.div 1 (1 + Ideal.exp (-projE X W q ⟨768 + n.val, by have := n.isLt; omega⟩ s)))
@[inherit_doc projE] def triE (t x : Fin 2048) : EReal := FloatOps.uitofp (F := Ideal) FTy.f32
  (Scalar.select (IntOp.cmpi CmpIPredicate.sge (IntOp.addi (BitVec.ofNat 32 t.val) 0#32) (BitVec.ofNat 32 x.val)) 1#1 0#1)

end

/-- Channel `d` of head `h`. -/
def chan (h : Fin 4) (d : Fin 128) : Fin 512 := ⟨h.val * 128 + d.val, by have := h.isLt; have := d.isLt; omega⟩

theorem state_reads (q : Fin 8) (h : Fin 4) (d e : Fin 128) (X : ShX.Idx → EReal) (W : ShW.Idx → EReal) (L : ShL.Idx → EReal)
    (hX : m ((c.tc : Thread nD τ).loc main_arg0) = X) (hW : m ((c.tc : Thread nD τ).loc main_arg4) = W) (hL : m ((c.tc : Thread nD τ).loc main_arg3) = L) :
    (res_main_v63 m c : Vec Ideal S8x4x128x128 .f32) (ix4 q h d e)
      = ∑ s : Fin 2048, (1 - lowerE L (chan h d)) * Ideal.div 1 (1 + Ideal.exp (- -projE X W q ⟨768 + (chan h d).val, by have := (chan h d).isLt; omega⟩ s))
          * Ideal.exp (∑ x, gateE X W L q (chan h d) x * triE 2047 x - ∑ x, gateE X W L q (chan h d) x * triE s x)
          * projE X W q ⟨1280 + (chan h e).val, by have := (chan h e).isLt; omega⟩ s := by
  unfold res_main_v63
  rw [hX, hW, hL]
  pointwise []
  rfl

theorem lowerE_at {L : ShL.Idx → EReal} (hL : AllReal L) (n : Fin 512) : lowerE L n = ((lower L n.val : ℝ) : EReal) := by
  obtain ⟨M, e⟩ := max_real hL n
  unfold lowerE
  rw [show maxE L n = (M : EReal) from e]
  exact softmax_at hL n M

section
variable {X : ShX.Idx → EReal} {W : ShW.Idx → EReal} {L : ShL.Idx → EReal} (hX : AllReal X) (hW : AllReal W) (hL : AllReal L) (q : Fin 8)
include hX hW

theorem projE_at (n : Fin 5632) (s : Fin 2048) : projE X W q n s = ((proj X W q n s.val : ℝ) : EReal) := proj_at hX hW q s n

include hL

theorem gateE_at (n : Fin 512) (s : Fin 2048) : gateE X W L q n s = ((logf X W L q n.val s.val : ℝ) : EReal) := by
  unfold gateE
  rw [lowerE_at hL, projE_at hX hW, sig_at, one_sub, ← EReal.coe_mul, ← EReal.coe_add, log_at (gate_pos L _ _)]
  unfold logf col
  simp only [Nat.mod_eq_of_lt n.isLt]

theorem totalE_at (n : Fin 512) (t : Fin 2048) :
    (∑ x, gateE X W L q n x * triE t x) = ((total (logf X W L q n.val) (t.val + 1) : ℝ) : EReal) := by
  rw [← total_at (logf X W L q n.val) t.val t.isLt]
  refine Finset.sum_congr rfl fun x _ => ?_
  rw [gateE_at hX hW hL]
  exact congrArg _ (tri t.val x.val t.isLt x.isLt)

theorem sum_at (h : Fin 4) (d e : Fin 128) :
    (∑ s : Fin 2048, (1 - lowerE L (chan h d)) * Ideal.div 1 (1 + Ideal.exp (- -projE X W q ⟨768 + (chan h d).val, by have := (chan h d).isLt; omega⟩ s))
          * Ideal.exp (∑ x, gateE X W L q (chan h d) x * triE 2047 x - ∑ x, gateE X W L q (chan h d) x * triE s x)
          * projE X W q ⟨1280 + (chan h e).val, by have := (chan h e).isLt; omega⟩ s) = ((final X W L q h d e : ℝ) : EReal) := by
  unfold final state
  rw [← Fin.sum_univ_eq_sum_range (fun s => key X W L q (128 * h.val + d.val) s
    * Real.exp (total (logf X W L q (128 * h.val + d.val)) 2048 - total (logf X W L q (128 * h.val + d.val)) (s + 1)) * value X W q (128 * h.val + e.val) s) 2048,
    ← coe_sum]
  refine Finset.sum_congr rfl fun s _ => ?_
  rw [totalE_at hX hW hL, totalE_at hX hW hL, lowerE_at hL, projE_at hX hW, projE_at hX hW, one_sub, ← EReal.coe_neg, sig_at, ← EReal.coe_mul, ← EReal.coe_sub,
    Ideal.exp_coe, ← EReal.coe_mul, ← EReal.coe_mul]
  have h1 := (chan h d).isLt
  have h2 := (chan h e).isLt
  have e1 : 128 * h.val + d.val = (chan h d).val := by show _ = h.val * 128 + d.val; omega
  have e2 : 128 * h.val + e.val = (chan h e).val := by show _ = h.val * 128 + e.val; omega
  rw [e1, e2]
  unfold key value col
  simp only [Nat.mod_eq_of_lt h1, Nat.mod_eq_of_lt h2]
  rfl

end

/-- The reference's state of a sequence, at real inputs. -/
theorem state_at (q : Fin 8) (h : Fin 4) (d e : Fin 128) (X : ShX.Idx → EReal) (W : ShW.Idx → EReal) (L : ShL.Idx → EReal)
    (hX : m ((c.tc : Thread nD τ).loc main_arg0) = X) (hW : m ((c.tc : Thread nD τ).loc main_arg4) = W) (hL : m ((c.tc : Thread nD τ).loc main_arg3) = L)
    (rX : AllReal X) (rW : AllReal W) (rL : AllReal L) :
    (res_main_v63 m c : Vec Ideal S8x4x128x128 .f32) (ix4 q h d e) = ((final X W L q h d e : ℝ) : EReal) :=
  (state_reads m c q h d e X W L hX hW hL).trans (sum_at rX rW rL q h d e)

/-- The reference's pooling window: the last sixteen rows of the first 256 projected columns. -/
theorem pool_at (q : Fin 8) (r : Fin 16) (n : Fin 256) :
    (extractStridedSlice S8x16x256 ![0, 2048, 0] (concatenate S8x2064x256 1 [⟨S8x16x256, (broadcastInDim S8x16x256 ![] bcast_S_S8x16x256 (constant (F := Ideal) S_ .f32 0x00000000#32))⟩, ⟨S8x2048x256, (extractStridedSlice S8x2048x256 ![0, 0, 0] (Host.dotGeneral (F := Ideal) (φ₁ := .f32) (φ₂ := .f32) dot_S8x2048x1024_S1024x5632_S8x2048x5632_2_0_01_1_n_n none (m ((c.tc : Thread nD τ).loc main_arg0)) (m ((c.tc : Thread nD τ).loc main_arg4))) slices_S8x2048x5632_S8x2048x256_0_0_0)⟩] concatenates_S8x16x256_S8x2048x256_S8x2064x256_d1) slices_S8x2064x256_S8x16x256_0_2048_0 : Vec Ideal S8x16x256 .f32) (ix3 q r n)
      = projE (m ((c.tc : Thread nD τ).loc main_arg0)) (m ((c.tc : Thread nD τ).loc main_arg4)) q ⟨n.val, by have := n.isLt; omega⟩ ⟨2032 + r.val, by have := r.isLt; omega⟩ := by
  pointwise []
  have hr := r.isLt
  have hn := n.isLt
  rw [dif_neg (by omega)]
  unfold projE
  refine Finset.sum_congr rfl fun k _ => ?_
  simp only [show 2048 + r.val - 16 = 2032 + r.val by omega]

end Cert.ReferenceIdeal.Rows
-- ==== Proof.MixerAlgebraic.lean ====
/- The mixer and its reference, run over equal finite arguments, leave the same pooling window and the same final states. -/
module

public import proofs.«01_k».proof.Proof.MixerValue
public import proofs.«01_k».proof.Proof.MixerReferenceRows
public import proofs.«01_k».proof.Proof.Gen.Pre_finite_inputs
public import Idealize.ShloMosaic.Lib.ReduceAll

@[expose] public section

set_option maxRecDepth 65536

noncomputable section

namespace Cert.KernelIdeal.Arrays

open Cert.KernelIdeal Cert.KernelIdeal.Scan Cert.KernelIdeal.Gen Cert.KernelIdeal.Tower Cert.KernelIdeal.Mix Cert.Recurrence
open Idealize.ShloMosaic Idealize.ShloMosaic.TcCoe Idealize.SL.Sem
open Idealize.ShloMosaic.Pipeline (Dat Cfg Window)

/-! ## The precondition -/

theorem infBits : Ideal.ofBits .f32 0x7F800000#32 = ⊤ := by simp [Ideal.ofBits, Ideal.ieee]

/-- A number whose magnitude is below infinity is real. -/
theorem real_of_lt (a : EReal) (h : FloatOps.cmpf (F := Ideal) (φ := .f32) CmpFPredicate.olt (FloatOps.absf (F := Ideal) (φ := .f32) a) (Ideal.ofBits .f32 0x7F800000#32) = 1#1) :
    a = (a.toReal : EReal) := by
  rw [infBits] at h
  induction a using EReal.rec with
  | bot => exact absurd h (by simp [FloatOps.cmpf, FloatOps.absf, Ideal.cmp])
  | top => exact absurd h (by simp [FloatOps.cmpf, FloatOps.absf, Ideal.cmp])
  | coe x => rfl

theorem finite_real {s : Shape} (a : FVec Ideal s .f32) (b : Shape.BroadcastsInDim ⟨0, ![]⟩ s (![] : Fin 0 → Fin s.rank)) {axes : List (Fin s.rank)} {t : Shape} [Subsingleton t.Idx]
    (hr : s.ReducesTo axes t) {u : Shape} (hu : 0 < u.numel) (init : u.Idx → BitVec 1) (j : t.Idx)
    (h : Host.reduce IntOp.andi (cmpf .olt (Host.absf a) (broadcastInDim s ![] b (constant ⟨0, ![]⟩ .f32 0x7F800000#32))) init hr hu j = 1#1) : AllReal a := fun i => by
  have := Host.reduce_andi_all _ _ _ _ _ h i
  refine real_of_lt _ (Eq.trans ?_ this)
  rfl

theorem real_inputs (m : (ℓ : Loc nD τ sig) → Buf (Elt Ideal) ℓ) (h : Cert.Pre_KernelIdeal_finite_inputs m) (c : Dev nD) :
    AllReal (X m c) ∧ AllReal (W m c) ∧ AllReal (L m c) := by
  have h1 := congrFun (h c) ix0
  dsimp only [Cert.Pre_finite_inputs.fn] at h1
  obtain ⟨h2, hW⟩ := IntOp.andi_eq_one.1 h1
  obtain ⟨hX, hL⟩ := IntOp.andi_eq_one.1 h2
  exact ⟨finite_real _ _ _ _ _ _ hX, finite_real _ _ _ _ _ _ hW, finite_real _ _ _ _ _ _ hL⟩

/-! ## The run -/

theorem run_blocks (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v58_1) = (dats m 0 c).arrAt 18 cfg0.N
      ∧ r.2.mem ((c.tc : Thread nD τ).loc main_v58_2) = (dats m 0 c).arrAt 19 cfg0.N
      ∧ Pipeline.RDat.FramePost (cfgs 0) (fun c => (dats (F := Ideal) m 0 c).toRForget forgets0) (V m) r) :=
  (θ_run defs _ _).mono (fun _ hh c =>
    ⟨((dats m 0 c).toRForget_arrAt_iff (w := 18) rfl _ _).mp ((hh.1 c).1 18), ((dats m 0 c).toRForget_arrAt_iff (w := 19) rfl _ _).mp ((hh.1 c).1 19), hh.1⟩) (run_all m ρ)

theorem algebraic : Cert.algebraic_KernelIdeal_ReferenceIdeal_pre_finite_inputs := by
  intro m g m' g' hp hm
  refine ⟨fun c => poolWindow m c, fun c => finalStates m c, ?_, ?_⟩
  · refine (θ_run defs _ _).mono (fun r h c => ?_) (run_blocks m g)
    obtain ⟨hX, hW, hL⟩ := real_inputs m hp c
    exact ⟨(h c).1.trans (final18 m c), (h c).2.1.trans (final19 m c hX hW hL), kept m r (h c).2.2 c⟩
  · refine (θ_run Cert.ReferenceIdeal.defs _ _).mono (fun r h c => ⟨(h c).1.trans ?_, (h c).2.1.trans ?_, (h c).2.2⟩) (Cert.ReferenceIdeal.Value.run m' g')
    · funext i
      obtain ⟨e0, -, -, -, e4, -⟩ := hm c
      obtain ⟨q, s, n, rfl⟩ : ∃ (q : Fin 8) (s : Fin 16) (n : Fin 256), i = ix3 q s n :=
        ⟨⟨(i 0).val, (i 0).isLt⟩, ⟨(i 1).val, (i 1).isLt⟩, ⟨(i 2).val, (i 2).isLt⟩, funext fun a => Fin.ext (by fin_cases a <;> rfl)⟩
      refine (Cert.ReferenceIdeal.Rows.pool_at m' c q s n).trans ?_
      rw [e0, e4]
      rfl
    · funext i
      obtain ⟨e0, -, -, e3, e4, -⟩ := hm c
      obtain ⟨hX, hW, hL⟩ := real_inputs m hp c
      obtain ⟨q, hd, d, e, rfl⟩ : ∃ (q : Fin 8) (hd : Fin 4) (d e : Fin 128), i = ix4 q hd d e :=
        ⟨⟨(i 0).val, (i 0).isLt⟩, ⟨(i 1).val, (i 1).isLt⟩, ⟨(i 2).val, (i 2).isLt⟩, ⟨(i 3).val, (i 3).isLt⟩, funext fun a => Fin.ext (by fin_cases a <;> rfl)⟩
      exact Cert.ReferenceIdeal.Rows.state_at m' c q hd d e (X m c) (W m c) (L m c) e0 e4 e3 hX hW hL

end Cert.KernelIdeal.Arrays
-- ==== Proof.FfnFrame.lean ====
/- The channel mixer's launch: what the grid points leave in its buffers, and every run ending with the arguments as they were. -/
module

public import proofs.«01_k».proof.Proof.Gen.FfnIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.FfnIdeal.Mlp

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_8 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : cond0_0 i) (hc1 : ¬cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) (y : S1x1024x1024.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1 ![1, 256, 1024] (by sl_kernel_rfl) y

/-- What case A leaves in output 8's staging buffer: its pieces read back over junk. -/
def out0_A_8 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : cond0_0 i) (hc1 : ¬cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) : Vec F S1x1024x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).1)

def out0_A_9 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : cond0_0 i) (hc1 : ¬cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) : Vec F S1x8x2816 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1)

theorem scover0_A_0 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : cond0_0 i) (hc1 : ¬cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) (y : S8x2816.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 S8x2816.size (by sl_kernel_rfl) y

/-- What case A leaves in scratch `arg12`: its pieces read back over junk. -/
def sout0_A_0 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : cond0_0 i) (hc1 : ¬cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) : Vec F S8x2816 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1)

theorem cover0_B_8 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) (xs0 : Vec F S8x2816 .f32) (y : S1x1024x1024.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1 ![1, 256, 1024] (by sl_kernel_rfl) y

/-- What case B leaves in output 8's staging buffer: its pieces read back over junk. -/
def out0_B_8 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) (xs0 : Vec F S8x2816 .f32) : Vec F S1x1024x1024 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).1)

theorem cover0_B_9 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) (xs0 : Vec F S8x2816 .f32) (y : S1x8x2816.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1 S1x8x2816.size (by sl_kernel_rfl) y

/-- What case B leaves in output 9's staging buffer: its pieces read back over junk. -/
def out0_B_9 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) (xs0 : Vec F S8x2816 .f32) : Vec F S1x8x2816 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.1)

theorem scover0_B_0 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) (xs0 : Vec F S8x2816 .f32) (y : S8x2816.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1 S8x2816.size (by sl_kernel_rfl) y

/-- What case B leaves in scratch `arg12`: its pieces read back over junk. -/
def sout0_B_0 (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec F S1x1024x1024 .f32) (x1 : Vec F S1024x2816 .bf16) (x2 : Vec F S1024x2816 .bf16) (x3 : Vec F S3x2816 .f32) (x4 : Vec F S1x2816 .f32) (x5 : Vec F S2816x1024 .bf16) (x6 : Vec F S1x1024 .f32) (x7 : Vec F S1x1024 .f32) (xs0 : Vec F S8x2816 .f32) : Vec F S8x2816 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0).2.2.1)

/-! ## What the outputs hold after each point -/

def outsAt0 (c : Dev nD) : (n : ℕ) → n < cfg0.N → Vec F S1x1024x1024 .f32 × Vec F S1x8x2816 .f32 × Vec F S8x2816 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 2 = 0 then
      if h1 : (n + 1) % 2 = 1 then
        False.elim (by have hN : n + 1 < 16 := lt_of_lt_of_eq hn (show cfg0.N = 16 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 2 = 1 then
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 2 = 0) (h1 : ¬t.val % 2 = 1) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 2 = 0) (h1 : t.val % 2 = 1) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_8 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        iintro ⟨H0, H1, H2, H3, H4, H5, H6, H7, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
      · rw [PhiS_castSucc m c t, PhiS_pos m c _ _ hz]
        rw [outsAt0_A m c t h0 h1]
        unfold out0_A_8 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexists _; iexact HS0
        iintro ⟨H0, H1, H2, H3, H4, H5, H6, H7, ⟨%e8, H8⟩, H9, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _)
        iexists _; iexact H9
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_8 out0_B_9 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        iintro ⟨H0, H1, H2, H3, H4, H5, H6, H7, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FfnIdeal.Mlp

end
-- ==== Proof.FfnArrays.lean ====
/- The channel mixer's result arrays, entry by entry, as what the grid points left. -/
module

public import proofs.«01_k».proof.Proof.FfnFrame
public import Idealize.ShloMosaic.Lib.Pipeline.Value

@[expose] public section

noncomputable section

namespace Cert.FfnIdeal.Arrays

open Cert.FfnIdeal Cert.FfnIdeal.Gen Cert.FfnIdeal.Mlp Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v6_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v6_1) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem run_blocks : θ_run defs (onTc (τ := τ) (main (F := F))) ⟨m, fun _ => 0, ρ⟩ fun r => ∀ c : Dev nD,
      r.2.mem ((c : Thread nD τ).loc main_v6_0) = (dats m 0 c).arrAt 8 cfg0.N
      ∧ r.2.mem ((c : Thread nD τ).loc main_v6_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.FfnIdeal.Arrays
-- ==== Proof.RowMath.lean ====
/- The row-wise mathematics that the layer's calls and their references share, on the extended reals: layer normalisation,
   the three-tap causal convolution and the gated GELU. -/
module

public import Idealize.ShloMosaic.PureOps.Ideal
public import Idealize.ShloMosaic.PureOps.Ideal.Laws
public import Idealize.ShloMosaic.Lib.Pointwise

@[expose] public section

noncomputable section

namespace Cert.RowMath

open Idealize.ShloMosaic

/-- A row's mean: its sum divided by 1024, the constant as printed. -/
def mean (v : Fin 1024 → EReal) : EReal := Ideal.div (∑ k, v k) (Ideal.ofBits .f32 0x44800000#32)

/-- Layer normalisation of a row of 1024 entries, entry `d`: less the mean, over the root of the variance plus epsilon, times
    the scale plus the shift. -/
def normRow (v : Fin 1024 → EReal) (g b : EReal) (d : Fin 1024) : EReal :=
  (v d - mean v) * Ideal.rsqrt (Ideal.div (∑ k, (v k - mean v) * (v k - mean v)) (Ideal.ofBits .f32 0x44800000#32)
    + Ideal.ofBits .f32 0x3727C5AC#32) * g + b

/-- Three taps over the entries two back, one back and here, after the bias. -/
def conv (bias w2 w1 w0 a2 a1 a0 : EReal) : EReal := bias + a2 * w2 + a1 * w1 + a0 * w0

/-- The exact GELU of `c`, with the error function, times `u`. -/
def gelu (c u : EReal) : EReal :=
  Ideal.ofBits .f32 0x3F000000#32 * c * (1 + Ideal.erf (c * Ideal.ofBits .f32 0x3F3504F3#32)) * u

end Cert.RowMath
-- ==== Proof.FfnRows.lean ====
/- What one grid point of the feed-forward call computes, entry by entry over the extended reals: the gate projection, its
   three-tap convolution over the rows before, the gated GELU, the output projection on the residual and the layer
   normalisation, each as a formula of the point's blocks. -/
module

public import proofs.«01_k».proof.Proof.Gen.FfnIdeal.Skeleton
public import proofs.«01_k».proof.Proof.RowMath

@[expose] public section

set_option maxRecDepth 65536

noncomputable section

namespace Cert.FfnIdeal.Rows

open Cert.FfnIdeal Cert.FfnIdeal.Gen Cert.RowMath
open Idealize.ShloMosaic

variable (x0 : Vec Ideal S1x1024x1024 .f32) (x1 x2 : Vec Ideal S1024x2816 .bf16) (x3 : Vec Ideal S3x2816 .f32)
  (x4 : Vec Ideal S1x2816 .f32) (x5 : Vec Ideal S2816x1024 .bf16) (x6 x7 : Vec Ideal S1x1024 .f32) (xs : Vec Ideal S8x2816 .f32)

/-- Entry (`r`, `f`) of the block's product with a projection matrix. -/
def proj (w : Vec Ideal S1024x2816 .bf16) (r : Fin 1024) (f : Fin 2816) : EReal := ∑ k : Fin 1024, x0 (ix3 0 r k) * w (ix2 k f)

/-- Row `j` of the eight carried rows followed by the block's gate projection. -/
def ext (j : ℕ) (f : Fin 2816) : EReal :=
  if h : j < 8 then xs (ix2 ⟨j, h⟩ f) else if h : j - 8 < 1024 then proj x0 x1 ⟨j - 8, h⟩ f else 0

/-- The convolved gate at row `r`. -/
def cv (r : Fin 1024) (f : Fin 2816) : EReal :=
  conv (x4 (ix2 0 f)) (x3 (ix2 0 f)) (x3 (ix2 1 f)) (x3 (ix2 2 f)) (ext x0 x1 xs (r.val + 6) f) (ext x0 x1 xs (r.val + 7) f) (ext x0 x1 xs (r.val + 8) f)

/-- The gated entry at row `r`. -/
def gated (r : Fin 1024) (f : Fin 2816) : EReal := gelu (cv x0 x1 x3 x4 xs r f) (proj x0 x2 r f)

/-- The residual plus the output projection. -/
def res (r : Fin 1024) (d : Fin 1024) : EReal :=
  Ideal.ofBits .f32 0x3F9837F0#32 * x0 (ix3 0 r d) + ∑ f : Fin 2816, gated x0 x1 x2 x3 x4 xs r f * x5 (ix2 f d)

/-- The block's result. -/
def out (r : Fin 1024) (d : Fin 1024) : EReal :=
  normRow (res x0 x1 x2 x3 x4 x5 xs r) (x6 (ix2 0 d)) (x7 (ix2 0 d)) d

theorem pay5_at (r k : Fin 1024) : k0_pay5 (F := Ideal) x0 (ix2 r k) = x0 (ix3 0 r k) := by
  pointwise [k0_pay5]

theorem pay7_at (r : Fin 1024) (f : Fin 2816) : k0_pay7 (F := Ideal) x0 x1 (ix2 r f) = proj x0 x1 r f := by
  pointwise [k0_pay7, k0_pay6, k0_pay5, proj]

theorem pay8_at (r : Fin 1024) (f : Fin 2816) : k0_pay8 (F := Ideal) x0 x2 (ix2 r f) = proj x0 x2 r f := by
  pointwise [k0_pay8, k0_pay6, k0_pay5, proj]

theorem pay9_at (r : Fin 1024) (f : Fin 2816) : k0_pay9 (F := Ideal) x0 x1 xs x3 x4 (ix2 r f) = cv x0 x1 x3 x4 xs r f := by
  have hr := r.isLt
  pointwise [k0_pay9]
  simp only [show (8 + r.val + 1032 - 2) % 1032 = r.val + 6 by omega, show (8 + r.val + 1032 - 1) % 1032 = r.val + 7 by omega, pay7_at]
  unfold cv conv ext
  simp only [show r.val + 8 - 8 = r.val by omega, show ¬ r.val + 8 < 8 by omega, dif_neg, not_false_eq_true, hr, dif_pos,
    show r.val + 6 - 8 < 1024 by omega, show r.val + 7 - 8 < 1024 by omega]

theorem pay12_at (r : Fin 1024) (f : Fin 2816) :
    k0_pay12 (F := Ideal) (k0_pay8 x0 x2) (k0_pay9 x0 x1 xs x3 x4) (k0_pay10 x0 x1 xs x3 x4) k0_pay11 (ix2 r f)
      = gated x0 x1 x2 x3 x4 xs r f := by
  unfold gated gelu
  rw [← pay9_at, ← pay8_at]
  pointwise [k0_pay12, k0_pay10, k0_pay11]
  rfl

/-- The first group of 256 rows. -/
theorem pay16_at (r : Fin 256) (d : Fin 1024) :
    k0_pay16 (F := Ideal) (k0_pay5 x0) (k0_pay8 x0 x2) (k0_pay9 x0 x1 xs x3 x4) (k0_pay10 x0 x1 xs x3 x4) k0_pay11 x5 x6 x7 (ix2 r d)
      = out x0 x1 x2 x3 x4 x5 x6 x7 xs ⟨r.val, by have := r.isLt; omega⟩ d := by
  unfold out normRow mean res
  simp only [← pay12_at, ← pay5_at]
  pointwise [k0_pay16, k0_pay13, k0_pay14, k0_pay15]

/-- The second. -/
theorem pay17_at (r : Fin 256) (d : Fin 1024) :
    k0_pay17 (F := Ideal) (k0_pay5 x0) (k0_pay12 (k0_pay8 x0 x2) (k0_pay9 x0 x1 xs x3 x4) (k0_pay10 x0 x1 xs x3 x4) k0_pay11)
        (k0_pay13 x5) (k0_pay14 x6) (k0_pay15 x7) (ix2 r d)
      = out x0 x1 x2 x3 x4 x5 x6 x7 xs ⟨256 + r.val, by have := r.isLt; omega⟩ d := by
  unfold out normRow mean res
  simp only [← pay12_at, ← pay5_at]
  pointwise [k0_pay17, k0_pay13, k0_pay14, k0_pay15]

/-- The third. -/
theorem pay20_at (r : Fin 256) (d : Fin 1024) :
    k0_pay20 (F := Ideal) (k0_pay14 x6) (k0_pay15 x7)
        (k0_pay18 (k0_pay5 x0) (k0_pay12 (k0_pay8 x0 x2) (k0_pay9 x0 x1 xs x3 x4) (k0_pay10 x0 x1 xs x3 x4) k0_pay11) (k0_pay13 x5))
        (k0_pay19 (k0_pay5 x0) (k0_pay12 (k0_pay8 x0 x2) (k0_pay9 x0 x1 xs x3 x4) (k0_pay10 x0 x1 xs x3 x4) k0_pay11) (k0_pay13 x5)) (ix2 r d)
      = out x0 x1 x2 x3 x4 x5 x6 x7 xs ⟨512 + r.val, by have := r.isLt; omega⟩ d := by
  unfold out normRow mean res
  simp only [← pay12_at, ← pay5_at]
  pointwise [k0_pay20, k0_pay18, k0_pay19, k0_pay13, k0_pay14, k0_pay15]

/-- The fourth. -/
theorem pay1_at (r : Fin 256) (d : Fin 1024) :
    k0_pay1 (F := Ideal) (k0_pay15 x7)
        (k0_pay21 (k0_pay5 x0) (k0_pay12 (k0_pay8 x0 x2) (k0_pay9 x0 x1 xs x3 x4) (k0_pay10 x0 x1 xs x3 x4) k0_pay11) (k0_pay13 x5) (k0_pay14 x6)) (ix2 r d)
      = out x0 x1 x2 x3 x4 x5 x6 x7 xs ⟨768 + r.val, by have := r.isLt; omega⟩ d := by
  unfold out normRow mean res
  simp only [← pay12_at, ← pay5_at]
  pointwise [k0_pay1, k0_pay21, k0_pay13, k0_pay14, k0_pay15]

/-- The rows carried to the next point: the block's last eight rows of the gate projection. -/
theorem pay2_at (r : Fin 8) (f : Fin 2816) :
    k0_pay2 (F := Ideal) (k0_pay7 x0 x1) (ix2 r f) = proj x0 x1 ⟨1016 + r.val, by have := r.isLt; omega⟩ f := by
  rw [← pay7_at]
  pointwise [k0_pay2]

theorem pay3_at (v : Vec Ideal S8x2816 .f32) (r : Fin 8) (f : Fin 2816) : k0_pay3 (F := Ideal) v (ix3 0 r f) = v (ix2 r f) := by
  pointwise [k0_pay3]

theorem pay4_at (r : Fin 8) (f : Fin 2816) : k0_pay4 (F := Ideal) (ix2 r f) = 0 := by
  pointwise [k0_pay4]

end Cert.FfnIdeal.Rows
-- ==== Proof.FfnPoint.lean ====
/- What one grid point of the feed-forward call leaves, entry by entry: the stored pieces read back (`Pieces`) as the formulas
   of `Rows`, in the call's two cases — the first half of a sequence (A), whose carried rows are zero, and the second (B). -/
module

public import proofs.«01_k».proof.Proof.FfnFrame
public import proofs.«01_k».proof.Proof.FfnRows
public import proofs.«01_k».proof.Proof.Pieces

@[expose] public section

set_option maxRecDepth 65536

noncomputable section

namespace Cert.FfnIdeal.Point

open Cert.FfnIdeal Cert.FfnIdeal.Gen Cert.FfnIdeal.Mlp Cert.Pieces
open Idealize.ShloMosaic Idealize.ShloMosaic.TcCoe

theorem inbRows (o : ℕ) (ho : o + 256 ≤ 1024) (a : Fin 2) : (![o, 0] : Fin 2 → ℕ) a + (![256, 1024] : Fin 2 → ℕ) a ≤ S1024x1024.size a := by
  fin_cases a
  · exact ho
  · exact le_refl 1024

/-- Rows o … o + 255 of a block, as the kernel's store through the squeezed block reaches them. -/
def groupRect (o : ℕ) (ho : o + 256 ≤ 1024) : Rect S1x1024x1024 :=
  (Rect.unit (s := S1x1024x1024) ![0, 0, 0] ![1, 1024, 1024] inb_S1x1024x1024_S1x1024x1024_0_0_0).within
    ((Rect.unit (s := S1024x1024) ![o, 0] ![256, 1024] (inbRows o ho)).consLift ![1, 1024, 1024] rfl
      (fun i => by fin_cases i <;> rfl)) (fun _ => rfl)

/-- A group of 256 rows stored there. -/
def groupPiece (o : ℕ) (ho : o + 256 ≤ 1024) (w : Vec Ideal S256x1024 .f32) : View.Piece (Elt Ideal) S1x1024x1024 .f32 :=
  ⟨groupRect o ho, Rect.payAlong (Rect.numel_consLift (Rect.unit (s := S1024x1024) ![o, 0] ![256, 1024] (inbRows o ho)) ![1, 1024, 1024] rfl
      (fun i => by fin_cases i <;> rfl)) w⟩

theorem groupPiece_at {o : ℕ} {ho : o + 256 ≤ 1024} {w : Vec Ideal S256x1024 .f32} (T : Fin 1024 → EReal) (d : Fin 1024)
    (hw : ∀ q : Fin 256, w (ix2 q d) = T ⟨o + q.val, by have := q.isLt; omega⟩) (r : Fin 1024)
    (x : (groupPiece o ho w).1.shape.Idx) (hx : (groupPiece o ho w).1.emb x = ix3 0 r d) : (groupPiece o ho w).2 x = T r := by
  have h1 : 0 + o + 1 * (x 1).val = r.val := congrArg Fin.val (congrFun hx 1)
  have h2 : 0 + 0 + 1 * (x 2).val = d.val := congrArg Fin.val (congrFun hx 2)
  have b1 : (x 1).val < 256 := (x 1).isLt
  have e1 : T r = T ⟨o + (x 1).val, by omega⟩ := congrArg T (Fin.ext (by show r.val = o + (x 1).val; omega))
  rw [e1, ← hw ⟨(x 1).val, b1⟩]
  refine Rect.payAlong_consLift _ _ _ _ w _ x (ix2 ⟨(x 1).val, b1⟩ d) (Fin.forall_fin_two.2 ⟨rfl, ?_⟩)
  show d.val = (x 2).val
  omega

/-- A block stored in four groups of rows, read back: if each group holds the rows of T, so does the block. -/
theorem read_groups (v : View sig .tc .vmem S1x1024x1024 .f32) (w3 w2 w1 w0 : Vec Ideal S256x1024 .f32) (T : Fin 1024 → EReal) (r d : Fin 1024)
    (f : v.ty.Contents (Elt Ideal))
    (h3 : ∀ q : Fin 256, w3 (ix2 q d) = T ⟨768 + q.val, by have := q.isLt; omega⟩)
    (h2 : ∀ q : Fin 256, w2 (ix2 q d) = T ⟨512 + q.val, by have := q.isLt; omega⟩)
    (h1 : ∀ q : Fin 256, w1 (ix2 q d) = T ⟨256 + q.val, by have := q.isLt; omega⟩)
    (h0 : ∀ q : Fin 256, w0 (ix2 q d) = T ⟨q.val, by have := q.isLt; omega⟩)
    (cov : ∃ p ∈ [groupPiece 768 (by decide) w3, groupPiece 512 (by decide) w2, groupPiece 256 (by decide) w1, groupPiece 0 (by decide) w0],
      (ix3 0 r d : S1x1024x1024.Idx) ∈ p.1.set) :
    v.read (Elt Ideal) (v.writes (Elt Ideal) f [groupPiece 768 (by decide) w3, groupPiece 512 (by decide) w2, groupPiece 256 (by decide) w1, groupPiece 0 (by decide) w0]) (ix3 0 r d) = T r := by
  refine read_of_pieces v f (fun z => z = T r) _ _ ?_ cov
  refine List.forall_mem_cons.2 ⟨groupPiece_at T d h3 r, List.forall_mem_cons.2 ⟨groupPiece_at T d h2 r, List.forall_mem_cons.2 ⟨groupPiece_at T d h1 r, List.forall_mem_cons.2 ⟨groupPiece_at T d (fun q => (h0 q).trans (congrArg T (Fin.ext (by show q.val = 0 + q.val; omega)))) r, fun _ h => absurd h List.not_mem_nil⟩⟩⟩⟩

set_option maxHeartbeats 4000000 in
/-- Case A: the block that the point leaves for the result window, entry by entry. -/
theorem out_A (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : cond0_0 i) (hc1 : ¬cond0_1 i)
    (x0 : Vec Ideal S1x1024x1024 .f32) (x1 : Vec Ideal S1024x2816 .bf16) (x2 : Vec Ideal S1024x2816 .bf16) (x3 : Vec Ideal S3x2816 .f32) (x4 : Vec Ideal S1x2816 .f32) (x5 : Vec Ideal S2816x1024 .bf16) (x6 : Vec Ideal S1x1024 .f32) (x7 : Vec Ideal S1x1024 .f32) (r d : Fin 1024) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix3 0 r d) = Rows.out x0 x1 x2 x3 x4 x5 x6 x7 (k0_pay4 (F := Ideal)) r d := by
  unfold out0_A_8
  refine read_groups _ _ _ _ _ (fun r => Rows.out x0 x1 x2 x3 x4 x5 x6 x7 (k0_pay4 (F := Ideal)) r d) r d _ (fun q => ?_) (fun q => ?_) (fun q => ?_) (fun q => ?_) (cover0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 _)
  · refine Eq.trans ?_ (Rows.pay1_at x0 x1 x2 x3 x4 x5 x6 x7 (k0_pay4 (F := Ideal)) q d)
    simp (proj := false) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v12, kernelRun0_A.sl.HS0_1, load_whole, load_stored]
  · refine Eq.trans ?_ (Rows.pay20_at x0 x1 x2 x3 x4 x5 x6 x7 (k0_pay4 (F := Ideal)) q d)
    simp (proj := false) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v12, kernelRun0_A.sl.HS0_1, load_whole, load_stored]
  · refine Eq.trans ?_ (Rows.pay17_at x0 x1 x2 x3 x4 x5 x6 x7 (k0_pay4 (F := Ideal)) q d)
    simp (proj := false) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v12, kernelRun0_A.sl.HS0_1, load_whole, load_stored]
  · refine Eq.trans ?_ (Rows.pay16_at x0 x1 x2 x3 x4 x5 x6 x7 (k0_pay4 (F := Ideal)) q d)
    simp (proj := false) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v12, kernelRun0_A.sl.HS0_1, load_whole, load_stored]

set_option maxHeartbeats 4000000 in
/-- Case A: the rows it carries on. -/
theorem carry_A (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : cond0_0 i) (hc1 : ¬cond0_1 i)
    (x0 : Vec Ideal S1x1024x1024 .f32) (x1 : Vec Ideal S1024x2816 .bf16) (x2 : Vec Ideal S1024x2816 .bf16) (x3 : Vec Ideal S3x2816 .f32) (x4 : Vec Ideal S1x2816 .f32) (x5 : Vec Ideal S2816x1024 .bf16) (x6 : Vec Ideal S1x1024 .f32) (x7 : Vec Ideal S1x1024 .f32) (r : Fin 8) (f : Fin 2816) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r f) = Rows.proj x0 x1 ⟨1016 + r.val, by have := r.isLt; omega⟩ f := by
  unfold sout0_A_0
  refine (read_stored _ _ inb_S8x2816_S8x2816_0_0 _ _ (ix2 r f)).trans (Eq.trans ?_ (Rows.pay2_at x0 x1 r f))
  simp (proj := false) only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v12, kernelRun0_A.sl.HS0_1, load_whole, load_stored]

set_option maxHeartbeats 4000000 in
/-- Case B: the block that the point leaves for the result window, entry by entry. -/
theorem out_B (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec Ideal S1x1024x1024 .f32) (x1 : Vec Ideal S1024x2816 .bf16) (x2 : Vec Ideal S1024x2816 .bf16) (x3 : Vec Ideal S3x2816 .f32) (x4 : Vec Ideal S1x2816 .f32) (x5 : Vec Ideal S2816x1024 .bf16) (x6 : Vec Ideal S1x1024 .f32) (x7 : Vec Ideal S1x1024 .f32) (xs : Vec Ideal S8x2816 .f32) (r d : Fin 1024) :
    out0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs (ix3 0 r d) = Rows.out x0 x1 x2 x3 x4 x5 x6 x7 xs r d := by
  unfold out0_B_8
  refine read_groups _ _ _ _ _ (fun r => Rows.out x0 x1 x2 x3 x4 x5 x6 x7 xs r d) r d _ (fun q => ?_) (fun q => ?_) (fun q => ?_) (fun q => ?_) (cover0_B_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs _)
  · refine Eq.trans ?_ (Rows.pay1_at x0 x1 x2 x3 x4 x5 x6 x7 xs q d)
    simp (proj := false) only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, load_whole]
  · refine Eq.trans ?_ (Rows.pay20_at x0 x1 x2 x3 x4 x5 x6 x7 xs q d)
    simp (proj := false) only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, load_whole]
  · refine Eq.trans ?_ (Rows.pay17_at x0 x1 x2 x3 x4 x5 x6 x7 xs q d)
    simp (proj := false) only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, load_whole]
  · refine Eq.trans ?_ (Rows.pay16_at x0 x1 x2 x3 x4 x5 x6 x7 xs q d)
    simp (proj := false) only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, load_whole]

set_option maxHeartbeats 4000000 in
/-- Case B: the rows it carries on. -/
theorem carry_B (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec Ideal S1x1024x1024 .f32) (x1 : Vec Ideal S1024x2816 .bf16) (x2 : Vec Ideal S1024x2816 .bf16) (x3 : Vec Ideal S3x2816 .f32) (x4 : Vec Ideal S1x2816 .f32) (x5 : Vec Ideal S2816x1024 .bf16) (x6 : Vec Ideal S1x1024 .f32) (x7 : Vec Ideal S1x1024 .f32) (xs : Vec Ideal S8x2816 .f32) (r : Fin 8) (f : Fin 2816) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs (ix2 r f) = Rows.proj x0 x1 ⟨1016 + r.val, by have := r.isLt; omega⟩ f := by
  unfold sout0_B_0
  refine (read_stored _ _ inb_S8x2816_S8x2816_0_0 _ _ (ix2 r f)).trans (Eq.trans ?_ (Rows.pay2_at x0 x1 r f))
  simp (proj := false) only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, load_whole]

set_option maxHeartbeats 4000000 in
/-- Case B: the rows it leaves for the carry result are the same. -/
theorem last_B (c : Dev nD) (i : grid0.Coords) (arg2 : Memref sig .tc .vmem S1x1024x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S3x2816 .f32) (harg5 : arg5.IsWhole) (arg6 : Memref sig .tc .vmem S1x2816 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024x1024 .f32) (harg10 : arg10.IsWhole) (arg11 : Memref sig .tc .vmem S1x8x2816 .f32) (harg11 : arg11.IsWhole) (arg12 : Memref sig .tc .vmem S8x2816 .f32) (harg12 : arg12.IsWhole) (hc0 : ¬cond0_0 i) (hc1 : cond0_1 i)
    (x0 : Vec Ideal S1x1024x1024 .f32) (x1 : Vec Ideal S1024x2816 .bf16) (x2 : Vec Ideal S1024x2816 .bf16) (x3 : Vec Ideal S3x2816 .f32) (x4 : Vec Ideal S1x2816 .f32) (x5 : Vec Ideal S2816x1024 .bf16) (x6 : Vec Ideal S1x1024 .f32) (x7 : Vec Ideal S1x1024 .f32) (xs : Vec Ideal S8x2816 .f32) (r : Fin 8) (f : Fin 2816) :
    out0_B_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 xs (ix3 0 r f) = Rows.proj x0 x1 ⟨1016 + r.val, by have := r.isLt; omega⟩ f := by
  unfold out0_B_9
  refine (read_stored _ _ inb_S1x8x2816_S1x8x2816_0_0_0 _ _ (ix3 0 r f)).trans ?_
  refine Eq.trans ?_ ((Rows.pay3_at (k0_pay2 (k0_pay7 x0 x1)) r f).trans (Rows.pay2_at x0 x1 r f))
  simp (proj := false) only [kernelRun0_B.sl.v175, kernelRun0_B.sl.HS0_1, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, load_whole, load_stored]
  exact congrFun (congrArg (k0_pay3 (F := Ideal)) (load_stored _ inb_S8x2816_S8x2816_0_0 inb_S8x2816_S8x2816_0_0 _ [])) _

end Cert.FfnIdeal.Point
-- ==== Proof.FfnTarget.lean ====
/- The feed-forward branch over whole arrays, row by row, and the step that a block makes towards it: what a grid point computes
   from its block of rows and the eight rows carried into it (`Rows.out`) is the branch's value at those rows. -/
module

public import proofs.«01_k».proof.Proof.FfnRows

@[expose] public section

set_option maxRecDepth 65536

noncomputable section

namespace Cert.FfnIdeal.Target

open Cert.FfnIdeal Cert.FfnIdeal.Gen Cert.RowMath
open Idealize.ShloMosaic

variable (h : Vec Ideal S8x2048x1024 .f32) (wg wu : Vec Ideal S1024x2816 .f32) (cw : Vec Ideal S3x2816 .f32)
  (cb : Vec Ideal S2816 .f32) (wd : Vec Ideal S2816x1024 .f32) (g b : Vec Ideal S1024 .f32)

/-- Entry `f` of the product of token `s` of sequence `q` with a projection matrix. -/
def proj (w : Vec Ideal S1024x2816 .f32) (q : Fin 8) (s : Fin 2048) (f : Fin 2816) : EReal := ∑ k : Fin 1024, h (ix3 q s k) * w (ix2 k f)

/-- Row `j` of two rows of zeros followed by the sequence's gate projection. -/
def padded (q : Fin 8) (j : ℕ) (f : Fin 2816) : EReal :=
  if j < 2 then 0 else if h2 : j - 2 < 2048 then proj h wg q ⟨j - 2, h2⟩ f else 0

def cv (q : Fin 8) (s : Fin 2048) (f : Fin 2816) : EReal :=
  conv (cb (ix1 f)) (cw (ix2 0 f)) (cw (ix2 1 f)) (cw (ix2 2 f)) (padded h wg q s.val f) (padded h wg q (s.val + 1) f) (padded h wg q (s.val + 2) f)

def res (q : Fin 8) (s : Fin 2048) (d : Fin 1024) : EReal :=
  Ideal.ofBits .f32 0x3F9837F0#32 * h (ix3 q s d) + ∑ f : Fin 2816, gelu (cv h wg cw cb q s f) (proj h wu q s f) * wd (ix2 f d)

/-- The layer's result at token `s` of sequence `q`. -/
def out (q : Fin 8) (s : Fin 2048) (d : Fin 1024) : EReal := normRow (res h wg wu cw cb wd q s) (g (ix1 d)) (b (ix1 d)) d

/-- The gate projection of the sequence's last eight tokens. -/
def last (q : Fin 8) (r : Fin 8) (f : Fin 2816) : EReal := proj h wg q ⟨2040 + r.val, by have := r.isLt; omega⟩ f

variable {h wg wu cw cb wd g b}
variable {x0 : Vec Ideal S1x1024x1024 .f32} {x1 x2 : Vec Ideal S1024x2816 .bf16} {x3 : Vec Ideal S3x2816 .f32}
  {x4 : Vec Ideal S1x2816 .f32} {x5 : Vec Ideal S2816x1024 .bf16} {x6 x7 : Vec Ideal S1x1024 .f32} {xs : Vec Ideal S8x2816 .f32}
  {q : Fin 8} {o : ℕ} (ho : o + 1024 ≤ 2048)

theorem proj_of_block {w : Vec Ideal S1024x2816 .f32} {x : Vec Ideal S1024x2816 .bf16}
    (h0 : ∀ r k : Fin 1024, x0 (ix3 0 r k) = h (ix3 q ⟨o + r.val, by have := r.isLt; omega⟩ k))
    (h1 : ∀ (k : Fin 1024) (f : Fin 2816), x (ix2 k f) = w (ix2 k f)) (r : Fin 1024) (f : Fin 2816) :
    Rows.proj x0 x r f = proj h w q ⟨o + r.val, by have := r.isLt; omega⟩ f :=
  Finset.sum_congr rfl fun k _ => by rw [h0, h1]

theorem ext_of_block
    (h0 : ∀ r k : Fin 1024, x0 (ix3 0 r k) = h (ix3 q ⟨o + r.val, by have := r.isLt; omega⟩ k))
    (h1 : ∀ (k : Fin 1024) (f : Fin 2816), x1 (ix2 k f) = wg (ix2 k f))
    (hs : ∀ (j : Fin 8) (f : Fin 2816), 6 ≤ j.val → xs (ix2 j f) = padded h wg q (o + j.val - 6) f)
    (j : ℕ) (hj : 6 ≤ j) (hj' : j < 1032) (f : Fin 2816) : Rows.ext x0 x1 xs j f = padded h wg q (o + j - 6) f := by
  unfold Rows.ext
  by_cases h8 : j < 8
  · rw [dif_pos h8]
    exact hs ⟨j, h8⟩ f hj
  · rw [dif_neg h8, dif_pos (by omega), proj_of_block ho h0 h1]
    unfold padded
    rw [if_neg (by omega), dif_pos (by omega)]
    exact congrArg (fun s => proj h wg q s f) (Fin.ext (by show o + (j - 8) = o + j - 6 - 2; omega))

theorem out_of_block
    (h0 : ∀ r k : Fin 1024, x0 (ix3 0 r k) = h (ix3 q ⟨o + r.val, by have := r.isLt; omega⟩ k))
    (h1 : ∀ (k : Fin 1024) (f : Fin 2816), x1 (ix2 k f) = wg (ix2 k f))
    (h2 : ∀ (k : Fin 1024) (f : Fin 2816), x2 (ix2 k f) = wu (ix2 k f))
    (h3 : ∀ (k : Fin 3) (f : Fin 2816), x3 (ix2 k f) = cw (ix2 k f))
    (h4 : ∀ f : Fin 2816, x4 (ix2 0 f) = cb (ix1 f))
    (h5 : ∀ (f : Fin 2816) (d : Fin 1024), x5 (ix2 f d) = wd (ix2 f d))
    (h6 : ∀ d : Fin 1024, x6 (ix2 0 d) = g (ix1 d)) (h7 : ∀ d : Fin 1024, x7 (ix2 0 d) = b (ix1 d))
    (hs : ∀ (j : Fin 8) (f : Fin 2816), 6 ≤ j.val → xs (ix2 j f) = padded h wg q (o + j.val - 6) f)
    (r d : Fin 1024) :
    Rows.out x0 x1 x2 x3 x4 x5 x6 x7 xs r d = out h wg wu cw cb wd g b q ⟨o + r.val, by have := r.isLt; omega⟩ d := by
  have hr := r.isLt
  have hc : ∀ f, Rows.cv x0 x1 x3 x4 xs r f = cv h wg cw cb q ⟨o + r.val, by omega⟩ f := fun f => by
    unfold Rows.cv cv
    rw [ext_of_block ho h0 h1 hs _ (by omega) (by omega), ext_of_block ho h0 h1 hs _ (by omega) (by omega),
      ext_of_block ho h0 h1 hs _ (by omega) (by omega), h3, h3, h3, h4]
    rfl
  have hres : Rows.res x0 x1 x2 x3 x4 x5 xs r = res h wg wu cw cb wd q ⟨o + r.val, by omega⟩ := funext fun d => by
    unfold Rows.res res
    rw [h0]
    refine congrArg _ (Finset.sum_congr rfl fun f _ => ?_)
    unfold Rows.gated
    rw [hc, proj_of_block ho h0 h2, h5]
  unfold Rows.out out
  rw [hres, h6, h7]

end Cert.FfnIdeal.Target
-- ==== Proof.FfnValue.lean ====
/- The two result arrays of the feed-forward call: at every grid point the blocks written are the branch's values (`Target`) at
   that point's rows, and the blocks fill the arrays. -/
module

public import proofs.«01_k».proof.Proof.FfnArrays
public import proofs.«01_k».proof.Proof.FfnPoint
public import proofs.«01_k».proof.Proof.FfnTarget
public import Idealize.ShloMosaic.Lib.Pointwise

@[expose] public section

set_option maxRecDepth 65536

noncomputable section

namespace Cert.FfnIdeal.Value

open Cert.FfnIdeal Cert.FfnIdeal.Gen Cert.FfnIdeal.Mlp
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The arrays the windows read -/

theorem V_v0 : V m c main_v0 = fun i => (m ((c : Thread nD τ).loc main_arg1) : Vec Ideal S1024x2816 .f32) i := by
  show StableHlo.after hostOps0 (fun b => m (c, b)) _ = _
  after_results_simp
  rfl
theorem V_v1 : V m c main_v1 = fun i => (m ((c : Thread nD τ).loc main_arg2) : Vec Ideal S1024x2816 .f32) i := by
  show StableHlo.after hostOps0 (fun b => m (c, b)) _ = _
  after_results_simp
  rfl
theorem V_v2 : V m c main_v2 = fun i => (m ((c : Thread nD τ).loc main_arg5) : Vec Ideal S2816x1024 .f32) i := by
  show StableHlo.after hostOps0 (fun b => m (c, b)) _ = _
  after_results_simp
  rfl
theorem V_v3 (f : Fin 2816) : (V m c main_v3 : Vec Ideal S1x2816 .f32) (ix2 0 f) = (m ((c : Thread nD τ).loc main_arg4) : Vec Ideal S2816 .f32) (ix1 f) := by
  have e : (V m c main_v3 : Vec Ideal S1x2816 .f32) = shapeCast S1x2816 (m ((c : Thread nD τ).loc main_arg4) : Vec Ideal S2816 .f32) shapeCasts_S2816_S1x2816 := by
    show StableHlo.after hostOps0 (fun b => m (c, b)) _ = _
    after_results_simp
    rfl
  rw [e]
  pointwise []
theorem V_v4 (f : Fin 1024) : (V m c main_v4 : Vec Ideal S1x1024 .f32) (ix2 0 f) = (m ((c : Thread nD τ).loc main_arg6) : Vec Ideal S1024 .f32) (ix1 f) := by
  have e : (V m c main_v4 : Vec Ideal S1x1024 .f32) = shapeCast S1x1024 (m ((c : Thread nD τ).loc main_arg6) : Vec Ideal S1024 .f32) shapeCasts_S1024_S1x1024 := by
    show StableHlo.after hostOps0 (fun b => m (c, b)) _ = _
    after_results_simp
    rfl
  rw [e]
  pointwise []
theorem V_v5 (f : Fin 1024) : (V m c main_v5 : Vec Ideal S1x1024 .f32) (ix2 0 f) = (m ((c : Thread nD τ).loc main_arg7) : Vec Ideal S1024 .f32) (ix1 f) := by
  have e : (V m c main_v5 : Vec Ideal S1x1024 .f32) = shapeCast S1x1024 (m ((c : Thread nD τ).loc main_arg7) : Vec Ideal S1024 .f32) shapeCasts_S1024_S1x1024 := by
    show StableHlo.after hostOps0 (fun b => m (c, b)) _ = _
    after_results_simp
    rfl
  rw [e]
  pointwise []

/-! ## The blocks -/

theorem index_rows : ∀ t : Fin cfg0.N, win0_0.index t = ![t.val / 2, t.val % 2, 0] ∧ win0_8.index t = ![t.val / 2, t.val % 2, 0] ∧ win0_9.index t = ![t.val / 2, 0, 0] :=
  (by decide +kernel : ∀ t : Fin grid0.N, _)

theorem index_whole : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

theorem N_eq : cfg0.N = 16 := N_0

variable (t : Fin cfg0.N)

/-- The sequence of a grid point and the first row of its block. -/
abbrev sq : Fin 8 := ⟨t.val / 2, by have := lt_of_lt_of_eq t.isLt N_eq; omega⟩
abbrev row (r : Fin 1024) : Fin 2048 := ⟨t.val % 2 * 1024 + r.val, by have := r.isLt; omega⟩

/-- An index of a block is that of the array, shifted by the block's place. -/
theorem emb_two {a b : ℕ} (e : Fin 2 → ℕ) (he : e = ![0, 0]) (i : Fin a) (j : Fin b) (z : Shape.Idx ⟨2, ![a, b]⟩)
    (h0 : (z 0).val = e 0 * a + 1 * i.val) (h1 : (z 1).val = e 1 * b + 1 * j.val) : z = ix2 i j := by
  subst he
  refine funext fun x => Fin.ext ?_
  fin_cases x
  · refine h0.trans ?_
    show 0 * a + 1 * i.val = i.val
    omega
  · refine h1.trans ?_
    show 0 * b + 1 * j.val = j.val
    omega

theorem blk0 (r k : Fin 1024) : iblk m c 0 t (ix3 0 r k) = (m ((c : Thread nD τ).loc main_arg0) : Vec Ideal S8x2048x1024 .f32) (ix3 (sq t) (row t r) k) := by
  obtain ⟨e, -, -⟩ := index_rows t
  show V m c main_arg0 (((cfg0.win 0).blk t).view.emb (ix3 0 r k)) = _
  rw [V_main_arg0]
  refine congrArg _ (funext fun a => Fin.ext ?_)
  fin_cases a
  · show win0_0.index t 0 * 1 + 1 * 0 = t.val / 2
    rw [e]; show t.val / 2 * 1 + 1 * 0 = t.val / 2; omega
  · show win0_0.index t 1 * 1024 + 1 * r.val = t.val % 2 * 1024 + r.val
    rw [e]; show t.val % 2 * 1024 + 1 * r.val = t.val % 2 * 1024 + r.val; omega
  · show win0_0.index t 2 * 1024 + 1 * k.val = k.val
    rw [e]; show 0 * 1024 + 1 * k.val = k.val; omega

theorem blk1 (k : Fin 1024) (f : Fin 2816) : iblk m c 1 t (ix2 k f) = (m ((c : Thread nD τ).loc main_arg1) : Vec Ideal S1024x2816 .f32) (ix2 k f) := by
  show V m c main_v0 (((cfg0.win 1).blk t).view.emb (ix2 k f)) = _
  rw [V_v0]
  exact congrArg _ (emb_two _ (index_whole t).1 k f _ rfl rfl)
theorem blk2 (k : Fin 1024) (f : Fin 2816) : iblk m c 2 t (ix2 k f) = (m ((c : Thread nD τ).loc main_arg2) : Vec Ideal S1024x2816 .f32) (ix2 k f) := by
  show V m c main_v1 (((cfg0.win 2).blk t).view.emb (ix2 k f)) = _
  rw [V_v1]
  exact congrArg _ (emb_two _ (index_whole t).2.1 k f _ rfl rfl)
theorem blk3 (k : Fin 3) (f : Fin 2816) : iblk m c 3 t (ix2 k f) = (m ((c : Thread nD τ).loc main_arg3) : Vec Ideal S3x2816 .f32) (ix2 k f) := by
  show V m c main_arg3 (((cfg0.win 3).blk t).view.emb (ix2 k f)) = _
  rw [V_main_arg3]
  exact congrArg _ (emb_two _ (index_whole t).2.2.1 k f _ rfl rfl)
theorem blk4 (f : Fin 2816) : iblk m c 4 t (ix2 0 f) = (m ((c : Thread nD τ).loc main_arg4) : Vec Ideal S2816 .f32) (ix1 f) := by
  refine Eq.trans ?_ (V_v3 m c f)
  exact congrArg (V m c main_v3) (emb_two _ (index_whole t).2.2.2.1 0 f _ rfl rfl)
theorem blk5 (f : Fin 2816) (d : Fin 1024) : iblk m c 5 t (ix2 f d) = (m ((c : Thread nD τ).loc main_arg5) : Vec Ideal S2816x1024 .f32) (ix2 f d) := by
  show V m c main_v2 (((cfg0.win 5).blk t).view.emb (ix2 f d)) = _
  rw [V_v2]
  exact congrArg _ (emb_two _ (index_whole t).2.2.2.2.1 f d _ rfl rfl)
theorem blk6 (d : Fin 1024) : iblk m c 6 t (ix2 0 d) = (m ((c : Thread nD τ).loc main_arg6) : Vec Ideal S1024 .f32) (ix1 d) := by
  refine Eq.trans ?_ (V_v4 m c d)
  exact congrArg (V m c main_v4) (emb_two _ (index_whole t).2.2.2.2.2.1 0 d _ rfl rfl)
theorem blk7 (d : Fin 1024) : iblk m c 7 t (ix2 0 d) = (m ((c : Thread nD τ).loc main_arg7) : Vec Ideal S1024 .f32) (ix1 d) := by
  refine Eq.trans ?_ (V_v5 m c d)
  exact congrArg (V m c main_v5) (emb_two _ (index_whole t).2.2.2.2.2.2 0 d _ rfl rfl)

/-! ## The points -/

/-- The layer's result and its carried rows over the argument arrays. -/
abbrev Y (q : Fin 8) (s : Fin 2048) (d : Fin 1024) : EReal :=
  Target.out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) q s d
abbrev L (q : Fin 8) (r : Fin 8) (f : Fin 2816) : EReal :=
  Target.last (m ((c : Thread nD τ).loc main_arg0)) (m ((c : Thread nD τ).loc main_arg1)) q r f
abbrev G (q : Fin 8) (s : Fin 2048) (f : Fin 2816) : EReal :=
  Target.proj (m ((c : Thread nD τ).loc main_arg0)) (m ((c : Thread nD τ).loc main_arg1)) q s f

theorem row_le : t.val % 2 * 1024 + 1024 ≤ 2048 := by omega

/-- The first half of a sequence leaves its last eight gate rows. -/
theorem carry_first (h : t.val % 2 = 0) (r : Fin 8) (f : Fin 2816) :
    (outsAt0 m c t.val t.isLt).2.2 (ix2 r f) = G m c (sq t) ⟨1016 + r.val, by have := r.isLt; omega⟩ f := by
  rw [outsAt0_A m c t h (by omega)]
  dsimp only
  rw [Point.carry_A]
  refine (Target.proj_of_block (row_le t) (blk0 m c t) (blk1 m c t) _ f).trans ?_
  exact congrArg (fun s => G m c (sq t) s f) (Fin.ext (by show t.val % 2 * 1024 + (1016 + r.val) = 1016 + r.val; omega))

theorem block8 (r d : Fin 1024) : (outsAt0 m c t.val t.isLt).1 (ix3 0 r d) = Y m c (sq t) (row t r) d := by
  have hN := lt_of_lt_of_eq t.isLt N_eq
  by_cases h : t.val % 2 = 0
  · rw [outsAt0_A m c t h (by omega)]
    dsimp only
    rw [Point.out_A]
    refine Target.out_of_block (row_le t) (blk0 m c t) (blk1 m c t) (blk2 m c t) (blk3 m c t) (blk4 m c t) (blk5 m c t) (blk6 m c t) (blk7 m c t) ?_ r d
    intro j f hj
    rw [Rows.pay4_at]
    unfold Target.padded
    rw [if_pos (by omega)]
  · rw [outsAt0_B m c t h (by omega)]
    dsimp only
    rw [Point.out_B]
    refine Target.out_of_block (row_le t) (blk0 m c t) (blk1 m c t) (blk2 m c t) (blk3 m c t) (blk4 m c t) (blk5 m c t) (blk6 m c t) (blk7 m c t) ?_ r d
    intro j f hj
    have hj' := j.isLt
    refine (carry_first m c ⟨t.val - 1, by omega⟩ (by show (t.val - 1) % 2 = 0; omega) j f).trans ?_
    unfold Target.padded
    rw [if_neg (by omega), dif_pos (by omega)]
    exact congrArg₂ (fun q s => G m c q s f) (Fin.ext (by show (t.val - 1) / 2 = t.val / 2; omega)) (Fin.ext (by show 1016 + j.val = t.val % 2 * 1024 + j.val - 6 - 2; omega))

theorem block9 (h : t.val % 2 = 1) (r : Fin 8) (f : Fin 2816) : (outsAt0 m c t.val t.isLt).2.1 (ix3 0 r f) = L m c (sq t) r f := by
  rw [outsAt0_B m c t (by omega) h]
  dsimp only
  rw [Point.last_B]
  refine (Target.proj_of_block (row_le t) (blk0 m c t) (blk1 m c t) _ f).trans ?_
  exact congrArg (fun s => G m c (sq t) s f) (Fin.ext (by show t.val % 2 * 1024 + (1016 + r.val) = 2040 + r.val; omega))

/-! ## The arrays -/

def resultY : Vec Ideal S8x2048x1024 .f32 := fun i => Y m c ⟨(i 0).val, (i 0).isLt⟩ ⟨(i 1).val, (i 1).isLt⟩ ⟨(i 2).val, (i 2).isLt⟩
def resultL : Vec Ideal S8x8x2816 .f32 := fun i => L m c ⟨(i 0).val, (i 0).isLt⟩ ⟨(i 1).val, (i 1).isLt⟩ ⟨(i 2).val, (i 2).isLt⟩

theorem mem_blk8 (t : Fin cfg0.N) (i : S8x2048x1024.Idx) :
    i ∈ ((cfg0.win 8).blk t).view.set ↔ ∀ a : Fin 3, win0_8.index t a * S1x1024x1024.size a ≤ (i a).val ∧ (i a).val < win0_8.index t a * S1x1024x1024.size a + S1x1024x1024.size a := by
  show i ∈ ((View.whole main_v6_0).slice (win0_8.rect t)).set ↔ _
  rw [View.set_slice_whole, Rect.mem_set_unit]
  exact Iff.rfl

theorem mem_blk9 (t : Fin cfg0.N) (i : S8x8x2816.Idx) :
    i ∈ ((cfg0.win 9).blk t).view.set ↔ ∀ a : Fin 3, win0_9.index t a * S1x8x2816.size a ≤ (i a).val ∧ (i a).val < win0_9.index t a * S1x8x2816.size a + S1x8x2816.size a := by
  show i ∈ ((View.whole main_v6_1).slice (win0_9.rect t)).set ↔ _
  rw [View.set_slice_whole, Rect.mem_set_unit]
  exact Iff.rfl

theorem final8 : (dats m 0 c).arrAt 8 cfg0.N = resultY m c := by
  refine (dats m 0 c).arrAt_eq_of_cover 8 _ (fun t _ => ?_) (fun i => ?_)
  · obtain ⟨-, e, -⟩ := index_rows t
    show (cfg0.win 8).cut (grid0.coords t) ((dats m 0 c).after 8 t) = _
    rw [after0_8]
    funext y
    have b0 : (y 0).val < 1 := (y 0).isLt
    have b1 : (y 1).val < 1024 := (y 1).isLt
    have b2 : (y 2).val < 1024 := (y 2).isLt
    have ey : (cfg0.win 8).xinj (grid0.coords t) y = ix3 0 ⟨(y 1).val, b1⟩ ⟨(y 2).val, b2⟩ := funext fun a => Fin.ext (by
      fin_cases a
      · show (y 0).val = 0
        omega
      · rfl
      · rfl)
    show (outsAt0 m c t.val t.isLt).1 ((cfg0.win 8).xinj (grid0.coords t) y) = _
    refine (congrArg (outsAt0 m c t.val t.isLt).1 ey).trans ((block8 m c t ⟨(y 1).val, b1⟩ ⟨(y 2).val, b2⟩).trans ?_)
    have pos : ∀ {q q' : Fin 8} {s s' : Fin 2048} {d d' : Fin 1024}, q.val = q'.val → s.val = s'.val → d.val = d'.val → Y m c q s d = Y m c q' s' d' := by
      intro q q' s s' d d' h1 h2 h3
      rw [Fin.ext h1, Fin.ext h2, Fin.ext h3]
    refine pos ?_ ?_ ?_
    · show t.val / 2 = win0_8.index t 0 * 1 + 1 * (y 0).val
      rw [e]; show t.val / 2 = t.val / 2 * 1 + 1 * (y 0).val; omega
    · show t.val % 2 * 1024 + (y 1).val = win0_8.index t 1 * 1024 + 1 * (y 1).val
      rw [e]; show t.val % 2 * 1024 + (y 1).val = t.val % 2 * 1024 + 1 * (y 1).val; omega
    · show (y 2).val = win0_8.index t 2 * 1024 + 1 * (y 2).val
      rw [e]; show (y 2).val = 0 * 1024 + 1 * (y 2).val; omega
  · have b0 : (i 0).val < 8 := (i 0).isLt
    have b1 : (i 1).val < 2048 := (i 1).isLt
    have b2 : (i 2).val < 1024 := (i 2).isLt
    refine ⟨⟨2 * (i 0).val + (i 1).val / 1024, lt_of_lt_of_eq (by omega) N_eq.symm⟩, flush0_8 _, ?_⟩
    obtain ⟨-, e, -⟩ := index_rows ⟨2 * (i 0).val + (i 1).val / 1024, lt_of_lt_of_eq (by omega) N_eq.symm⟩
    rw [mem_blk8]
    rw [e]
    refine Fin.forall_fin_succ.2 ⟨?_, Fin.forall_fin_two.2 ⟨?_, ?_⟩⟩
    · show (2 * (i 0).val + (i 1).val / 1024) / 2 * 1 ≤ (i 0).val ∧ (i 0).val < (2 * (i 0).val + (i 1).val / 1024) / 2 * 1 + 1
      omega
    · show (2 * (i 0).val + (i 1).val / 1024) % 2 * 1024 ≤ (i 1).val ∧ (i 1).val < (2 * (i 0).val + (i 1).val / 1024) % 2 * 1024 + 1024
      omega
    · show 0 * 1024 ≤ (i 2).val ∧ (i 2).val < 0 * 1024 + 1024
      omega

theorem final9 : (dats m 0 c).arrAt 9 cfg0.N = resultL m c := by
  refine (dats m 0 c).arrAt_eq_of_cover 9 _ (fun t hf => ?_) (fun i => ?_)
  · obtain ⟨-, -, e⟩ := index_rows t
    show (cfg0.win 9).cut (grid0.coords t) ((dats m 0 c).after 9 t) = _
    rw [after0_9]
    funext y
    have b0 : (y 0).val < 1 := (y 0).isLt
    have b1 : (y 1).val < 8 := (y 1).isLt
    have b2 : (y 2).val < 2816 := (y 2).isLt
    have ey : (cfg0.win 9).xinj (grid0.coords t) y = ix3 0 ⟨(y 1).val, b1⟩ ⟨(y 2).val, b2⟩ := funext fun a => Fin.ext (by
      fin_cases a
      · show (y 0).val = 0
        omega
      · rfl
      · rfl)
    show (outsAt0 m c t.val t.isLt).2.1 ((cfg0.win 9).xinj (grid0.coords t) y) = _
    refine (congrArg (outsAt0 m c t.val t.isLt).2.1 ey).trans ((block9 m c t ((flush0_9 t).mp hf) ⟨(y 1).val, b1⟩ ⟨(y 2).val, b2⟩).trans ?_)
    show _ = L m c _ _ _
    congr 1 <;> apply Fin.ext
    · show t.val / 2 = win0_9.index t 0 * 1 + 1 * (y 0).val
      rw [e]; show t.val / 2 = t.val / 2 * 1 + 1 * (y 0).val; omega
    · show (y 1).val = win0_9.index t 1 * 8 + 1 * (y 1).val
      rw [e]; show (y 1).val = 0 * 8 + 1 * (y 1).val; omega
    · show (y 2).val = win0_9.index t 2 * 2816 + 1 * (y 2).val
      rw [e]; show (y 2).val = 0 * 2816 + 1 * (y 2).val; omega
  · have b0 : (i 0).val < 8 := (i 0).isLt
    have b1 : (i 1).val < 8 := (i 1).isLt
    have b2 : (i 2).val < 2816 := (i 2).isLt
    refine ⟨⟨2 * (i 0).val + 1, lt_of_lt_of_eq (by omega) N_eq.symm⟩, (flush0_9 _).mpr (by show (2 * (i 0).val + 1) % 2 = 1; omega), ?_⟩
    obtain ⟨-, -, e⟩ := index_rows ⟨2 * (i 0).val + 1, lt_of_lt_of_eq (by omega) N_eq.symm⟩
    rw [mem_blk9]
    rw [e]
    refine Fin.forall_fin_succ.2 ⟨?_, Fin.forall_fin_two.2 ⟨?_, ?_⟩⟩
    · show (2 * (i 0).val + 1) / 2 * 1 ≤ (i 0).val ∧ (i 0).val < (2 * (i 0).val + 1) / 2 * 1 + 1
      omega
    · show 0 * 8 ≤ (i 1).val ∧ (i 1).val < 0 * 8 + 8
      omega
    · show 0 * 2816 ≤ (i 2).val ∧ (i 2).val < 0 * 2816 + 2816
      omega

end Cert.FfnIdeal.Value
-- ==== Proof.FfnReferenceRows.lean ====
/- The reference of the feed-forward branch, entry by entry: the composed array operations read as the branch's formula
   (`Target`), and the equality of the call's results with them. -/
module

public import proofs.«01_k».proof.Proof.Gen.FfnReferenceIdeal.Run
public import proofs.«01_k».proof.Proof.FfnValue
public import proofs.«01_k».proof.Defs

@[expose] public section

set_option maxRecDepth 65536

noncomputable section

namespace Cert.FfnReferenceIdeal.Rows

open Cert.FfnReferenceIdeal Cert.FfnReferenceIdeal.Gen Cert.FfnReferenceIdeal.Value Cert.RowMath Cert.FfnIdeal
open Idealize.ShloMosaic Idealize.ShloMosaic.TcCoe Idealize.SL.Sem
open Cert.FfnReferenceIdeal.Facts

section
variable (h : Vec Ideal S8x2048x1024 .f32) (wg : Vec Ideal S1024x2816 .f32) (q : Fin 8) (s : Fin 2048) (f : Fin 2816)

theorem padded_zero : Target.padded h wg q s.val f
    = if e : s.val < 2 then 0 else ∑ k : Fin 1024, h (ix3 q ⟨s.val - 2, by have := s.isLt; omega⟩ k) * wg (ix2 k f) := by
  have := s.isLt
  unfold Target.padded
  by_cases e : s.val < 2
  · rw [if_pos e, dif_pos e]
  · rw [if_neg e, dif_neg e, dif_pos (by omega)]
    rfl

theorem padded_one : Target.padded h wg q (s.val + 1) f
    = if e : 1 + s.val < 2 then 0 else ∑ k : Fin 1024, h (ix3 q ⟨1 + s.val - 2, by have := s.isLt; omega⟩ k) * wg (ix2 k f) := by
  have := s.isLt
  rw [Nat.add_comm]
  unfold Target.padded
  by_cases e : 1 + s.val < 2
  · rw [if_pos e, dif_pos e]
  · rw [if_neg e, dif_neg e, dif_pos (by omega)]
    rfl

theorem padded_two : Target.padded h wg q (s.val + 2) f = ∑ k : Fin 1024, h (ix3 q s k) * wg (ix2 k f) := by
  unfold Target.padded
  rw [if_neg (by omega), dif_pos (by have := s.isLt; omega)]
  rfl
end

variable (m : (ℓ : Loc nD τ sig) → Buf (Elt Ideal) ℓ) (c : Dev nD)

set_option maxHeartbeats 1000000 in
theorem result_at (q : Fin 8) (s : Fin 2048) (d : Fin 1024) : (res_main_v62 m c : Vec Ideal S8x2048x1024 .f32) (ix3 q s d)
    = Target.out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) q s d := by
  unfold res_main_v62
  pointwise []
  simp only [neg_mul, Ideal.erfc_neg, Target.out, normRow, mean, Target.res, gelu, Target.cv, conv, padded_zero, padded_one, padded_two, Target.proj]

theorem last_at (q r : Fin 8) (f : Fin 2816) :
    (extractStridedSlice S8x8x2816 ![0, 2042, 0] (concatenate S8x2050x2816 1 [⟨S8x2x2816, (broadcastInDim S8x2x2816 ![] bcast_S_S8x2x2816 (constant (F := Ideal) S_ .f32 0x00000000#32))⟩, ⟨S8x2048x2816, (Host.dotGeneral (F := Ideal) (φ₁ := .f32) (φ₂ := .f32) dot_S8x2048x1024_S1024x2816_S8x2048x2816_2_0_01_1_n_n none (m ((c.tc : Thread nD τ).loc main_arg0)) (m ((c.tc : Thread nD τ).loc main_arg1)))⟩] concatenates_S8x2x2816_S8x2048x2816_S8x2050x2816_d1) slices_S8x2050x2816_S8x8x2816_0_2042_0 : Vec Ideal S8x8x2816 .f32) (ix3 q r f)
      = Target.last (m ((c.tc : Thread nD τ).loc main_arg0)) (m ((c.tc : Thread nD τ).loc main_arg1)) q r f := by
  pointwise []
  unfold Target.last Target.proj
  have hr := r.isLt
  rw [dif_neg (by omega)]
  simp only [show 2042 + r.val - 2 = 2040 + r.val by omega]

/-- The call and its reference, run over equal arguments, leave the same two arrays. -/
theorem algebraic : Cert.algebraic_FfnIdeal_FfnReferenceIdeal := by
  intro m g m' g' _ hm
  refine ⟨fun c => Value.resultY m c, fun c => Value.resultL m c, ?_, ?_⟩
  · exact (θ_run Cert.FfnIdeal.defs _ _).mono (fun r h c => ⟨(h c).1.trans (Value.final8 m c), (h c).2.1.trans (Value.final9 m c), (h c).2.2⟩) (Arrays.run_blocks m g)
  · refine (θ_run Cert.FfnReferenceIdeal.defs _ _).mono (fun r h c => ⟨(h c).1.trans ?_, (h c).2.1.trans ?_, (h c).2.2⟩) (FfnReferenceIdeal.Value.run m' g')
    · funext i
      obtain ⟨e0, e1, e2, e3, e4, e5, e6, e7⟩ := hm c
      obtain ⟨q, s, d, rfl⟩ : ∃ (q : Fin 8) (s : Fin 2048) (d : Fin 1024), i = ix3 q s d :=
        ⟨⟨(i 0).val, (i 0).isLt⟩, ⟨(i 1).val, (i 1).isLt⟩, ⟨(i 2).val, (i 2).isLt⟩, funext fun a => Fin.ext (by fin_cases a <;> rfl)⟩
      refine (result_at m' c q s d).trans ?_
      rw [e0, e1, e2, e3, e4, e5, e6, e7]
      rfl
    · funext i
      obtain ⟨e0, e1, -⟩ := hm c
      obtain ⟨q, s, d, rfl⟩ : ∃ (q : Fin 8) (s : Fin 8) (d : Fin 2816), i = ix3 q s d :=
        ⟨⟨(i 0).val, (i 0).isLt⟩, ⟨(i 1).val, (i 1).isLt⟩, ⟨(i 2).val, (i 2).isLt⟩, funext fun a => Fin.ext (by fin_cases a <;> rfl)⟩
      refine (last_at m' c q s d).trans ?_
      rw [e0, e1]
      rfl

end Cert.FfnReferenceIdeal.Rows
-- ==== Proof.MemkvValue.lean ====
/- The memory projection: at every grid point the two blocks written are the products of that point's two sequences with the
   two weights, feature-major, and the blocks fill the two result arrays. -/
module

public import proofs.«01_k».proof.Proof.Gen.MemkvIdeal.Frame
public import proofs.«01_k».proof.Proof.Pieces
public import Idealize.ShloMosaic.Lib.Pointwise

@[expose] public section

set_option maxRecDepth 65536

noncomputable section

namespace Cert.MemkvIdeal.Value

open Cert.MemkvIdeal Cert.MemkvIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The memory tokens and the two weights. -/
abbrev M : S8x256x1024.Idx → EReal := m ((c : Thread nD τ).loc main_arg0)
@[inherit_doc M] abbrev K : S1024x256.Idx → EReal := m ((c : Thread nD τ).loc main_arg1)
@[inherit_doc M] abbrev U : S1024x256.Idx → EReal := m ((c : Thread nD τ).loc main_arg2)

/-! ## The blocks read -/

theorem V_v26 : (V m c main_v26 : Vec Ideal S2048x1024 .f32) = shapeCast S2048x1024 (M m c) shapeCasts_S8x256x1024_S2048x1024 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append,
    StableHlo.TRef.ternary, StableHlo.TRef.unary, StableHlo.TRef.toBuf, StableHlo.TRef.ofBuf, cast_eq]
  after_results_simp
  rfl

theorem rows_at (q : Fin 8) (r : Fin 256) (k : Fin 1024) :
    (shapeCast S2048x1024 (M m c) shapeCasts_S8x256x1024_S2048x1024 : Vec Ideal S2048x1024 .f32) (ix2 ⟨256 * q.val + r.val, by omega⟩ k) = M m c (ix3 q r k) := by
  pointwise []

theorem index_rows : ∀ t : Fin cfg0.N, win0_0.index t = ![t.val, 0] ∧ win0_10.index t = ![t.val, 0, 0] ∧ win0_11.index t = ![t.val, 0, 0] :=
  (by decide +kernel : ∀ t : Fin grid0.N, _)

theorem index_whole : ∀ t : Fin cfg0.N, win0_1.index t = ![0, 0] ∧ win0_2.index t = ![0, 0] :=
  (by decide +kernel : ∀ t : Fin grid0.N, _)

theorem N_eq : cfg0.N = 4 := N_0

variable (t : Fin cfg0.N)

/-- Sequence `s` of the two of a grid point. -/
abbrev sq (s : Fin 2) : Fin 8 := ⟨2 * t.val + s.val, by have := lt_of_lt_of_eq t.isLt N_eq; omega⟩

theorem blk0 (s : Fin 2) (r : Fin 256) (k : Fin 1024) : iblk m c 0 t (ix2 ⟨256 * s.val + r.val, by omega⟩ k) = M m c (ix3 (sq t s) r k) := by
  obtain ⟨e, -, -⟩ := index_rows t
  refine Eq.trans ?_ (rows_at m c (sq t s) r k)
  rw [← V_v26]
  show V m c main_v26 (((cfg0.win 0).blk t).view.emb (ix2 ⟨256 * s.val + r.val, by omega⟩ k)) = _
  refine congrArg (V m c main_v26) (funext fun a => Fin.ext ?_)
  fin_cases a
  · show win0_0.index t 0 * 512 + 1 * (256 * s.val + r.val) = 256 * (2 * t.val + s.val) + r.val
    rw [e]; show t.val * 512 + 1 * (256 * s.val + r.val) = 256 * (2 * t.val + s.val) + r.val; omega
  · show win0_0.index t 1 * 1024 + 1 * k.val = k.val
    rw [e]; show 0 * 1024 + 1 * k.val = k.val; omega

theorem emb_two {a b : ℕ} (e : Fin 2 → ℕ) (he : e = ![0, 0]) (i : Fin a) (j : Fin b) (z : Shape.Idx ⟨2, ![a, b]⟩)
    (h0 : (z 0).val = e 0 * a + 1 * i.val) (h1 : (z 1).val = e 1 * b + 1 * j.val) : z = ix2 i j := by
  subst he
  refine funext fun x => Fin.ext ?_
  fin_cases x
  · exact h0.trans (show 0 * a + 1 * i.val = i.val by omega)
  · exact h1.trans (show 0 * b + 1 * j.val = j.val by omega)

theorem blk1 (k : Fin 1024) (f : Fin 256) : iblk m c 1 t (ix2 k f) = K m c (ix2 k f) := by
  show V m c main_arg1 (((cfg0.win 1).blk t).view.emb (ix2 k f)) = _
  rw [V_main_arg1]
  exact congrArg _ (emb_two _ (index_whole t).1 k f _ rfl rfl)

theorem blk2 (k : Fin 1024) (f : Fin 256) : iblk m c 2 t (ix2 k f) = U m c (ix2 k f) := by
  show V m c main_arg2 (((cfg0.win 2).blk t).view.emb (ix2 k f)) = _
  rw [V_main_arg2]
  exact congrArg _ (emb_two _ (index_whole t).2 k f _ rfl rfl)

/-! ## The products -/

section
variable (v : Vec Ideal S256x1024 .f32) (w : Vec Ideal S1024x256 .f32) (f r : Fin 256)

theorem pay8_at : k0_pay8 v w (ix3 0 f r) = ∑ k : Fin 1024, w (ix2 k f) * v (ix2 r k) := by
  pointwise [k0_pay8, k0_pay7]
theorem pay9_at : k0_pay9 v w (ix3 0 f r) = ∑ k : Fin 1024, w (ix2 k f) * v (ix2 r k) := by
  pointwise [k0_pay9, k0_pay7]
theorem pay11_at : k0_pay11 v w (ix3 0 f r) = ∑ k : Fin 1024, w (ix2 k f) * v (ix2 r k) := by
  pointwise [k0_pay11, k0_pay10]
theorem pay12_at : k0_pay1 (k0_pay12 v w) (ix3 0 f r) = ∑ k : Fin 1024, w (ix2 k f) * v (ix2 r k) := by
  pointwise [k0_pay1, k0_pay12, k0_pay10]
end

/-- A store of one sequence's block, read back. -/
theorem read_slot (v : View sig .tc .vmem S2x256x256 .f32) (f : v.ty.Contents (Elt Ideal)) (o : ℕ)
    (ho : ∀ a, ![o, 0, 0] a + S1x256x256.size a ≤ S2x256x256.size a) (w : Vec Ideal S1x256x256 .f32) (P : List (View.Piece (Elt Ideal) S2x256x256 .f32))
    (s : Fin 2) (d e : Fin 256) :
    v.read (Elt Ideal) (v.writes (Elt Ideal) f ((⟨Rect.unit (s := S2x256x256) ![o, 0, 0] S1x256x256.size ho, w⟩ : View.Piece (Elt Ideal) S2x256x256 .f32) :: P)) (ix3 s d e)
      = if s.val = o then w (ix3 0 d e) else v.read (Elt Ideal) (v.writes (Elt Ideal) f P) (ix3 s d e) := by
  by_cases hh : s.val = o
  · rw [if_pos hh]
    have hx : (Rect.unit (s := S2x256x256) ![o, 0, 0] S1x256x256.size ho).emb (ix3 0 d e) = ix3 s d e := funext fun a => Fin.ext (by
      fin_cases a
      · exact (show o + 1 * 0 = s.val by omega)
      · exact (show 0 + 1 * d.val = d.val by omega)
      · exact (show 0 + 1 * e.val = e.val by omega))
    exact (congrArg _ hx.symm).trans (View.read_writes_cons_emb v _ (Rect.unit (s := S2x256x256) ![o, 0, 0] S1x256x256.size ho) w P _)
  · rw [if_neg hh, View.writes_cons, View.read_slice_write_of_not_mem _ _ _ _ (by
      rw [Rect.map_emb_univ, Rect.mem_set_unit]
      intro hm
      have h0 := hm 0
      have h1 : o ≤ s.val ∧ s.val < o + 1 := h0
      omega)]

/-- The rows of one sequence in the block of memory tokens, and a whole weight, as a point loads them. -/
abbrev ldM (o : ℕ) (h : ∀ a, ![o, 0] a + S256x1024.size a ≤ S512x1024.size a) : Vec Ideal S256x1024 .f32 :=
  View.readAt (Elt Ideal) (ms0_0 t).view (Rect.unit (s := S512x1024) ![o, 0] S256x1024.size h).toLoadRect ((hs0_0 t).unread (iblk m c 0 t))
@[inherit_doc ldM] abbrev ldK : Vec Ideal S1024x256 .f32 :=
  View.readAt (Elt Ideal) (ms0_1 t).view (Rect.unit (s := S1024x256) ![0, 0] S1024x256.size inb_S1024x256_S1024x256_0_0).toLoadRect ((hs0_1 t).unread (iblk m c 1 t))
@[inherit_doc ldM] abbrev ldU : Vec Ideal S1024x256 .f32 :=
  View.readAt (Elt Ideal) (ms0_2 t).view (Rect.unit (s := S1024x256) ![0, 0] S1024x256.size inb_S1024x256_S1024x256_0_0).toLoadRect ((hs0_2 t).unread (iblk m c 2 t))

theorem out10 : (outsAt0 m c t).1 = VO0_10.read (Elt Ideal) (VO0_10.writes (Elt Ideal) VO0_10.junk
    [⟨Rect.unit ![1, 0, 0] S1x256x256.size inb_S2x256x256_S1x256x256_1_0_0, k0_pay11 (ldM m c t 256 inb_S512x1024_S256x1024_256_0) (ldK m c t)⟩,
     ⟨Rect.unit ![0, 0, 0] S1x256x256.size inb_S2x256x256_S1x256x256_0_0_0, k0_pay8 (ldM m c t 0 inb_S512x1024_S256x1024_0_0) (ldK m c t)⟩]) := by
  sl_kernel_rfl

theorem out11 : (outsAt0 m c t).2.1 = VO0_11.read (Elt Ideal) (VO0_11.writes (Elt Ideal) VO0_11.junk
    [⟨Rect.unit ![1, 0, 0] S1x256x256.size inb_S2x256x256_S1x256x256_1_0_0, k0_pay1 (k0_pay12 (ldM m c t 256 inb_S512x1024_S256x1024_256_0) (ldU m c t))⟩,
     ⟨Rect.unit ![0, 0, 0] S1x256x256.size inb_S2x256x256_S1x256x256_0_0_0, k0_pay9 (ldM m c t 0 inb_S512x1024_S256x1024_0_0) (ldU m c t)⟩]) := by
  sl_kernel_rfl

theorem ldM_at (s : Fin 2) (h : ∀ a, ![256 * s.val, 0] a + S256x1024.size a ≤ S512x1024.size a) (r : Fin 256) (k : Fin 1024) :
    ldM m c t (256 * s.val) h (ix2 r k) = M m c (ix3 (sq t s) r k) := by
  refine ((hs0_0 t).readAt_unread _ _ _).trans (Eq.trans (congrArg (iblk m c 0 t) (funext fun a => Fin.ext ?_)) (blk0 m c t s r k))
  fin_cases a
  · exact (show 256 * s.val + 1 * r.val = 256 * s.val + r.val by omega)
  · exact (show 0 + 1 * k.val = k.val by omega)

theorem ldK_at (k : Fin 1024) (f : Fin 256) : ldK m c t (ix2 k f) = K m c (ix2 k f) :=
  (congrFun (Cert.Pieces.load_whole (hs0_1 t) (iblk m c 1 t) inb_S1024x256_S1024x256_0_0) (ix2 k f)).trans (blk1 m c t k f)

theorem ldU_at (k : Fin 1024) (f : Fin 256) : ldU m c t (ix2 k f) = U m c (ix2 k f) :=
  (congrFun (Cert.Pieces.load_whole (hs0_2 t) (iblk m c 2 t) inb_S1024x256_S1024x256_0_0) (ix2 k f)).trans (blk2 m c t k f)

/-- A projected memory token, feature first: feature `f` of token `r` of sequence `q`. -/
def projected (X : S8x256x1024.Idx → EReal) (W : S1024x256.Idx → EReal) (q : Fin 8) (f r : Fin 256) : EReal :=
  ∑ k : Fin 1024, X (ix3 q r k) * W (ix2 k f)

theorem product {v : Vec Ideal S256x1024 .f32} {w : Vec Ideal S1024x256 .f32} {X : S8x256x1024.Idx → EReal} {W : S1024x256.Idx → EReal} {q : Fin 8}
    (hv : ∀ r k, v (ix2 r k) = X (ix3 q r k)) (hw : ∀ k f, w (ix2 k f) = W (ix2 k f)) (f r : Fin 256) :
    (∑ k : Fin 1024, w (ix2 k f) * v (ix2 r k) : EReal) = projected X W q f r :=
  Finset.sum_congr rfl fun k _ => (congrArg₂ (· * ·) (hw k f) (hv r k)).trans (mul_comm _ _)

theorem block10 (s : Fin 2) (f r : Fin 256) : (outsAt0 m c t).1 (ix3 s f r) = projected (M m c) (K m c) (sq t s) f r := by
  rw [out10, read_slot, read_slot, pay11_at, pay8_at]
  obtain rfl | rfl : s = 0 ∨ s = 1 := by omega
  · rw [if_neg (by decide), if_pos (by decide)]
    exact product (ldM_at m c t 0 inb_S512x1024_S256x1024_0_0) (ldK_at m c t) f r
  · rw [if_pos (by decide)]
    exact product (ldM_at m c t 1 inb_S512x1024_S256x1024_256_0) (ldK_at m c t) f r

theorem block11 (s : Fin 2) (f r : Fin 256) : (outsAt0 m c t).2.1 (ix3 s f r) = projected (M m c) (U m c) (sq t s) f r := by
  rw [out11, read_slot, read_slot, pay12_at, pay9_at]
  obtain rfl | rfl : s = 0 ∨ s = 1 := by omega
  · rw [if_neg (by decide), if_pos (by decide)]
    exact product (ldM_at m c t 0 inb_S512x1024_S256x1024_0_0) (ldU_at m c t) f r
  · rw [if_pos (by decide)]
    exact product (ldM_at m c t 1 inb_S512x1024_S256x1024_256_0) (ldU_at m c t) f r

/-! ## The arrays -/

/-- All the projected tokens. -/
def result (X : S8x256x1024.Idx → EReal) (W : S1024x256.Idx → EReal) : Vec Ideal S8x256x256 .f32 := fun i =>
  projected X W ⟨(i 0).val, (i 0).isLt⟩ ⟨(i 1).val, (i 1).isLt⟩ ⟨(i 2).val, (i 2).isLt⟩

theorem mem_blk10 (t : Fin cfg0.N) (i : S8x256x256.Idx) :
    i ∈ ((cfg0.win 10).blk t).view.set ↔ ∀ a : Fin 3, win0_10.index t a * S2x256x256.size a ≤ (i a).val ∧ (i a).val < win0_10.index t a * S2x256x256.size a + S2x256x256.size a := by
  show i ∈ ((View.whole main_v30_0).slice (win0_10.rect t)).set ↔ _
  rw [View.set_slice_whole, Rect.mem_set_unit]
  exact Iff.rfl

theorem mem_blk11 (t : Fin cfg0.N) (i : S8x256x256.Idx) :
    i ∈ ((cfg0.win 11).blk t).view.set ↔ ∀ a : Fin 3, win0_11.index t a * S2x256x256.size a ≤ (i a).val ∧ (i a).val < win0_11.index t a * S2x256x256.size a + S2x256x256.size a := by
  show i ∈ ((View.whole main_v30_1).slice (win0_11.rect t)).set ↔ _
  rw [View.set_slice_whole, Rect.mem_set_unit]
  exact Iff.rfl

/-- The block that holds an index of the arrays. -/
theorem in_block (i : S8x256x256.Idx) (e : Fin 3 → ℕ) (he : e = ![(i 0).val / 2, 0, 0]) (a : Fin 3) :
    e a * S2x256x256.size a ≤ (i a).val ∧ (i a).val < e a * S2x256x256.size a + S2x256x256.size a := by
  have b1 : (i 1).val < 256 := (i 1).isLt
  have b2 : (i 2).val < 256 := (i 2).isLt
  subst he
  fin_cases a
  · show (i 0).val / 2 * 2 ≤ (i 0).val ∧ (i 0).val < (i 0).val / 2 * 2 + 2
    omega
  · show 0 * 256 ≤ (i 1).val ∧ (i 1).val < 0 * 256 + 256
    omega
  · show 0 * 256 ≤ (i 2).val ∧ (i 2).val < 0 * 256 + 256
    omega

theorem place (X : S8x256x1024.Idx → EReal) (W : S1024x256.Idx → EReal) (e : Fin 3 → ℕ) (he : e = ![t.val, 0, 0]) (s : Fin 2) (f r : Fin 256) (z : S8x256x256.Idx)
    (h0 : (z 0).val = e 0 * 2 + 1 * s.val) (h1 : (z 1).val = e 1 * 256 + 1 * f.val) (h2 : (z 2).val = e 2 * 256 + 1 * r.val) :
    projected X W (sq t s) f r = result X W z := by
  subst he
  show _ = projected X W _ _ _
  congr 1 <;> apply Fin.ext
  · exact (show 2 * t.val + s.val = t.val * 2 + 1 * s.val by omega).trans h0.symm
  · exact (show f.val = 0 * 256 + 1 * f.val by omega).trans h1.symm
  · exact (show r.val = 0 * 256 + 1 * r.val by omega).trans h2.symm

theorem final10 : (dats m 0 c).arrAt 10 cfg0.N = result (M m c) (K m c) := by
  refine (dats m 0 c).arrAt_eq_of_cover 10 _ (fun t _ => ?_) (fun i => ?_)
  · show (cfg0.win 10).cut (grid0.coords t) ((dats m 0 c).after 10 t) = _
    rw [after0_10]
    funext y
    have b0 : (y 0).val < 2 := (y 0).isLt
    have b1 : (y 1).val < 256 := (y 1).isLt
    have b2 : (y 2).val < 256 := (y 2).isLt
    have ey : (cfg0.win 10).xinj (grid0.coords t) y = ix3 ⟨(y 0).val, b0⟩ ⟨(y 1).val, b1⟩ ⟨(y 2).val, b2⟩ := funext fun a => Fin.ext (by fin_cases a <;> rfl)
    show (outsAt0 m c t).1 ((cfg0.win 10).xinj (grid0.coords t) y) = _
    refine (congrArg (outsAt0 m c t).1 ey).trans ((block10 m c t ⟨(y 0).val, b0⟩ ⟨(y 1).val, b1⟩ ⟨(y 2).val, b2⟩).trans ?_)
    exact place t _ _ _ (index_rows t).2.1 _ _ _ _ rfl rfl rfl
  · have b0 : (i 0).val < 8 := (i 0).isLt
    refine ⟨⟨(i 0).val / 2, lt_of_lt_of_eq (by omega) N_eq.symm⟩, flush0_10 _, ?_⟩
    rw [mem_blk10]
    exact in_block i _ (index_rows ⟨(i 0).val / 2, lt_of_lt_of_eq (by omega) N_eq.symm⟩).2.1

theorem final11 : (dats m 0 c).arrAt 11 cfg0.N = result (M m c) (U m c) := by
  refine (dats m 0 c).arrAt_eq_of_cover 11 _ (fun t _ => ?_) (fun i => ?_)
  · show (cfg0.win 11).cut (grid0.coords t) ((dats m 0 c).after 11 t) = _
    rw [after0_11]
    funext y
    have b0 : (y 0).val < 2 := (y 0).isLt
    have b1 : (y 1).val < 256 := (y 1).isLt
    have b2 : (y 2).val < 256 := (y 2).isLt
    have ey : (cfg0.win 11).xinj (grid0.coords t) y = ix3 ⟨(y 0).val, b0⟩ ⟨(y 1).val, b1⟩ ⟨(y 2).val, b2⟩ := funext fun a => Fin.ext (by fin_cases a <;> rfl)
    show (outsAt0 m c t).2.1 ((cfg0.win 11).xinj (grid0.coords t) y) = _
    refine (congrArg (outsAt0 m c t).2.1 ey).trans ((block11 m c t ⟨(y 0).val, b0⟩ ⟨(y 1).val, b1⟩ ⟨(y 2).val, b2⟩).trans ?_)
    exact place t _ _ _ (index_rows t).2.2 _ _ _ _ rfl rfl rfl
  · have b0 : (i 0).val < 8 := (i 0).isLt
    refine ⟨⟨(i 0).val / 2, lt_of_lt_of_eq (by omega) N_eq.symm⟩, flush0_11 _, ?_⟩
    rw [mem_blk11]
    exact in_block i _ (index_rows ⟨(i 0).val / 2, lt_of_lt_of_eq (by omega) N_eq.symm⟩).2.2

end Cert.MemkvIdeal.Value
-- ==== Proof.MemkvAlgebraic.lean ====
/- The memory projection's results are those of its reference. -/
module

public import proofs.«01_k».proof.Proof.Gen.MemkvReferenceIdeal.Run
public import proofs.«01_k».proof.Proof.MemkvValue
public import proofs.«01_k».proof.Defs

@[expose] public section

set_option maxRecDepth 65536

noncomputable section

namespace Cert.MemkvIdeal.Value

open Cert.MemkvIdeal Cert.MemkvIdeal.Gen
open Idealize.ShloMosaic Idealize.ShloMosaic.TcCoe Idealize.SL.Sem

/-- The reference's product, transposed, is the projected tokens. -/
theorem reference_at (X : Vec Ideal S8x256x1024 .f32) (W : Vec Ideal S1024x256 .f32) :
    (transpose Cert.MemkvReferenceIdeal.S8x256x256 [0, 2, 1]
      (Host.dotGeneral (F := Ideal) (φ₁ := .f32) (φ₂ := .f32) Cert.MemkvReferenceIdeal.dot_S8x256x1024_S1024x256_S8x256x256_2_0_01_1_n_n none X W)
      Cert.MemkvReferenceIdeal.Gen.transposes_S8x256x256_S8x256x256_0_2_1 : Vec Ideal S8x256x256 .f32) = result X W := by
  funext i
  obtain ⟨q, f, r, rfl⟩ : ∃ (q : Fin 8) (f : Fin 256) (r : Fin 256), i = ix3 q f r :=
    ⟨⟨(i 0).val, (i 0).isLt⟩, ⟨(i 1).val, (i 1).isLt⟩, ⟨(i 2).val, (i 2).isLt⟩, funext fun a => Fin.ext (by fin_cases a <;> rfl)⟩
  refine Eq.trans ?_ (show projected X W q f r = _ from rfl)
  unfold projected
  pointwise []

/-- The call and its reference, run over equal arguments, leave the same two arrays. -/
theorem algebraic : Cert.algebraic_MemkvIdeal_MemkvReferenceIdeal := by
  intro m g m' g' _ hm
  refine ⟨fun c => result (M m c) (K m c), fun c => result (M m c) (U m c), ?_, ?_⟩
  · refine (θ_run Cert.MemkvIdeal.defs _ _).mono (fun r h c => ⟨?_, ?_, h.2 c⟩) (θ_run_and (run_main m g) (unchanged m g))
    · exact ((h.1 c).1 10).trans (final10 m c)
    · exact ((h.1 c).1 11).trans (final11 m c)
  · refine (θ_run Cert.MemkvReferenceIdeal.defs _ _).mono (fun r h c => ⟨(h c).1.trans ?_, (h c).2.1.trans ?_, (h c).2.2⟩) (Cert.MemkvReferenceIdeal.Value.run m' g')
    · obtain ⟨e0, e1, -⟩ := hm c
      rw [e0, e1]
      exact reference_at _ _
    · obtain ⟨e0, -, e2, -⟩ := hm c
      rw [e0, e2]
      exact reference_at _ _

end Cert.MemkvIdeal.Value
-- ==== Proof.SampleRows.lean ====
/- What the one grid point of the sampled tokens' feed-forward call computes, entry by entry over the extended reals. Row
   `128 * t + b` of the point's tokens is token `t` of sequence `b`; the two rows before the first token are the buffer's. -/
module

public import proofs.«01_k».proof.Proof.Gen.FfnSampleIdeal.Frame
public import proofs.«01_k».proof.Proof.RowMath

@[expose] public section

set_option maxRecDepth 65536

noncomputable section

namespace Cert.FfnSampleIdeal.Rows

open Cert.FfnSampleIdeal Cert.FfnSampleIdeal.Gen Cert.RowMath
open Idealize.ShloMosaic

/-! ## The output projection and the layer normalisation -/

section
variable (X : FVec Ideal S512x1024 .f32) (G : FVec Ideal S512x2816 .f32) (w : Vec Ideal S2816x1024 .bf16) (g b : Vec Ideal S1x1024 .f32)

/-- The residual plus the output projection of the gated entries, at row `r`. -/
def res (r : Fin 512) (d : Fin 1024) : EReal :=
  Ideal.ofBits .f32 0x3F9837F0#32 * X (ix2 r d) + ∑ f : Fin 2816, G (ix2 r f) * w (ix2 f d)

/-- The call's result at row `r`. -/
def out (r : Fin 512) (d : Fin 1024) : EReal := normRow (res X G w r) (g (ix2 0 d)) (b (ix2 0 d)) d

variable (U C H : FVec Ideal S512x2816 .f32) (k : Ideal .f32)

theorem pay23_at (q : Fin 128) (d : Fin 1024) : k0_pay23 (F := Ideal) (k0_pay22 X U C H k w g b) (ix3 q 0 d)
    = out X (k0_pay17 U C H k) w g b ⟨q.val, by have := q.isLt; omega⟩ d := by
  unfold out normRow mean res
  pointwise [k0_pay23, k0_pay22, k0_pay21, k0_pay18, k0_pay19, k0_pay20]

theorem pay24_at (q : Fin 128) (d : Fin 1024) : k0_pay24 (F := Ideal) (k0_pay21 X U C H k w g b) (ix3 q 0 d)
    = out X (k0_pay17 U C H k) w g b ⟨128 + q.val, by have := q.isLt; omega⟩ d := by
  unfold out normRow mean res
  pointwise [k0_pay24, k0_pay21, k0_pay18, k0_pay19, k0_pay20]

theorem pay26_at (q : Fin 128) (d : Fin 1024) : k0_pay26 (F := Ideal) X G (k0_pay18 w) (k0_pay19 g) (k0_pay20 b) (ix3 q 0 d)
    = out X G w g b ⟨256 + q.val, by have := q.isLt; omega⟩ d := by
  unfold out normRow mean res
  pointwise [k0_pay26, k0_pay25, k0_pay18, k0_pay19, k0_pay20]

theorem pay27_at (q : Fin 128) (d : Fin 1024) : k0_pay27 (F := Ideal) X G (k0_pay18 w) (k0_pay19 g) (k0_pay20 b) (ix3 q 0 d)
    = out X G w g b ⟨384 + q.val, by have := q.isLt; omega⟩ d := by
  unfold out normRow mean res
  pointwise [k0_pay27, k0_pay25, k0_pay18, k0_pay19, k0_pay20]
  simp only [show 256 + (128 + q.val) = 384 + q.val by omega]

theorem pay17_at (r : Fin 512) (f : Fin 2816) (hH : H (ix2 r f) = Ideal.ofBits .f32 0x3F000000#32 * C (ix2 r f)) :
    k0_pay17 (F := Ideal) U C H (Scalar.ofBits .f32 0x3F3504F3#32) (ix2 r f) = gelu (C (ix2 r f)) (U (ix2 r f)) := by
  unfold gelu
  rw [← hH]
  pointwise [k0_pay17]
  rfl
end

/-! ## The projections and the convolution -/

variable (x0 : Vec Ideal S512x1024 .f32) (xb : Vec Ideal S128x2x2816 .f32) (x1 x2 : Vec Ideal S1024x2816 .bf16) (x3 : Vec Ideal S3x2816 .f32)
  (x4 : Vec Ideal S1x2816 .f32)

/-- Entry (`r`, `f`) of the product of the tokens with a projection matrix. -/
def proj (w : Vec Ideal S1024x2816 .bf16) (r : Fin 512) (f : Fin 2816) : EReal := ∑ k : Fin 1024, x0 (ix2 r k) * w (ix2 k f)

theorem pay3_at (r : Fin 512) (k : Fin 1024) : k0_pay3 (F := Ideal) x0 (ix2 r k) = x0 (ix2 r k) := by
  pointwise [k0_pay3]

theorem pay6_at (r : Fin 512) (f : Fin 2816) : k0_pay6 (F := Ideal) x0 x2 (ix2 r f) = proj x0 x2 r f := by
  pointwise [k0_pay6, k0_pay4, k0_pay3, proj]

theorem pay8_at (q : Fin 128) (f : Fin 2816) : k0_pay8 (F := Ideal) x0 x1 (ix2 q f) = proj x0 x1 ⟨q.val, by have := q.isLt; omega⟩ f := by
  pointwise [k0_pay8, k0_pay5, k0_pay4, k0_pay3, proj]

theorem pay9_at (q : Fin 128) (f : Fin 2816) : k0_pay9 (F := Ideal) x0 x1 (ix2 q f) = proj x0 x1 ⟨128 + q.val, by have := q.isLt; omega⟩ f := by
  pointwise [k0_pay9, k0_pay5, k0_pay4, k0_pay3, proj]

theorem pay10_at (q : Fin 128) (f : Fin 2816) : k0_pay10 (F := Ideal) x0 x1 (ix2 q f) = proj x0 x1 ⟨256 + q.val, by have := q.isLt; omega⟩ f := by
  pointwise [k0_pay10, k0_pay5, k0_pay4, k0_pay3, proj]

theorem pay11_at (q : Fin 128) (f : Fin 2816) : k0_pay11 (F := Ideal) x0 x1 (ix2 q f) = proj x0 x1 ⟨384 + q.val, by have := q.isLt; omega⟩ f := by
  pointwise [k0_pay11, k0_pay5, k0_pay4, k0_pay3, proj]

section
variable (b0 b1 : Vec Ideal S128x1x2816 .f32) (v13 v14 v15 v16 v34 : FVec Ideal S128x2816 .f32) (q : Fin 128) (f : Fin 2816)

theorem conv_assoc (bias w2 w1 w0 a2 a1 a0 : EReal) : bias + (a2 * w2 + a1 * w1 + a0 * w0) = conv bias w2 w1 w0 a2 a1 a0 := by
  simp only [conv, add_assoc]

theorem pay12_at : k0_pay12 (F := Ideal) x0 x1 b0 b1 x3 x4 (ix2 q f)
    = conv (x4 (ix2 0 f)) (x3 (ix2 0 f)) (x3 (ix2 1 f)) (x3 (ix2 2 f)) (b0 (ix3 q 0 f)) (b1 (ix3 q 0 f)) (k0_pay8 (F := Ideal) x0 x1 (ix2 q f)) := by
  rw [← conv_assoc]
  pointwise [k0_pay12, k0_pay7]

theorem pay15_at0 : k0_pay15 (F := Ideal) (k0_pay7 b1) v13 v14 v15 v16 x3 v34 (k0_pay13 x4) (k0_pay14 x3) x4 x4 (ix2 ⟨q.val, by have := q.isLt; omega⟩ f)
    = v34 (ix2 q f) := by
  have := q.isLt
  pointwise [k0_pay15]

theorem pay15_at1 : k0_pay15 (F := Ideal) (k0_pay7 b1) v13 v14 v15 v16 x3 v34 (k0_pay13 x4) (k0_pay14 x3) x4 x4 (ix2 ⟨128 + q.val, by have := q.isLt; omega⟩ f)
    = conv (x4 (ix2 0 f)) (x3 (ix2 0 f)) (x3 (ix2 1 f)) (x3 (ix2 2 f)) (b1 (ix3 q 0 f)) (v13 (ix2 q f)) (v14 (ix2 q f)) := by
  have := q.isLt
  rw [← conv_assoc]
  pointwise [k0_pay15, k0_pay7, k0_pay13, k0_pay14]

theorem pay15_at2 : k0_pay15 (F := Ideal) (k0_pay7 b1) v13 v14 v15 v16 x3 v34 (k0_pay13 x4) (k0_pay14 x3) x4 x4 (ix2 ⟨256 + q.val, by have := q.isLt; omega⟩ f)
    = conv (x4 (ix2 0 f)) (x3 (ix2 0 f)) (x3 (ix2 1 f)) (x3 (ix2 2 f)) (v13 (ix2 q f)) (v14 (ix2 q f)) (v15 (ix2 q f)) := by
  have := q.isLt
  rw [← conv_assoc]
  pointwise [k0_pay15]
  rw [dif_neg (by omega), dif_neg (by omega), dif_pos (by omega)]
  simp only [show 256 + q.val - 128 - 128 = q.val by omega]

theorem pay15_at3 : k0_pay15 (F := Ideal) (k0_pay7 b1) v13 v14 v15 v16 x3 v34 (k0_pay13 x4) (k0_pay14 x3) x4 x4 (ix2 ⟨384 + q.val, by have := q.isLt; omega⟩ f)
    = conv (x4 (ix2 0 f)) (x3 (ix2 0 f)) (x3 (ix2 1 f)) (x3 (ix2 2 f)) (v14 (ix2 q f)) (v15 (ix2 q f)) (v16 (ix2 q f)) := by
  have := q.isLt
  rw [← conv_assoc]
  pointwise [k0_pay15]
  rw [dif_neg (by omega), dif_neg (by omega), dif_neg (by omega)]
  simp only [show 384 + q.val - 128 - 128 - 128 = q.val by omega]
end

theorem pay16_at (v12 v13 v14 v15 v16 v34 : FVec Ideal S128x2816 .f32) (v36 v37 : FVec Ideal S1x2816 .f32) (v52 v69 : Vec Ideal S1x2816 .f32)
    (r : Fin 512) (f : Fin 2816) : k0_pay16 (F := Ideal) v12 v13 v14 v15 v16 x3 v34 v36 v37 v52 v69 (ix2 r f)
      = Ideal.ofBits .f32 0x3F000000#32 * k0_pay15 (F := Ideal) v12 v13 v14 v15 v16 x3 v34 v36 v37 v52 v69 (ix2 r f) := by
  pointwise [k0_pay16]

theorem pay1_at (v : FVec Ideal S128x2816 .f32) (q : Fin 128) (f : Fin 2816) : k0_pay1 (F := Ideal) v (ix3 q 0 f) = v (ix2 q f) := by
  pointwise [k0_pay1]

theorem pay2_at (v : FVec Ideal S128x2816 .f32) (q : Fin 128) (f : Fin 2816) : k0_pay2 (F := Ideal) v (ix3 q 0 f) = v (ix2 q f) := by
  pointwise [k0_pay2]

end Cert.FfnSampleIdeal.Rows
-- ==== Proof.SampleTarget.lean ====
/- The feed-forward branch on the sampled tokens over whole arrays, and the call's two written buffers as that branch: at
   token `t` of sequence `b` the result and, for the last two tokens, the new convolution buffer. -/
module

public import proofs.«01_k».proof.Proof.SampleRows

@[expose] public section

set_option maxRecDepth 65536

noncomputable section

namespace Cert.FfnSampleIdeal.Target

open Cert.FfnSampleIdeal Cert.FfnSampleIdeal.Gen Cert.RowMath
open Idealize.ShloMosaic

section
variable (h : Vec Ideal S4x128x1024 .f32) (buf : Vec Ideal S128x2x2816 .f32) (wg wu : Vec Ideal S1024x2816 .f32) (cw : Vec Ideal S3x2816 .f32)
  (cb : Vec Ideal S2816 .f32) (wd : Vec Ideal S2816x1024 .f32) (g b : Vec Ideal S1024 .f32)

/-- Entry `f` of the product of token `t` of sequence `q` with a projection matrix. -/
def proj (w : Vec Ideal S1024x2816 .f32) (q : Fin 128) (t : Fin 4) (f : Fin 2816) : EReal := ∑ k : Fin 1024, h (ix3 t q k) * w (ix2 k f)

/-- Row `j` of the two buffered rows followed by the sequence's gate projection. -/
def row (q : Fin 128) (j : ℕ) (f : Fin 2816) : EReal :=
  if h2 : j < 2 then buf (ix3 q ⟨j, h2⟩ f) else if h4 : j - 2 < 4 then proj h wg q ⟨j - 2, h4⟩ f else 0

def cv (q : Fin 128) (t : Fin 4) (f : Fin 2816) : EReal :=
  conv (cb (ix1 f)) (cw (ix2 0 f)) (cw (ix2 1 f)) (cw (ix2 2 f)) (row h buf wg q t.val f) (row h buf wg q (t.val + 1) f) (row h buf wg q (t.val + 2) f)

def res (q : Fin 128) (t : Fin 4) (d : Fin 1024) : EReal :=
  Ideal.ofBits .f32 0x3F9837F0#32 * h (ix3 t q d) + ∑ f : Fin 2816, gelu (cv h buf wg cw cb q t f) (proj h wu q t f) * wd (ix2 f d)

/-- The layer's result at token `t` of sequence `q`. -/
def out (q : Fin 128) (t : Fin 4) (d : Fin 1024) : EReal := normRow (res h buf wg wu cw cb wd q t) (g (ix1 d)) (b (ix1 d)) d

/-- The gate projection of the sequence's last two tokens. -/
def last (q : Fin 128) (i : Fin 2) (f : Fin 2816) : EReal := proj h wg q ⟨2 + i.val, by have := i.isLt; omega⟩ f

/-- Both as arrays. -/
def outArray : Vec Ideal S128x4x1024 .f32 := fun i =>
  out h buf wg wu cw cb wd g b ⟨(i 0).val, (i 0).isLt⟩ ⟨(i 1).val, (i 1).isLt⟩ ⟨(i 2).val, (i 2).isLt⟩
@[inherit_doc outArray] def lastArray : Vec Ideal S128x2x2816 .f32 := fun i =>
  last h wg ⟨(i 0).val, (i 0).isLt⟩ ⟨(i 1).val, (i 1).isLt⟩ ⟨(i 2).val, (i 2).isLt⟩
end

/-- The row of token `t` of sequence `q`. -/
def tok (t : Fin 4) (q : Fin 128) : Fin 512 := ⟨128 * t.val + q.val, by omega⟩

theorem hz2 : (![0, 0] : Fin 2 → ℕ) = fun _ => 0 := funext fun a => by fin_cases a <;> rfl

/-! ## The loads of whole buffers -/

theorem ld_tokens (y : Vec Ideal S512x1024 .f32) : View.ld y r0_0 = y := View.ld_unit_zero (S := S512x1024) hz2 _ y
theorem ld_in (y : Vec Ideal S1024x2816 .bf16) : View.ld y r0_1 = y := View.ld_unit_zero (S := S1024x2816) hz2 _ y
theorem ld_taps (y : Vec Ideal S3x2816 .f32) : View.ld y r0_4 = y := View.ld_unit_zero (S := S3x2816) hz2 _ y
theorem ld_bias (y : Vec Ideal S1x2816 .f32) : View.ld y r0_5 = y := View.ld_unit_zero (S := S1x2816) hz2 _ y
theorem ld_down (y : Vec Ideal S2816x1024 .bf16) : View.ld y r0_6 = y := View.ld_unit_zero (S := S2816x1024) hz2 _ y
theorem ld_norm (y : Vec Ideal S1x1024 .f32) : View.ld y r0_7 = y := View.ld_unit_zero (S := S1x1024) hz2 _ y

variable {h : Vec Ideal S4x128x1024 .f32} {buf : Vec Ideal S128x2x2816 .f32} {wg wu : Vec Ideal S1024x2816 .f32} {cw : Vec Ideal S3x2816 .f32}
  {cb : Vec Ideal S2816 .f32} {wd : Vec Ideal S2816x1024 .f32} {g b : Vec Ideal S1024 .f32}
variable {y0 : Vec Ideal S512x1024 .f32} {y1 : Vec Ideal S128x2x2816 .f32} {y2 y3 : Vec Ideal S1024x2816 .bf16} {y4 : Vec Ideal S3x2816 .f32}
  {y5 : Vec Ideal S1x2816 .f32} {y6 : Vec Ideal S2816x1024 .bf16} {y7 y8 : Vec Ideal S1x1024 .f32}

theorem proj_of_block {w : Vec Ideal S1024x2816 .f32} {y : Vec Ideal S1024x2816 .bf16}
    (h0 : ∀ (t : Fin 4) (q : Fin 128) (k : Fin 1024), y0 (ix2 (tok t q) k) = h (ix3 t q k))
    (hw : ∀ (k : Fin 1024) (f : Fin 2816), y (ix2 k f) = w (ix2 k f)) (t : Fin 4) (q : Fin 128) (f : Fin 2816) (r : Fin 512) (hr : r = tok t q) :
    Rows.proj y0 y r f = proj h w q t f := by
  subst hr
  exact Finset.sum_congr rfl fun k _ => by rw [h0, hw]

theorem ld_slot0 (q : Fin 128) (f : Fin 2816) : View.ld y1 r0_2 (ix3 q 0 f) = y1 (ix3 q 0 f) :=
  congrArg y1 (funext fun a => Fin.ext (by
    fin_cases a
    · exact (show 0 + 1 * q.val = q.val by omega)
    · rfl
    · exact (show 0 + 1 * f.val = f.val by omega)))

theorem ld_slot1 (q : Fin 128) (f : Fin 2816) : View.ld y1 r0_3 (ix3 q 0 f) = y1 (ix3 q 1 f) :=
  congrArg y1 (funext fun a => Fin.ext (by
    fin_cases a
    · exact (show 0 + 1 * q.val = q.val by omega)
    · rfl
    · exact (show 0 + 1 * f.val = f.val by omega)))

section
variable (h0 : ∀ (t : Fin 4) (q : Fin 128) (k : Fin 1024), y0 (ix2 (tok t q) k) = h (ix3 t q k))
  (h1 : y1 = buf)
  (h2 : ∀ (k : Fin 1024) (f : Fin 2816), y2 (ix2 k f) = wg (ix2 k f))
  (h3 : ∀ (k : Fin 1024) (f : Fin 2816), y3 (ix2 k f) = wu (ix2 k f))
  (h4 : ∀ (k : Fin 3) (f : Fin 2816), y4 (ix2 k f) = cw (ix2 k f))
  (h5 : ∀ f : Fin 2816, y5 (ix2 0 f) = cb (ix1 f))
  (h6 : ∀ (f : Fin 2816) (d : Fin 1024), y6 (ix2 f d) = wd (ix2 f d))
  (h7 : ∀ d : Fin 1024, y7 (ix2 0 d) = g (ix1 d)) (h8 : ∀ d : Fin 1024, y8 (ix2 0 d) = b (ix1 d))
include h0 h1 h2 h4 h5

theorem cv_at (t : Fin 4) (q : Fin 128) (f : Fin 2816) :
    k0_pay38 (F := Ideal) y0 y1 y2 y3 y4 y5 y6 y7 y8 (ix2 (tok t q) f) = cv h buf wg cw cb q t f := by
  unfold k0_pay38 k0_pay37 k0_pay36 k0_pay35 k0_pay34 k0_pay33 k0_pay32 k0_pay31 k0_pay30
  simp only [ld_tokens, ld_in, ld_taps, ld_bias]
  have hb : ∀ (i : Fin 2), row h buf wg q i.val f = buf (ix3 q i f) := fun i => by
    unfold row
    rw [dif_pos i.isLt]
  have hp : ∀ (i : Fin 4), row h buf wg q (i.val + 2) f = proj h wg q i f := fun i => by
    unfold row
    rw [dif_neg (by omega), dif_pos (show i.val + 2 - 2 < 4 by omega)]
    rfl
  unfold cv
  obtain rfl | rfl | rfl | rfl : t = 0 ∨ t = 1 ∨ t = 2 ∨ t = 3 := by omega
  · rw [show tok 0 q = ⟨q.val, by have := q.isLt; omega⟩ from Fin.ext (show 128 * 0 + q.val = q.val by omega), Rows.pay15_at0, Rows.pay12_at,
      Rows.pay8_at, proj_of_block h0 h2 0 q f _ (Fin.ext (show q.val = 128 * 0 + q.val by omega)), ld_slot0, ld_slot1, h1, h4, h4, h4, h5, ← hb, ← hb, ← hp]
    rfl
  · rw [show tok 1 q = ⟨128 + q.val, by have := q.isLt; omega⟩ from rfl, Rows.pay15_at1,
      Rows.pay8_at, Rows.pay9_at, proj_of_block h0 h2 0 q f _ (Fin.ext (show q.val = 128 * 0 + q.val by omega)), proj_of_block h0 h2 1 q f ⟨128 + q.val, by have := q.isLt; omega⟩ rfl,
      ld_slot1, h1, h4, h4, h4, h5, ← hb, ← hp, ← hp]
    rfl
  · rw [show tok 2 q = ⟨256 + q.val, by have := q.isLt; omega⟩ from rfl, Rows.pay15_at2,
      Rows.pay8_at, Rows.pay9_at, Rows.pay10_at, proj_of_block h0 h2 0 q f _ (Fin.ext (show q.val = 128 * 0 + q.val by omega)), proj_of_block h0 h2 1 q f ⟨128 + q.val, by have := q.isLt; omega⟩ rfl,
      proj_of_block h0 h2 2 q f ⟨256 + q.val, by have := q.isLt; omega⟩ rfl, h4, h4, h4, h5, ← hp, ← hp, ← hp]
    rfl
  · rw [show tok 3 q = ⟨384 + q.val, by have := q.isLt; omega⟩ from rfl, Rows.pay15_at3,
      Rows.pay9_at, Rows.pay10_at, Rows.pay11_at, proj_of_block h0 h2 1 q f ⟨128 + q.val, by have := q.isLt; omega⟩ rfl,
      proj_of_block h0 h2 2 q f ⟨256 + q.val, by have := q.isLt; omega⟩ rfl, proj_of_block h0 h2 3 q f ⟨384 + q.val, by have := q.isLt; omega⟩ rfl, h4, h4, h4, h5, ← hp, ← hp, ← hp]
    rfl

include h3

theorem gated_at (t : Fin 4) (q : Fin 128) (f : Fin 2816) :
    k0_pay40 (F := Ideal) y0 y1 y2 y3 y4 y5 y6 y7 y8 (ix2 (tok t q) f) = gelu (cv h buf wg cw cb q t f) (proj h wu q t f) := by
  unfold k0_pay40
  rw [Rows.pay17_at _ _ _ _ _ (by unfold k0_pay39 k0_pay38; exact Rows.pay16_at _ _ _ _ _ _ _ _ _ _ _ _ _), cv_at h0 h1 h2 h4 h5]
  refine congrArg _ ?_
  unfold k0_pay29
  simp only [ld_tokens, ld_in]
  rw [Rows.pay6_at, proj_of_block h0 h3 t q f _ rfl]

include h6 h7 h8

theorem out_at (t : Fin 4) (q : Fin 128) (d : Fin 1024) (r : Fin 512) (hr : r = tok t q) :
    Rows.out (k0_pay28 (F := Ideal) y0 y1 y2 y3 y4 y5 y6 y7 y8) (k0_pay40 (F := Ideal) y0 y1 y2 y3 y4 y5 y6 y7 y8) y6 y7 y8 r d
      = out h buf wg wu cw cb wd g b q t d := by
  subst hr
  have hres : Rows.res (k0_pay28 (F := Ideal) y0 y1 y2 y3 y4 y5 y6 y7 y8) (k0_pay40 (F := Ideal) y0 y1 y2 y3 y4 y5 y6 y7 y8) y6 (tok t q)
      = res h buf wg wu cw cb wd q t := funext fun d => by
    unfold Rows.res res k0_pay28
    simp only [ld_tokens]
    rw [Rows.pay3_at, h0]
    refine congrArg _ (Finset.sum_congr rfl fun f _ => ?_)
    rw [gated_at h0 h1 h2 h3 h4 h5, h6]
  unfold Rows.out out
  rw [hres, h7, h8]

omit h0 h1 h2 h3 h4 h5 h6 h7 h8 in
/-- The index of a stored token's entry in the buffer. -/
theorem emb_slot {n w : ℕ} (o : ℕ) (ho : o < n) (inb : ∀ a, (![0, o, 0] : Fin 3 → ℕ) a + (![128, 1, w] : Fin 3 → ℕ) a ≤ (![128, n, w] : Fin 3 → ℕ) a)
    (x : Shape.Idx ⟨3, ![128, 1, w]⟩) :
    ((Rect.unit (s := ⟨3, ![128, n, w]⟩) ![0, o, 0] ![128, 1, w] inb).emb x : Shape.Idx ⟨3, ![128, n, w]⟩)
      = ix3 ⟨(x 0).val, (x 0).isLt⟩ ⟨o, ho⟩ ⟨(x 2).val, (x 2).isLt⟩ :=
  funext fun a => Fin.ext (by
    have b1 : (x 1).val < 1 := (x 1).isLt
    fin_cases a
    · exact (show 0 + 1 * (x 0).val = (x 0).val by omega)
    · exact (show o + 1 * (x 1).val = o by omega)
    · exact (show 0 + 1 * (x 2).val = (x 2).val by omega))

omit h0 h1 h2 h3 h4 h5 h6 h7 h8 in
theorem idx_slot {w : ℕ} (x : Shape.Idx ⟨3, ![128, 1, w]⟩) : x = ix3 ⟨(x 0).val, (x 0).isLt⟩ 0 ⟨(x 2).val, (x 2).isLt⟩ :=
  funext fun a => Fin.ext (by
    have b1 : (x 1).val < 1 := (x 1).isLt
    fin_cases a
    · rfl
    · exact (show (x 1).val = 0 by omega)
    · rfl)

/-- The result buffer. -/
theorem out9_eq : out0_9 (F := Ideal) y0 y1 y2 y3 y4 y5 y6 y7 y8 = outArray h buf wg wu cw cb wd g b := by
  funext y
  unfold out0_9
  simp only [ld_down, ld_norm]
  refine View.canon_apply_of_pieces _ _ (fun p hp x => ?_) y (cover0_9 _ _ _ _ y)
  simp only [List.mem_cons, List.mem_nil_iff, or_false] at hp
  rcases hp with rfl | rfl | rfl | rfl
  · refine (congrArg _ (idx_slot x)).trans (Eq.trans ?_ (congrArg _ (emb_slot (n := 4) 3 (by omega) inb_S128x4x1024_S128x1x1024_0_3_0 x).symm))
    unfold k0_pay41 k0_pay42 k0_pay43
    simp only [ld_down, ld_norm]
    exact (Rows.pay27_at _ _ _ _ _ _ _).trans (out_at h0 h1 h2 h3 h4 h5 h6 h7 h8 3 _ _ _ rfl)
  · refine (congrArg _ (idx_slot x)).trans (Eq.trans ?_ (congrArg _ (emb_slot (n := 4) 2 (by omega) inb_S128x4x1024_S128x1x1024_0_2_0 x).symm))
    unfold k0_pay41 k0_pay42 k0_pay43
    simp only [ld_down, ld_norm]
    exact (Rows.pay26_at _ _ _ _ _ _ _).trans (out_at h0 h1 h2 h3 h4 h5 h6 h7 h8 2 _ _ _ rfl)
  · refine (congrArg _ (idx_slot x)).trans (Eq.trans ?_ (congrArg _ (emb_slot (n := 4) 1 (by omega) inb_S128x4x1024_S128x1x1024_0_1_0 x).symm))
    exact (Rows.pay24_at _ _ _ _ _ _ _ _ _ _).trans (out_at h0 h1 h2 h3 h4 h5 h6 h7 h8 1 _ _ _ rfl)
  · refine (congrArg _ (idx_slot x)).trans (Eq.trans ?_ (congrArg _ (emb_slot (n := 4) 0 (by omega) inb_S128x4x1024_S128x1x1024_0_0_0 x).symm))
    exact (Rows.pay23_at _ _ _ _ _ _ _ _ _ _).trans (out_at h0 h1 h2 h3 h4 h5 h6 h7 h8 0 _ _ _ (Fin.ext (by show (x 0).val = 128 * 0 + (x 0).val; omega)))

omit h1 h3 h4 h5 h6 h7 h8 in
/-- The new convolution buffer. -/
theorem out10_eq : out0_10 (F := Ideal) y0 y1 y2 y3 y4 y5 y6 y7 y8 = lastArray h wg := by
  funext y
  unfold out0_10 k0_pay34 k0_pay33
  simp only [ld_tokens, ld_in]
  refine View.canon_apply_of_pieces _ _ (fun p hp x => ?_) y (cover0_10 _ _ y)
  simp only [List.mem_cons, List.mem_nil_iff, or_false] at hp
  rcases hp with rfl | rfl
  · refine (congrArg _ (idx_slot x)).trans (Eq.trans ?_ (congrArg _ (emb_slot (n := 2) 1 (by omega) inb_S128x2x2816_S128x1x2816_0_1_0 x).symm))
    exact (Rows.pay2_at _ _ _).trans ((Rows.pay11_at _ _ _ _).trans (proj_of_block h0 h2 3 _ _ _ rfl))
  · refine (congrArg _ (idx_slot x)).trans (Eq.trans ?_ (congrArg _ (emb_slot (n := 2) 0 (by omega) inb_S128x2x2816_S128x1x2816_0_0_0 x).symm))
    exact (Rows.pay1_at _ _ _).trans ((Rows.pay10_at _ _ _ _).trans (proj_of_block h0 h2 2 _ _ _ rfl))
end

end Cert.FfnSampleIdeal.Target
-- ==== Proof.SampleValue.lean ====
/- The sampled tokens' feed-forward call: its one grid point reads whole arrays, so the two arrays it leaves are the branch
   (`SampleTarget`) of the call's arguments; the reference read entry by entry is the same branch. -/
module

public import proofs.«01_k».proof.Proof.Gen.FfnSampleReferenceIdeal.Run
public import proofs.«01_k».proof.Proof.SampleTarget
public import proofs.«01_k».proof.Defs

@[expose] public section

set_option maxRecDepth 65536

noncomputable section

namespace Cert.FfnSampleIdeal.Value

open Cert.FfnSampleIdeal Cert.FfnSampleIdeal.Gen Cert.RowMath
open Idealize.ShloMosaic Idealize.ShloMosaic.TcCoe Idealize.SL.Sem
open Idealize.ShloMosaic.Pipeline (Dat)

variable (m : (ℓ : Loc nD τ sig) → Buf (Elt Ideal) ℓ) (c : Dev nD)

/-! ## The arrays as the region finds them -/

theorem V_v0 : V m c main_v0 = fun i => (m ((c : Thread nD τ).loc main_arg2) : Vec Ideal S1024x2816 .f32) i := by
  show StableHlo.after hostOps0 (fun b => m (c, b)) _ = _
  after_results_simp
  rfl
theorem V_v1 : V m c main_v1 = fun i => (m ((c : Thread nD τ).loc main_arg3) : Vec Ideal S1024x2816 .f32) i := by
  show StableHlo.after hostOps0 (fun b => m (c, b)) _ = _
  after_results_simp
  rfl
theorem V_v2 : V m c main_v2 = fun i => (m ((c : Thread nD τ).loc main_arg6) : Vec Ideal S2816x1024 .f32) i := by
  show StableHlo.after hostOps0 (fun b => m (c, b)) _ = _
  after_results_simp
  rfl
theorem V_v3 (f : Fin 2816) : (V m c main_v3 : Vec Ideal S1x2816 .f32) (ix2 0 f) = (m ((c : Thread nD τ).loc main_arg5) : Vec Ideal S2816 .f32) (ix1 f) := by
  have e : (V m c main_v3 : Vec Ideal S1x2816 .f32) = shapeCast S1x2816 (m ((c : Thread nD τ).loc main_arg5) : Vec Ideal S2816 .f32) shapeCasts_S2816_S1x2816 := by
    show StableHlo.after hostOps0 (fun b => m (c, b)) _ = _
    after_results_simp
    rfl
  rw [e]
  pointwise []
theorem V_v4 (f : Fin 1024) : (V m c main_v4 : Vec Ideal S1x1024 .f32) (ix2 0 f) = (m ((c : Thread nD τ).loc main_arg7) : Vec Ideal S1024 .f32) (ix1 f) := by
  have e : (V m c main_v4 : Vec Ideal S1x1024 .f32) = shapeCast S1x1024 (m ((c : Thread nD τ).loc main_arg7) : Vec Ideal S1024 .f32) shapeCasts_S1024_S1x1024 := by
    show StableHlo.after hostOps0 (fun b => m (c, b)) _ = _
    after_results_simp
    rfl
  rw [e]
  pointwise []
theorem V_v5 (f : Fin 1024) : (V m c main_v5 : Vec Ideal S1x1024 .f32) (ix2 0 f) = (m ((c : Thread nD τ).loc main_arg8) : Vec Ideal S1024 .f32) (ix1 f) := by
  have e : (V m c main_v5 : Vec Ideal S1x1024 .f32) = shapeCast S1x1024 (m ((c : Thread nD τ).loc main_arg8) : Vec Ideal S1024 .f32) shapeCasts_S1024_S1x1024 := by
    show StableHlo.after hostOps0 (fun b => m (c, b)) _ = _
    after_results_simp
    rfl
  rw [e]
  pointwise []
theorem flat_at (x : Vec Ideal S4x128x1024 .f32) (t : Fin 4) (q : Fin 128) (k : Fin 1024) :
    (shapeCast S512x1024 x shapeCasts_S4x128x1024_S512x1024 : Vec Ideal S512x1024 .f32) (ix2 (Target.tok t q) k) = x (ix3 t q k) := by
  have ht := t.isLt
  have hq := q.isLt
  have hv : (Target.tok t q).val = 128 * t.val + q.val := rfl
  generalize Target.tok t q = r at hv
  pointwise []
  exact congrArg x (congrArg₂ (fun (a : Fin 4) (b : Fin 128) => ix3 a b k) (Fin.ext (show r.val / 128 = t.val by omega)) (Fin.ext (show r.val % 128 = q.val by omega)))
theorem V_v6 (t : Fin 4) (q : Fin 128) (k : Fin 1024) :
    (V m c main_v6 : Vec Ideal S512x1024 .f32) (ix2 (Target.tok t q) k) = (m ((c : Thread nD τ).loc main_arg0) : Vec Ideal S4x128x1024 .f32) (ix3 t q k) := by
  have e : (V m c main_v6 : Vec Ideal S512x1024 .f32) = shapeCast S512x1024 (m ((c : Thread nD τ).loc main_arg0) : Vec Ideal S4x128x1024 .f32) shapeCasts_S4x128x1024_S512x1024 := by
    show StableHlo.after hostOps0 (fun b => m (c, b)) _ = _
    after_results_simp
    rfl
  rw [e]
  exact flat_at _ t q k

/-! ## The blocks read -/

theorem index_whole : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0, 0] ∧ win0_10.index t = ![0, 0, 0] :=
  (by decide +kernel : ∀ t : Fin grid0.N, _)

theorem emb_two {a b : ℕ} (e : Fin 2 → ℕ) (he : e = ![0, 0]) (i : Fin a) (j : Fin b) (z : Shape.Idx ⟨2, ![a, b]⟩)
    (h0 : (z 0).val = e 0 * a + 1 * i.val) (h1 : (z 1).val = e 1 * b + 1 * j.val) : z = ix2 i j := by
  subst he
  refine funext fun x => Fin.ext ?_
  fin_cases x
  · exact h0.trans (show 0 * a + 1 * i.val = i.val by omega)
  · exact h1.trans (show 0 * b + 1 * j.val = j.val by omega)

theorem emb_three {S : Shape} (e : Fin S.rank → ℕ) (he : ∀ a, e a = 0) (z y : S.Idx)
    (h : ∀ a, (z a).val = e a * S.size a + 1 * (y a).val) : z = y :=
  funext fun a => Fin.ext (by rw [h a, he a]; omega)

variable (t : Fin cfg0.N)

theorem blk0 (s : Fin 4) (q : Fin 128) (k : Fin 1024) :
    iblk m c 0 t (ix2 (Target.tok s q) k) = (m ((c : Thread nD τ).loc main_arg0) : Vec Ideal S4x128x1024 .f32) (ix3 s q k) := by
  refine Eq.trans ?_ (V_v6 m c s q k)
  exact congrArg (V m c main_v6) (emb_two _ (index_whole t).1 (Target.tok s q) k (((cfg0.win 0).blk t).view.emb (ix2 (Target.tok s q) k)) rfl rfl)

theorem zero_three : ∀ a, (![0, 0, 0] : Fin 3 → ℕ) a = 0 := fun a => by fin_cases a <;> rfl

theorem blk1 : iblk m c 1 t = (m ((c : Thread nD τ).loc main_arg1) : Vec Ideal S128x2x2816 .f32) := by
  funext y
  show V m c main_arg1 (((cfg0.win 1).blk t).view.emb y) = _
  rw [V_main_arg1]
  exact congrArg _ (emb_three (S := S128x2x2816) _ (fun a => (congrFun (index_whole t).2.1 a).trans (zero_three a)) _ y fun a => rfl)

theorem blk2 (k : Fin 1024) (f : Fin 2816) : iblk m c 2 t (ix2 k f) = (m ((c : Thread nD τ).loc main_arg2) : Vec Ideal S1024x2816 .f32) (ix2 k f) := by
  show V m c main_v0 (((cfg0.win 2).blk t).view.emb (ix2 k f)) = _
  rw [V_v0]
  exact congrArg _ (emb_two _ (index_whole t).2.2.1 k f _ rfl rfl)
theorem blk3 (k : Fin 1024) (f : Fin 2816) : iblk m c 3 t (ix2 k f) = (m ((c : Thread nD τ).loc main_arg3) : Vec Ideal S1024x2816 .f32) (ix2 k f) := by
  show V m c main_v1 (((cfg0.win 3).blk t).view.emb (ix2 k f)) = _
  rw [V_v1]
  exact congrArg _ (emb_two _ (index_whole t).2.2.2.1 k f _ rfl rfl)
theorem blk4 (k : Fin 3) (f : Fin 2816) : iblk m c 4 t (ix2 k f) = (m ((c : Thread nD τ).loc main_arg4) : Vec Ideal S3x2816 .f32) (ix2 k f) := by
  show V m c main_arg4 (((cfg0.win 4).blk t).view.emb (ix2 k f)) = _
  rw [V_main_arg4]
  exact congrArg _ (emb_two _ (index_whole t).2.2.2.2.1 k f _ rfl rfl)
theorem blk5 (f : Fin 2816) : iblk m c 5 t (ix2 0 f) = (m ((c : Thread nD τ).loc main_arg5) : Vec Ideal S2816 .f32) (ix1 f) := by
  refine Eq.trans ?_ (V_v3 m c f)
  exact congrArg (V m c main_v3) (emb_two _ (index_whole t).2.2.2.2.2.1 0 f (((cfg0.win 5).blk t).view.emb (ix2 0 f)) rfl rfl)
theorem blk6 (f : Fin 2816) (d : Fin 1024) : iblk m c 6 t (ix2 f d) = (m ((c : Thread nD τ).loc main_arg6) : Vec Ideal S2816x1024 .f32) (ix2 f d) := by
  show V m c main_v2 (((cfg0.win 6).blk t).view.emb (ix2 f d)) = _
  rw [V_v2]
  exact congrArg _ (emb_two _ (index_whole t).2.2.2.2.2.2.1 f d _ rfl rfl)
theorem blk7 (d : Fin 1024) : iblk m c 7 t (ix2 0 d) = (m ((c : Thread nD τ).loc main_arg7) : Vec Ideal S1024 .f32) (ix1 d) := by
  refine Eq.trans ?_ (V_v4 m c d)
  exact congrArg (V m c main_v4) (emb_two _ (index_whole t).2.2.2.2.2.2.2.1 0 d (((cfg0.win 7).blk t).view.emb (ix2 0 d)) rfl rfl)
theorem blk8 (d : Fin 1024) : iblk m c 8 t (ix2 0 d) = (m ((c : Thread nD τ).loc main_arg8) : Vec Ideal S1024 .f32) (ix1 d) := by
  refine Eq.trans ?_ (V_v5 m c d)
  exact congrArg (V m c main_v5) (emb_two _ (index_whole t).2.2.2.2.2.2.2.2.1 0 d (((cfg0.win 8).blk t).view.emb (ix2 0 d)) rfl rfl)

/-! ## The arrays written -/

/-- The branch of the call's arguments. -/
abbrev Y : Vec Ideal S128x4x1024 .f32 :=
  Target.outArray (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8))
@[inherit_doc Y] abbrev L : Vec Ideal S128x2x2816 .f32 := Target.lastArray (m ((c : Thread nD τ).loc main_arg0)) (m ((c : Thread nD τ).loc main_arg2))

theorem N_pos : 0 < cfg0.N := by decide

theorem final9 : (dats m 0 c).arrAt 9 cfg0.N = Y m c := by
  refine (dats m 0 c).arrAt_eq_of_cover 9 _ (fun t _ => ?_) (fun i => ⟨⟨0, N_pos⟩, flush0_9 _, ?_⟩)
  · show (cfg0.win 9).cut (grid0.coords t) ((dats m 0 c).after 9 t) = _
    rw [after0_9, Target.out9_eq (blk0 m c t) (blk1 m c t) (blk2 m c t) (blk3 m c t) (blk4 m c t) (blk5 m c t) (blk6 m c t) (blk7 m c t) (blk8 m c t)]
    funext y
    exact congrArg (Y m c) (emb_three (S := S128x4x1024) _ (fun a => (congrFun (index_whole t).2.2.2.2.2.2.2.2.2.1 a).trans (zero_three a))
      (((cfg0.win 9).blk t).view.emb y) y fun a => rfl).symm
  · show i ∈ ((View.whole main_v7_0).slice (win0_9.rect ⟨0, N_pos⟩)).set
    rw [View.set_slice_whole, Rect.mem_set_unit]
    intro a
    have e : win0_9.index ⟨0, N_pos⟩ a = 0 := (congrFun (index_whole ⟨0, N_pos⟩).2.2.2.2.2.2.2.2.2.1 a).trans (zero_three a)
    have hi : (i a).val < S128x4x1024.size a := (i a).isLt
    show win0_9.index ⟨0, N_pos⟩ a * S128x4x1024.size a ≤ (i a).val ∧ (i a).val < win0_9.index ⟨0, N_pos⟩ a * S128x4x1024.size a + S128x4x1024.size a
    rw [e]
    omega

theorem final10 : (dats m 0 c).arrAt 10 cfg0.N = L m c := by
  refine (dats m 0 c).arrAt_eq_of_cover 10 _ (fun t _ => ?_) (fun i => ⟨⟨0, N_pos⟩, flush0_10 _, ?_⟩)
  · show (cfg0.win 10).cut (grid0.coords t) ((dats m 0 c).after 10 t) = _
    rw [after0_10, Target.out10_eq (blk0 m c t) (blk2 m c t)]
    funext y
    exact congrArg (L m c) (emb_three (S := S128x2x2816) _ (fun a => (congrFun (index_whole t).2.2.2.2.2.2.2.2.2.2 a).trans (zero_three a))
      (((cfg0.win 10).blk t).view.emb y) y fun a => rfl).symm
  · show i ∈ ((View.whole main_v7_1).slice (win0_10.rect ⟨0, N_pos⟩)).set
    rw [View.set_slice_whole, Rect.mem_set_unit]
    intro a
    have e : win0_10.index ⟨0, N_pos⟩ a = 0 := (congrFun (index_whole ⟨0, N_pos⟩).2.2.2.2.2.2.2.2.2.2 a).trans (zero_three a)
    have hi : (i a).val < S128x2x2816.size a := (i a).isLt
    show win0_10.index ⟨0, N_pos⟩ a * S128x2x2816.size a ≤ (i a).val ∧ (i a).val < win0_10.index ⟨0, N_pos⟩ a * S128x2x2816.size a + S128x2x2816.size a
    rw [e]
    omega

end Cert.FfnSampleIdeal.Value

namespace Cert.FfnSampleReferenceIdeal.Rows

open Cert.FfnSampleReferenceIdeal Cert.FfnSampleReferenceIdeal.Gen Cert.FfnSampleReferenceIdeal.Value Cert.RowMath Cert.FfnSampleIdeal
open Idealize.ShloMosaic Idealize.ShloMosaic.TcCoe Idealize.SL.Sem

section
variable (h : Vec Ideal S4x128x1024 .f32) (buf : Vec Ideal S128x2x2816 .f32) (wg : Vec Ideal S1024x2816 .f32) (q : Fin 128) (t : Fin 4) (f : Fin 2816)

theorem row_zero : Target.row h buf wg q t.val f
    = if e : t.val < 2 then buf (ix3 q ⟨t.val, e⟩ f) else ∑ k : Fin 1024, h (ix3 ⟨t.val - 2, by have := t.isLt; omega⟩ q k) * wg (ix2 k f) := by
  have := t.isLt
  unfold Target.row
  by_cases e : t.val < 2
  · rw [dif_pos e, dif_pos e]
  · rw [dif_neg e, dif_neg e, dif_pos (by omega)]
    rfl

theorem row_one : Target.row h buf wg q (t.val + 1) f
    = if e : 1 + t.val < 2 then buf (ix3 q ⟨1 + t.val, e⟩ f) else ∑ k : Fin 1024, h (ix3 ⟨1 + t.val - 2, by have := t.isLt; omega⟩ q k) * wg (ix2 k f) := by
  have := t.isLt
  rw [Nat.add_comm]
  unfold Target.row
  by_cases e : 1 + t.val < 2
  · rw [dif_pos e, dif_pos e]
  · rw [dif_neg e, dif_neg e, dif_pos (by omega)]
    rfl

theorem row_two : Target.row h buf wg q (t.val + 2) f = ∑ k : Fin 1024, h (ix3 t q k) * wg (ix2 k f) := by
  unfold Target.row
  rw [dif_neg (by omega), dif_pos (by have := t.isLt; omega)]
  rfl
end

variable (m : (ℓ : Loc nD τ sig) → Buf (Elt Ideal) ℓ) (c : Dev nD)

set_option maxHeartbeats 1000000 in
theorem result_at (q : Fin 128) (t : Fin 4) (d : Fin 1024) : (res_main_v62 m c : Vec Ideal S128x4x1024 .f32) (ix3 q t d)
    = Target.out (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) q t d := by
  unfold res_main_v62
  pointwise []
  simp only [neg_mul, Ideal.erfc_neg, Target.out, normRow, mean, Target.res, gelu, Target.cv, conv, row_zero, row_one, row_two, Target.proj]

theorem last_at (q : Fin 128) (i : Fin 2) (f : Fin 2816) :
    (extractStridedSlice S128x2x2816 ![0, 4, 0] (concatenate S128x6x2816 1 [⟨S128x2x2816, (m ((c.tc : Thread nD τ).loc main_arg1))⟩, ⟨S128x4x2816, (Host.dotGeneral (F := Ideal) (φ₁ := .f32) (φ₂ := .f32) dot_S128x4x1024_S1024x2816_S128x4x2816_2_0_01_1_n_n none (transpose S128x4x1024 [1, 0, 2] (m ((c.tc : Thread nD τ).loc main_arg0)) transposes_S4x128x1024_S128x4x1024_1_0_2) (m ((c.tc : Thread nD τ).loc main_arg2)))⟩] concatenates_S128x2x2816_S128x4x2816_S128x6x2816_d1) slices_S128x6x2816_S128x2x2816_0_4_0 : Vec Ideal S128x2x2816 .f32) (ix3 q i f)
      = Target.last (m ((c.tc : Thread nD τ).loc main_arg0)) (m ((c.tc : Thread nD τ).loc main_arg2)) q i f := by
  pointwise []
  unfold Target.last Target.proj
  have hi := i.isLt
  rw [dif_neg (by omega)]
  simp only [show 4 + i.val - 2 = 2 + i.val by omega]

/-- The call and its reference, run over equal arguments, leave the same two arrays. -/
theorem algebraic : Cert.algebraic_FfnSampleIdeal_FfnSampleReferenceIdeal := by
  intro m g m' g' _ hm
  refine ⟨fun c => Cert.FfnSampleIdeal.Value.Y m c, fun c => Cert.FfnSampleIdeal.Value.L m c, ?_, ?_⟩
  · refine (θ_run Cert.FfnSampleIdeal.defs _ _).mono (fun r h c => ⟨?_, ?_, h.2 c⟩) (θ_run_and (Cert.FfnSampleIdeal.Gen.run_main m g) (Cert.FfnSampleIdeal.Gen.unchanged m g))
    · exact ((h.1 c).1 9).trans (Cert.FfnSampleIdeal.Value.final9 m c)
    · exact ((h.1 c).1 10).trans (Cert.FfnSampleIdeal.Value.final10 m c)
  · refine (θ_run Cert.FfnSampleReferenceIdeal.defs _ _).mono (fun r h c => ⟨(h c).1.trans ?_, (h c).2.1.trans ?_, (h c).2.2⟩) (FfnSampleReferenceIdeal.Value.run m' g')
    · funext i
      obtain ⟨e0, e1, e2, e3, e4, e5, e6, e7, e8⟩ := hm c
      obtain ⟨q, t, d, rfl⟩ : ∃ (q : Fin 128) (t : Fin 4) (d : Fin 1024), i = ix3 q t d :=
        ⟨⟨(i 0).val, (i 0).isLt⟩, ⟨(i 1).val, (i 1).isLt⟩, ⟨(i 2).val, (i 2).isLt⟩, funext fun a => Fin.ext (by fin_cases a <;> rfl)⟩
      refine (result_at m' c q t d).trans ?_
      rw [e0, e1, e2, e3, e4, e5, e6, e7, e8]
      rfl
    · funext i
      obtain ⟨e0, e1, e2, -⟩ := hm c
      obtain ⟨q, t, d, rfl⟩ : ∃ (q : Fin 128) (t : Fin 2) (d : Fin 2816), i = ix3 q t d :=
        ⟨⟨(i 0).val, (i 0).isLt⟩, ⟨(i 1).val, (i 1).isLt⟩, ⟨(i 2).val, (i 2).isLt⟩, funext fun a => Fin.ext (by fin_cases a <;> rfl)⟩
      refine (last_at m' c q t d).trans ?_
      rw [e0, e2]
      rfl

end Cert.FfnSampleReferenceIdeal.Rows
-- ==== Proof.lean ====
/- Four calls of the layer, three of its prompt half and the channel mixer of its sample half: each runs from any memory, leaves
   its arguments alone and its counters at zero, as printed and as read over the reals. Over the reals the mixer's pooling
   window and final states, and the results of the two feed-forward calls and of the memory projection, are those of their
   references. The frames of the first two are proved once for any reading of the floats (`MixerFrame`, `FfnFrame`), the values
   in `MixerAlgebraic`, `FfnReferenceRows`, `MemkvAlgebraic` and `SampleValue`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnReferenceIdeal
public import proofs.«01_k».proof.Proof.Gen.FfnReferenceIdeal.Run
public import proofs.«01_k».proof.Proof.Gen.ReferenceIdeal
public import proofs.«01_k».proof.Proof.Gen.ReferenceIdeal.Run
public import proofs.«01_k».proof.Proof.Gen.Memkv
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvReferenceIdeal
public import proofs.«01_k».proof.Proof.Gen.MemkvReferenceIdeal.Run
public import proofs.«01_k».proof.Proof.Gen.FfnSample
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleReferenceIdeal
public import proofs.«01_k».proof.Proof.Gen.FfnSampleReferenceIdeal.Run
public import proofs.«01_k».proof.Proof.Gen.Pre_finite_inputs
public import proofs.«01_k».proof.Proof.MixerFrame
public import proofs.«01_k».proof.Proof.MixerAlgebraic
public import proofs.«01_k».proof.Proof.FfnReferenceRows
public import proofs.«01_k».proof.Proof.MemkvAlgebraic
public import proofs.«01_k».proof.Proof.SampleValue
public import Idealize.ShloMosaic.Adequacy
public import Idealize.ShloMosaic.Init

@[expose] public section

noncomputable section

namespace Cert.Proof

open Idealize.ShloMosaic Idealize.SL.Sem Cert.Kernel

/-! ## The frames, from the one run of each call -/

theorem frame_kernelIdeal : Cert.quiescent_KernelIdeal := fun m g _ => Cert.KernelIdeal.Mix.frame (F := Ideal) m g

theorem frame_kernel : Cert.quiescent_Kernel := fun m g _ => by
  refine Eq.mp ?_ (Cert.KernelIdeal.Mix.frame (F := Bits) m g)
  sl_kernel_rfl

theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

theorem frame_ffnIdeal : Cert.quiescent_FfnIdeal := fun m g _ => Cert.FfnIdeal.Mlp.frame (F := Ideal) m g

theorem frame_ffn : Cert.quiescent_Ffn := fun m g _ => by
  refine Eq.mp ?_ (Cert.FfnIdeal.Mlp.frame (F := Bits) m g)
  sl_kernel_rfl

theorem frame_ffnReference : Cert.quiescent_FfnReferenceIdeal := fun m g _ =>
  (θ_run Cert.FfnReferenceIdeal.defs _ _).mono (fun r h => ⟨fun c => (h c).2.2, sem_eq_zero_of_no_sems (by decide) r.2⟩)
    (Cert.FfnReferenceIdeal.Value.run m g)

theorem frame_memkvReference : Cert.quiescent_MemkvReferenceIdeal := fun m g _ =>
  (θ_run Cert.MemkvReferenceIdeal.defs _ _).mono (fun r h => ⟨fun c => (h c).2.2, sem_eq_zero_of_no_sems (by decide) r.2⟩)
    (Cert.MemkvReferenceIdeal.Value.run m g)

theorem frame_ffnSampleReference : Cert.quiescent_FfnSampleReferenceIdeal := fun m g _ =>
  (θ_run Cert.FfnSampleReferenceIdeal.defs _ _).mono (fun r h => ⟨fun c => (h c).2.2, sem_eq_zero_of_no_sems (by decide) r.2⟩)
    (Cert.FfnSampleReferenceIdeal.Value.run m g)

theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Memkv.Gen.facts, Cert.MemkvIdeal.Gen.facts, Cert.MemkvReferenceIdeal.Gen.facts,
  Cert.FfnSample.Gen.facts, Cert.FfnSampleIdeal.Gen.facts, Cert.FfnSampleReferenceIdeal.Gen.facts, Cert.Pre_finite_inputs.Gen.facts,
  frame_kernel, frame_kernelIdeal, fun m g _ => frame_kernelIdeal m g True.intro, frame_reference, fun m g _ => frame_reference m g True.intro,
  frame_ffn, frame_ffnIdeal, frame_ffnReference, fun m g _ => Cert.Memkv.Gen.frame m g, fun m g _ => Cert.MemkvIdeal.Gen.frame m g, frame_memkvReference,
  fun m g _ => Cert.FfnSample.Gen.frame m g, fun m g _ => Cert.FfnSampleIdeal.Gen.frame m g, frame_ffnSampleReference,
  trivial, Cert.KernelIdeal.Arrays.algebraic, trivial, Cert.FfnReferenceIdeal.Rows.algebraic, trivial, Cert.MemkvIdeal.Value.algebraic,
  trivial, Cert.FfnSampleReferenceIdeal.Rows.algebraic⟩

end Cert.Proof

end
